-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x512 : Shape := ⟨2, ![131072, 512]⟩
abbrev S131072x256 : Shape := ⟨2, ![131072, 256]⟩
abbrev S2x32x512 : Shape := ⟨3, ![2, 32, 512]⟩
abbrev S2x32x256 : Shape := ⟨3, ![2, 32, 256]⟩
abbrev S_ : Shape := ⟨0, ![]⟩
abbrev S512 : Shape := ⟨1, ![512]⟩
abbrev S1x32x512 : Shape := ⟨3, ![1, 32, 512]⟩
abbrev S32x512 : Shape := ⟨2, ![32, 512]⟩
abbrev S1x32x256 : Shape := ⟨3, ![1, 32, 256]⟩
abbrev S32x256 : Shape := ⟨2, ![32, 256]⟩
abbrev S16 : Shape := ⟨1, ![16]⟩
abbrev S1x1x16 : Shape := ⟨3, ![1, 1, 16]⟩

abbrev nBuf : Table → Nat
  | .hbm => 3
  | .local .scVector .vmem => 4
  | _ => 0

abbrev bufTy : (tb : Table) → Fin (nBuf tb) → BufTy
  | .hbm, ⟨0, _⟩ => ⟨S131072x512, .f32⟩
  | .hbm, ⟨1, _⟩ => ⟨S131072x256, .i32⟩
  | .hbm, ⟨2, _⟩ => ⟨S131072x512, .f32⟩
  | .local .scVector .vmem, ⟨0, _⟩ => ⟨S2x32x512, .f32⟩
  | .local .scVector .vmem, ⟨1, _⟩ => ⟨S2x32x512, .f32⟩
  | .local .scVector .vmem, ⟨2, _⟩ => ⟨S2x32x256, .i32⟩
  | .local .scVector .vmem, ⟨3, _⟩ => ⟨S512, .i32⟩
  | _, _ => ⟨S131072x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch9 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  let c0_i32_3 : BitVec 32 := 0#32
  ![v3.toNat, 0]
def k0_off1_at (r : Fin 3) : BitVec 32 :=
  if r.val < 1 then
    0#32
  else
    if r.val < 2 then
      4032#32
    else
      4064#32
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_7 : BitVec 32 := 4096#32
  let v10 : BitVec 32 := Scalar.muli v1 c4096_i32_7
  let c0_i32_8 : BitVec 32 := 0#32
  let v11 : BitVec 32 := Scalar.addi v10 c0_i32_8
  let c0_i32_12 : BitVec 32 := 0#32
  ![v11.toNat, 0]
@[reducible] def k0_t1_loop : Scf.Loop 32 :=
  let c0_i32_17 : BitVec 32 := 0#32
  let c64_i32 : BitVec 32 := 64#32
  let v18 : BitVec 32 := Scalar.addi c0_i32_17 c64_i32
  let c1_i32 : BitVec 32 := 1#32
  ⟨c0_i32_17, v18, c1_i32⟩
def k0_off3 (i : grid0.Coords) (k0_t1 : Fin k0_t1_loop.trips) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_37 : BitVec 32 := 4096#32
  let v37 : BitVec 32 := Scalar.muli v1 c4096_i32_37
  let c0_i32_17 : BitVec 32 := 0#32
  let c1_i32 : BitVec 32 := 1#32
  let arg15 : BitVec 32 := Scf.iv c0_i32_17 c1_i32 k0_t1
  let c2_i32_35 : BitVec 32 := 2#32
  let v35 : BitVec 32 := Scalar.muli arg15 c2_i32_35
  let v36 : BitVec 32 := Scalar.addi v35 c0_i32_36
  let c32_i32 : BitVec 32 := 32#32
  let v38 : BitVec 32 := Scalar.muli v36 c32_i32
  let v39 : BitVec 32 := Scalar.addi v37 v38
  let c0_i32_41 : BitVec 32 := 0#32
  ![v39.toNat, 0]
def k0_off4 (i : grid0.Coords) (k0_t1 : Fin k0_t1_loop.trips) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_45 : BitVec 32 := 4096#32
  let v46 : BitVec 32 := Scalar.muli v1 c4096_i32_45
  let c0_i32_17 : BitVec 32 := 0#32
  let c1_i32 : BitVec 32 := 1#32
  let arg15 : BitVec 32 := Scf.iv c0_i32_17 c1_i32 k0_t1
  let c2_i32_35 : BitVec 32 := 2#32
  let v35 : BitVec 32 := Scalar.muli arg15 c2_i32_35
  let v36 : BitVec 32 := Scalar.addi v35 c0_i32_36
  let c32_i32_46 : BitVec 32 := 32#32
  let v47 : BitVec 32 := Scalar.muli v36 c32_i32_46
  let v48 : BitVec 32 := Scalar.addi v46 v47
  let c0_i32_50 : BitVec 32 := 0#32
  ![v48.toNat, 0]
def k0_cond1 (k0_t1 : Fin k0_t1_loop.trips) : BitVec 1 :=
  let c0_i32_17 : BitVec 32 := 0#32
  let c1_i32 : BitVec 32 := 1#32
  let arg15 : BitVec 32 := Scf.iv c0_i32_17 c1_i32 k0_t1
  let c2_i32_35 : BitVec 32 := 2#32
  let v35 : BitVec 32 := Scalar.muli arg15 c2_i32_35
  let c0_i32_36 : BitVec 32 := 0#32
  let v36 : BitVec 32 := Scalar.addi v35 c0_i32_36
  let c1_i32_54 : BitVec 32 := 1#32
  let v55 : BitVec 32 := Scalar.addi v36 c1_i32_54
  let c128_i32 : BitVec 32 := 128#32
  let v56 : BitVec 1 := Scalar.cmpi .slt v55 c128_i32
  let v57 : BitVec 32 := Scalar.extui v56
  let c0_i32_55 : BitVec 32 := 0#32
  let v58 : BitVec 1 := Scalar.cmpi .ne v57 c0_i32_55
  v58

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_111 : BitVec 32 := 4096#32
  let v110 : BitVec 32 := Scalar.muli v1 c4096_i32_111
  let c0_i32_17 : BitVec 32 := 0#32
  let c1_i32 : BitVec 32 := 1#32
  let arg15 : BitVec 32 := Scf.iv c0_i32_17 c1_i32 k0_t1
  let c2_i32_35 : BitVec 32 := 2#32
  let v35 : BitVec 32 := Scalar.muli arg15 c2_i32_35
  let c0_i32_36 : BitVec 32 := 0#32
  let v36 : BitVec 32 := Scalar.addi v35 c0_i32_36
  let c1_i32_110 : BitVec 32 := 1#32
  let v109 : BitVec 32 := Scalar.addi v36 c1_i32_110
  let c32_i32_112 : BitVec 32 := 32#32
  let v111 : BitVec 32 := Scalar.muli v109 c32_i32_112
  let v112 : BitVec 32 := Scalar.addi v110 v111
  let c0_i32_116 : BitVec 32 := 0#32
  ![v112.toNat, 0]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_120 : BitVec 32 := 4096#32
  let v119 : BitVec 32 := Scalar.muli v1 c4096_i32_120
  let c0_i32_17 : BitVec 32 := 0#32
  let c1_i32 : BitVec 32 := 1#32
  let arg15 : BitVec 32 := Scf.iv c0_i32_17 c1_i32 k0_t1
  let c2_i32_35 : BitVec 32 := 2#32
  let v35 : BitVec 32 := Scalar.muli arg15 c2_i32_35
  let c0_i32_36 : BitVec 32 := 0#32
  let v36 : BitVec 32 := Scalar.addi v35 c0_i32_36
  let c1_i32_110 : BitVec 32 := 1#32
  let v109 : BitVec 32 := Scalar.addi v36 c1_i32_110
  let c32_i32_121 : BitVec 32 := 32#32
  let v120 : BitVec 32 := Scalar.muli v109 c32_i32_121
  let v121 : BitVec 32 := Scalar.addi v119 v120
  let c0_i32_125 : BitVec 32 := 0#32
  ![v121.toNat, 0]
def k0_cond2 (k0_t1 : Fin k0_t1_loop.trips) : BitVec 1 :=
  let c0_i32_17 : BitVec 32 := 0#32
  let c1_i32 : BitVec 32 := 1#32
  let arg15 : BitVec 32 := Scf.iv c0_i32_17 c1_i32 k0_t1
  let c2_i32_35 : BitVec 32 := 2#32
  let v35 : BitVec 32 := Scalar.muli arg15 c2_i32_35
  let c0_i32_36 : BitVec 32 := 0#32
  let v36 : BitVec 32 := Scalar.addi v35 c0_i32_36
  let c2_i32_56 : BitVec 32 := 2#32
  let v59 : BitVec 1 := Scalar.cmpi .sge v36 c2_i32_56
  let v60 : BitVec 32 := Scalar.extui v59
  let c0_i32_57 : BitVec 32 := 0#32
  let v61 : BitVec 1 := Scalar.cmpi .ne v60 c0_i32_57
  v61

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_111 : BitVec 32 := 4096#32
  let v110 : BitVec 32 := Scalar.muli v1 c4096_i32_111
  let c0_i32_17 : BitVec 32 := 0#32
  let c1_i32 : BitVec 32 := 1#32
  let arg15 : BitVec 32 := Scf.iv c0_i32_17 c1_i32 k0_t1
  let c2_i32_35 : BitVec 32 := 2#32
  let v35 : BitVec 32 := Scalar.muli arg15 c2_i32_35
  let c0_i32_36 : BitVec 32 := 0#32
  let v36 : BitVec 32 := Scalar.addi v35 c0_i32_36
  let c2_i32_110 : BitVec 32 := 2#32
  let v109 : BitVec 32 := Scalar.subi v36 c2_i32_110
  let c32_i32_112 : BitVec 32 := 32#32
  let v111 : BitVec 32 := Scalar.muli v109 c32_i32_112
  let v112 : BitVec 32 := Scalar.addi v110 v111
  let c0_i32_116 : BitVec 32 := 0#32
  ![v112.toNat, 0]
@[reducible] def k0_t2_loop : Scf.Loop 32 :=
  let c0_i32_59 : BitVec 32 := 0#32
  let c16_i32 : BitVec 32 := 16#32
  let v62 : BitVec 32 := Scalar.addi c0_i32_59 c16_i32
  let c1_i32_60 : BitVec 32 := 1#32
  ⟨c0_i32_59, v62, c1_i32_60⟩
def k0_off8 (k0_t2 : Fin k0_t2_loop.trips) : Fin 3 → Nat :=
  let c0_i32_113 : BitVec 32 := 0#32
  let v112 : Index := Scalar.indexCast c0_i32_113
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v113 : Index := Scalar.indexCast v109
  let c0 : Index := 0#32
  ![0, v113.toNat, 0]
def k0_off9 (k0_t2 : Fin k0_t2_loop.trips) : Fin 3 → Nat :=
  let c0_i32_114 : BitVec 32 := 0#32
  let v115 : Index := Scalar.indexCast c0_i32_114
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v116 : Index := Scalar.indexCast v109
  let c16 : Index := 16#32
  ![0, v116.toNat, 16]
def k0_off10 (k0_t2 : Fin k0_t2_loop.trips) : Fin 3 → Nat :=
  let c0_i32_115 : BitVec 32 := 0#32
  let v118 : Index := Scalar.indexCast c0_i32_115
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v119 : Index := Scalar.indexCast v109
  let c32 : Index := 32#32
  ![0, v119.toNat, 32]
def k0_off11 (k0_t2 : Fin k0_t2_loop.trips) : Fin 3 → Nat :=
  let c0_i32_116 : BitVec 32 := 0#32
  let v121 : Index := Scalar.indexCast c0_i32_116
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v122 : Index := Scalar.indexCast v109
  let c48 : Index := 48#32
  ![0, v122.toNat, 48]
def k0_off12 (k0_t2 : Fin k0_t2_loop.trips) : Fin 3 → Nat :=
  let c0_i32_117 : BitVec 32 := 0#32
  let v124 : Index := Scalar.indexCast c0_i32_117
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v125 : Index := Scalar.indexCast v109
  let c64 : Index := 64#32
  ![0, v125.toNat, 64]
def k0_off13 (k0_t2 : Fin k0_t2_loop.trips) : Fin 3 → Nat :=
  let c0_i32_118 : BitVec 32 := 0#32
  let v127 : Index := Scalar.indexCast c0_i32_118
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v128 : Index := Scalar.indexCast v109
  let c80 : Index := 80#32
  ![0, v128.toNat, 80]
def k0_off14 (k0_t2 : Fin k0_t2_loop.trips) : Fin 3 → Nat :=
  let c0_i32_119 : BitVec 32 := 0#32
  let v130 : Index := Scalar.indexCast c0_i32_119
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v131 : Index := Scalar.indexCast v109
  let c96 : Index := 96#32
  ![0, v131.toNat, 96]
def k0_off15 (k0_t2 : Fin k0_t2_loop.trips) : Fin 3 → Nat :=
  let c0_i32_120 : BitVec 32 := 0#32
  let v133 : Index := Scalar.indexCast c0_i32_120
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v134 : Index := Scalar.indexCast v109
  let c112 : Index := 112#32
  ![0, v134.toNat, 112]
def k0_off16 (k0_t2 : Fin k0_t2_loop.trips) : Fin 3 → Nat :=
  let c0_i32_121 : BitVec 32 := 0#32
  let v136 : Index := Scalar.indexCast c0_i32_121
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v137 : Index := Scalar.indexCast v109
  let c128 : Index := 128#32
  ![0, v137.toNat, 128]
def k0_off17 (k0_t2 : Fin k0_t2_loop.trips) : Fin 3 → Nat :=
  let c0_i32_122 : BitVec 32 := 0#32
  let v139 : Index := Scalar.indexCast c0_i32_122
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v140 : Index := Scalar.indexCast v109
  let c144 : Index := 144#32
  ![0, v140.toNat, 144]
def k0_off18 (k0_t2 : Fin k0_t2_loop.trips) : Fin 3 → Nat :=
  let c0_i32_123 : BitVec 32 := 0#32
  let v142 : Index := Scalar.indexCast c0_i32_123
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v143 : Index := Scalar.indexCast v109
  let c160 : Index := 160#32
  ![0, v143.toNat, 160]
def k0_off19 (k0_t2 : Fin k0_t2_loop.trips) : Fin 3 → Nat :=
  let c0_i32_124 : BitVec 32 := 0#32
  let v145 : Index := Scalar.indexCast c0_i32_124
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v146 : Index := Scalar.indexCast v109
  let c176 : Index := 176#32
  ![0, v146.toNat, 176]
def k0_off20 (k0_t2 : Fin k0_t2_loop.trips) : Fin 3 → Nat :=
  let c0_i32_125 : BitVec 32 := 0#32
  let v148 : Index := Scalar.indexCast c0_i32_125
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v149 : Index := Scalar.indexCast v109
  let c192 : Index := 192#32
  ![0, v149.toNat, 192]
def k0_off21 (k0_t2 : Fin k0_t2_loop.trips) : Fin 3 → Nat :=
  let c0_i32_126 : BitVec 32 := 0#32
  let v151 : Index := Scalar.indexCast c0_i32_126
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v152 : Index := Scalar.indexCast v109
  let c208 : Index := 208#32
  ![0, v152.toNat, 208]
def k0_off22 (k0_t2 : Fin k0_t2_loop.trips) : Fin 3 → Nat :=
  let c0_i32_127 : BitVec 32 := 0#32
  let v154 : Index := Scalar.indexCast c0_i32_127
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v155 : Index := Scalar.indexCast v109
  let c224 : Index := 224#32
  ![0, v155.toNat, 224]
def k0_off23 (k0_t2 : Fin k0_t2_loop.trips) : Fin 3 → Nat :=
  let c0_i32_128 : BitVec 32 := 0#32
  let v157 : Index := Scalar.indexCast c0_i32_128
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v158 : Index := Scalar.indexCast v109
  let c240 : Index := 240#32
  ![0, v158.toNat, 240]
def k0_off24 (k0_t2 : Fin k0_t2_loop.trips) : Fin 3 → Nat :=
  let c0_i32_129 : BitVec 32 := 0#32
  let v160 : Index := Scalar.indexCast c0_i32_129
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v161 : Index := Scalar.indexCast v111
  let c0_130 : Index := 0#32
  ![0, v161.toNat, 0]
def k0_off25 (k0_t2 : Fin k0_t2_loop.trips) : Fin 3 → Nat :=
  let c0_i32_131 : BitVec 32 := 0#32
  let v163 : Index := Scalar.indexCast c0_i32_131
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v164 : Index := Scalar.indexCast v111
  let c16_132 : Index := 16#32
  ![0, v164.toNat, 16]
def k0_off26 (k0_t2 : Fin k0_t2_loop.trips) : Fin 3 → Nat :=
  let c0_i32_133 : BitVec 32 := 0#32
  let v166 : Index := Scalar.indexCast c0_i32_133
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v167 : Index := Scalar.indexCast v111
  let c32_134 : Index := 32#32
  ![0, v167.toNat, 32]
def k0_off27 (k0_t2 : Fin k0_t2_loop.trips) : Fin 3 → Nat :=
  let c0_i32_135 : BitVec 32 := 0#32
  let v169 : Index := Scalar.indexCast c0_i32_135
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v170 : Index := Scalar.indexCast v111
  let c48_136 : Index := 48#32
  ![0, v170.toNat, 48]
def k0_off28 (k0_t2 : Fin k0_t2_loop.trips) : Fin 3 → Nat :=
  let c0_i32_137 : BitVec 32 := 0#32
  let v172 : Index := Scalar.indexCast c0_i32_137
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v173 : Index := Scalar.indexCast v111
  let c64_138 : Index := 64#32
  ![0, v173.toNat, 64]
def k0_off29 (k0_t2 : Fin k0_t2_loop.trips) : Fin 3 → Nat :=
  let c0_i32_139 : BitVec 32 := 0#32
  let v175 : Index := Scalar.indexCast c0_i32_139
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v176 : Index := Scalar.indexCast v111
  let c80_140 : Index := 80#32
  ![0, v176.toNat, 80]
def k0_off30 (k0_t2 : Fin k0_t2_loop.trips) : Fin 3 → Nat :=
  let c0_i32_141 : BitVec 32 := 0#32
  let v178 : Index := Scalar.indexCast c0_i32_141
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v179 : Index := Scalar.indexCast v111
  let c96_142 : Index := 96#32
  ![0, v179.toNat, 96]
def k0_off31 (k0_t2 : Fin k0_t2_loop.trips) : Fin 3 → Nat :=
  let c0_i32_143 : BitVec 32 := 0#32
  let v181 : Index := Scalar.indexCast c0_i32_143
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v182 : Index := Scalar.indexCast v111
  let c112_144 : Index := 112#32
  ![0, v182.toNat, 112]
def k0_off32 (k0_t2 : Fin k0_t2_loop.trips) : Fin 3 → Nat :=
  let c0_i32_145 : BitVec 32 := 0#32
  let v184 : Index := Scalar.indexCast c0_i32_145
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v185 : Index := Scalar.indexCast v111
  let c128_146 : Index := 128#32
  ![0, v185.toNat, 128]
def k0_off33 (k0_t2 : Fin k0_t2_loop.trips) : Fin 3 → Nat :=
  let c0_i32_147 : BitVec 32 := 0#32
  let v187 : Index := Scalar.indexCast c0_i32_147
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v188 : Index := Scalar.indexCast v111
  let c144_148 : Index := 144#32
  ![0, v188.toNat, 144]
def k0_off34 (k0_t2 : Fin k0_t2_loop.trips) : Fin 3 → Nat :=
  let c0_i32_149 : BitVec 32 := 0#32
  let v190 : Index := Scalar.indexCast c0_i32_149
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v191 : Index := Scalar.indexCast v111
  let c160_150 : Index := 160#32
  ![0, v191.toNat, 160]
def k0_off35 (k0_t2 : Fin k0_t2_loop.trips) : Fin 3 → Nat :=
  let c0_i32_151 : BitVec 32 := 0#32
  let v193 : Index := Scalar.indexCast c0_i32_151
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v194 : Index := Scalar.indexCast v111
  let c176_152 : Index := 176#32
  ![0, v194.toNat, 176]
def k0_off36 (k0_t2 : Fin k0_t2_loop.trips) : Fin 3 → Nat :=
  let c0_i32_153 : BitVec 32 := 0#32
  let v196 : Index := Scalar.indexCast c0_i32_153
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v197 : Index := Scalar.indexCast v111
  let c192_154 : Index := 192#32
  ![0, v197.toNat, 192]
def k0_off37 (k0_t2 : Fin k0_t2_loop.trips) : Fin 3 → Nat :=
  let c0_i32_155 : BitVec 32 := 0#32
  let v199 : Index := Scalar.indexCast c0_i32_155
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v200 : Index := Scalar.indexCast v111
  let c208_156 : Index := 208#32
  ![0, v200.toNat, 208]
def k0_off38 (k0_t2 : Fin k0_t2_loop.trips) : Fin 3 → Nat :=
  let c0_i32_157 : BitVec 32 := 0#32
  let v202 : Index := Scalar.indexCast c0_i32_157
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v203 : Index := Scalar.indexCast v111
  let c224_158 : Index := 224#32
  ![0, v203.toNat, 224]
def k0_off39 (k0_t2 : Fin k0_t2_loop.trips) : Fin 3 → Nat :=
  let c0_i32_159 : BitVec 32 := 0#32
  let v205 : Index := Scalar.indexCast c0_i32_159
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v206 : Index := Scalar.indexCast v111
  let c240_160 : Index := 240#32
  ![0, v206.toNat, 240]
@[reducible] def k0_t3_loop : Scf.Loop 32 :=
  let c0_i32_178 : BitVec 32 := 0#32
  let c32_i32_179 : BitVec 32 := 32#32
  let v241 : BitVec 32 := Scalar.addi c0_i32_178 c32_i32_179
  let c1_i32_180 : BitVec 32 := 1#32
  ⟨c0_i32_178, v241, c1_i32_180⟩
def k0_off40 (k0_t3 : Fin k0_t3_loop.trips) : Fin 1 → Nat :=
  let c0_i32_178 : BitVec 32 := 0#32
  let c1_i32_180 : BitVec 32 := 1#32
  let arg17 : BitVec 32 := Scf.iv c0_i32_178 c1_i32_180 k0_t3
  let c16_i32_845 : BitVec 32 := 16#32
  let v1382 : BitVec 32 := Scalar.muli arg17 c16_i32_845
  let v1383 : Index := Scalar.indexCast v1382
  ![v1383.toNat]
@[reducible] def k0_t4_loop : Scf.Loop 32 :=
  let c0_i32_847 : BitVec 32 := 0#32
  let c16_i32_848 : BitVec 32 := 16#32
  let v1387 : BitVec 32 := Scalar.addi c0_i32_847 c16_i32_848
  let c1_i32_849 : BitVec 32 := 1#32
  ⟨c0_i32_847, v1387, c1_i32_849⟩

def k0_chk1 (v1397 : IVec S16 32) : Prop :=
  (∀ a x, ((![v1397] : Fin 1 → IVec S16 32) a x).toNat < S512.size a)
theorem k0_idx1_inb : ∀ (v1397 : IVec S16 32) (k0_hw1 : k0_chk1 v1397), ∀ a x, ((![v1397] : Fin 1 → IVec S16 32) a x).toNat < S512.size a := fun v1397 k0_hw1 => k0_hw1

def k0_chk2 (v1391 : IVec S16 32) : Prop :=
  (∀ a x, ((![v1391] : Fin 1 → IVec S16 32) a x).toNat < S512.size a)
theorem k0_idx2_inb : ∀ (v1391 : IVec S16 32) (k0_hw2 : k0_chk2 v1391), ∀ a x, ((![v1391] : Fin 1 → IVec S16 32) a x).toNat < S512.size a := fun v1391 k0_hw2 => k0_hw2
@[reducible] def k0_t5_loop : Scf.Loop 32 :=
  let c0_i32_247 : BitVec 32 := 0#32
  let c32_i32_248 : BitVec 32 := 32#32
  let v339 : BitVec 32 := Scalar.addi c0_i32_247 c32_i32_248
  let c1_i32_249 : BitVec 32 := 1#32
  ⟨c0_i32_247, v339, c1_i32_249⟩
def k0_off41 (k0_t5 : Fin k0_t5_loop.trips) : Fin 1 → Nat :=
  let c0_i32_247 : BitVec 32 := 0#32
  let c1_i32_249 : BitVec 32 := 1#32
  let arg17 : BitVec 32 := Scf.iv c0_i32_247 c1_i32_249 k0_t5
  let c16_i32_845 : BitVec 32 := 16#32
  let v1382 : BitVec 32 := Scalar.muli arg17 c16_i32_845
  let v1383 : Index := Scalar.indexCast v1382
  ![v1383.toNat]
@[reducible] def k0_t6_loop : Scf.Loop 32 :=
  let c0_i32_847 : BitVec 32 := 0#32
  let c16_i32_848 : BitVec 32 := 16#32
  let v1387 : BitVec 32 := Scalar.addi c0_i32_847 c16_i32_848
  let c1_i32_849 : BitVec 32 := 1#32
  ⟨c0_i32_847, v1387, c1_i32_849⟩

def k0_chk3 (v1397 : IVec S16 32) : Prop :=
  (∀ a x, ((![v1397] : Fin 1 → IVec S16 32) a x).toNat < S512.size a)
theorem k0_idx3_inb : ∀ (v1397 : IVec S16 32) (k0_hw3 : k0_chk3 v1397), ∀ a x, ((![v1397] : Fin 1 → IVec S16 32) a x).toNat < S512.size a := fun v1397 k0_hw3 => k0_hw3

def k0_chk4 (v1391 : IVec S16 32) : Prop :=
  (∀ a x, ((![v1391] : Fin 1 → IVec S16 32) a x).toNat < S512.size a)
theorem k0_idx4_inb : ∀ (v1391 : IVec S16 32) (k0_hw4 : k0_chk4 v1391), ∀ a x, ((![v1391] : Fin 1 → IVec S16 32) a x).toNat < S512.size a := fun v1391 k0_hw4 => k0_hw4
@[reducible] def k0_t7_loop : Scf.Loop 32 :=
  let c0_i32_316 : BitVec 32 := 0#32
  let c32_i32_317 : BitVec 32 := 32#32
  let v469 : BitVec 32 := Scalar.addi c0_i32_316 c32_i32_317
  let c1_i32_318 : BitVec 32 := 1#32
  ⟨c0_i32_316, v469, c1_i32_318⟩
def k0_off42 (k0_t7 : Fin k0_t7_loop.trips) : Fin 1 → Nat :=
  let c0_i32_316 : BitVec 32 := 0#32
  let c1_i32_318 : BitVec 32 := 1#32
  let arg17 : BitVec 32 := Scf.iv c0_i32_316 c1_i32_318 k0_t7
  let c16_i32_844 : BitVec 32 := 16#32
  let v1382 : BitVec 32 := Scalar.muli arg17 c16_i32_844
  let v1383 : Index := Scalar.indexCast v1382
  ![v1383.toNat]
@[reducible] def k0_t8_loop : Scf.Loop 32 :=
  let c0_i32_846 : BitVec 32 := 0#32
  let c16_i32_847 : BitVec 32 := 16#32
  let v1387 : BitVec 32 := Scalar.addi c0_i32_846 c16_i32_847
  let c1_i32_848 : BitVec 32 := 1#32
  ⟨c0_i32_846, v1387, c1_i32_848⟩

def k0_chk5 (v1397 : IVec S16 32) : Prop :=
  (∀ a x, ((![v1397] : Fin 1 → IVec S16 32) a x).toNat < S512.size a)
theorem k0_idx5_inb : ∀ (v1397 : IVec S16 32) (k0_hw5 : k0_chk5 v1397), ∀ a x, ((![v1397] : Fin 1 → IVec S16 32) a x).toNat < S512.size a := fun v1397 k0_hw5 => k0_hw5

def k0_chk6 (v1391 : IVec S16 32) : Prop :=
  (∀ a x, ((![v1391] : Fin 1 → IVec S16 32) a x).toNat < S512.size a)
theorem k0_idx6_inb : ∀ (v1391 : IVec S16 32) (k0_hw6 : k0_chk6 v1391), ∀ a x, ((![v1391] : Fin 1 → IVec S16 32) a x).toNat < S512.size a := fun v1391 k0_hw6 => k0_hw6
@[reducible] def k0_t9_loop : Scf.Loop 32 :=
  let c0_i32_385 : BitVec 32 := 0#32
  let c32_i32_386 : BitVec 32 := 32#32
  let v631 : BitVec 32 := Scalar.addi c0_i32_385 c32_i32_386
  let c1_i32_387 : BitVec 32 := 1#32
  ⟨c0_i32_385, v631, c1_i32_387⟩
def k0_off43 (k0_t9 : Fin k0_t9_loop.trips) : Fin 1 → Nat :=
  let c0_i32_385 : BitVec 32 := 0#32
  let c1_i32_387 : BitVec 32 := 1#32
  let arg17 : BitVec 32 := Scf.iv c0_i32_385 c1_i32_387 k0_t9
  let c16_i32_844 : BitVec 32 := 16#32
  let v1382 : BitVec 32 := Scalar.muli arg17 c16_i32_844
  let v1383 : Index := Scalar.indexCast v1382
  ![v1383.toNat]
@[reducible] def k0_t10_loop : Scf.Loop 32 :=
  let c0_i32_846 : BitVec 32 := 0#32
  let c16_i32_847 : BitVec 32 := 16#32
  let v1387 : BitVec 32 := Scalar.addi c0_i32_846 c16_i32_847
  let c1_i32_848 : BitVec 32 := 1#32
  ⟨c0_i32_846, v1387, c1_i32_848⟩

def k0_chk7 (v1397 : IVec S16 32) : Prop :=
  (∀ a x, ((![v1397] : Fin 1 → IVec S16 32) a x).toNat < S512.size a)
theorem k0_idx7_inb : ∀ (v1397 : IVec S16 32) (k0_hw7 : k0_chk7 v1397), ∀ a x, ((![v1397] : Fin 1 → IVec S16 32) a x).toNat < S512.size a := fun v1397 k0_hw7 => k0_hw7

def k0_chk8 (v1391 : IVec S16 32) : Prop :=
  (∀ a x, ((![v1391] : Fin 1 → IVec S16 32) a x).toNat < S512.size a)
theorem k0_idx8_inb : ∀ (v1391 : IVec S16 32) (k0_hw8 : k0_chk8 v1391), ∀ a x, ((![v1391] : Fin 1 → IVec S16 32) a x).toNat < S512.size a := fun v1391 k0_hw8 => k0_hw8
@[reducible] def k0_t11_loop : Scf.Loop 32 :=
  let c0_i32_454 : BitVec 32 := 0#32
  let c32_i32_455 : BitVec 32 := 32#32
  let v825 : BitVec 32 := Scalar.addi c0_i32_454 c32_i32_455
  let c1_i32_456 : BitVec 32 := 1#32
  ⟨c0_i32_454, v825, c1_i32_456⟩
def k0_off44 (k0_t11 : Fin k0_t11_loop.trips) : Fin 1 → Nat :=
  let c0_i32_454 : BitVec 32 := 0#32
  let c1_i32_456 : BitVec 32 := 1#32
  let arg17 : BitVec 32 := Scf.iv c0_i32_454 c1_i32_456 k0_t11
  let c16_i32_845 : BitVec 32 := 16#32
  let v1382 : BitVec 32 := Scalar.muli arg17 c16_i32_845
  let v1383 : Index := Scalar.indexCast v1382
  ![v1383.toNat]
@[reducible] def k0_t12_loop : Scf.Loop 32 :=
  let c0_i32_847 : BitVec 32 := 0#32
  let c16_i32_848 : BitVec 32 := 16#32
  let v1387 : BitVec 32 := Scalar.addi c0_i32_847 c16_i32_848
  let c1_i32_849 : BitVec 32 := 1#32
  ⟨c0_i32_847, v1387, c1_i32_849⟩

def k0_chk9 (v1397 : IVec S16 32) : Prop :=
  (∀ a x, ((![v1397] : Fin 1 → IVec S16 32) a x).toNat < S512.size a)
theorem k0_idx9_inb : ∀ (v1397 : IVec S16 32) (k0_hw9 : k0_chk9 v1397), ∀ a x, ((![v1397] : Fin 1 → IVec S16 32) a x).toNat < S512.size a := fun v1397 k0_hw9 => k0_hw9

def k0_chk10 (v1391 : IVec S16 32) : Prop :=
  (∀ a x, ((![v1391] : Fin 1 → IVec S16 32) a x).toNat < S512.size a)
theorem k0_idx10_inb : ∀ (v1391 : IVec S16 32) (k0_hw10 : k0_chk10 v1391), ∀ a x, ((![v1391] : Fin 1 → IVec S16 32) a x).toNat < S512.size a := fun v1391 k0_hw10 => k0_hw10
def k0_off45 (k0_t2 : Fin k0_t2_loop.trips) : Fin 3 → Nat :=
  let c0_i32_491 : BitVec 32 := 0#32
  let v861 : Index := Scalar.indexCast c0_i32_491
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v862 : Index := Scalar.indexCast v109
  let c0_492 : Index := 0#32
  ![0, v862.toNat, 0]
def k0_off46 (k0_t2 : Fin k0_t2_loop.trips) : Fin 3 → Nat :=
  let c0_i32_495 : BitVec 32 := 0#32
  let v867 : Index := Scalar.indexCast c0_i32_495
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v868 : Index := Scalar.indexCast v109
  let c16_496 : Index := 16#32
  ![0, v868.toNat, 16]
def k0_off47 (k0_t2 : Fin k0_t2_loop.trips) : Fin 3 → Nat :=
  let c0_i32_499 : BitVec 32 := 0#32
  let v873 : Index := Scalar.indexCast c0_i32_499
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v874 : Index := Scalar.indexCast v109
  let c32_500 : Index := 32#32
  ![0, v874.toNat, 32]
def k0_off48 (k0_t2 : Fin k0_t2_loop.trips) : Fin 3 → Nat :=
  let c0_i32_503 : BitVec 32 := 0#32
  let v879 : Index := Scalar.indexCast c0_i32_503
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v880 : Index := Scalar.indexCast v109
  let c48_504 : Index := 48#32
  ![0, v880.toNat, 48]
def k0_off49 (k0_t2 : Fin k0_t2_loop.trips) : Fin 3 → Nat :=
  let c0_i32_507 : BitVec 32 := 0#32
  let v885 : Index := Scalar.indexCast c0_i32_507
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v886 : Index := Scalar.indexCast v109
  let c64_508 : Index := 64#32
  ![0, v886.toNat, 64]
def k0_off50 (k0_t2 : Fin k0_t2_loop.trips) : Fin 3 → Nat :=
  let c0_i32_511 : BitVec 32 := 0#32
  let v891 : Index := Scalar.indexCast c0_i32_511
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v892 : Index := Scalar.indexCast v109
  let c80_512 : Index := 80#32
  ![0, v892.toNat, 80]
def k0_off51 (k0_t2 : Fin k0_t2_loop.trips) : Fin 3 → Nat :=
  let c0_i32_515 : BitVec 32 := 0#32
  let v897 : Index := Scalar.indexCast c0_i32_515
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v898 : Index := Scalar.indexCast v109
  let c96_516 : Index := 96#32
  ![0, v898.toNat, 96]
def k0_off52 (k0_t2 : Fin k0_t2_loop.trips) : Fin 3 → Nat :=
  let c0_i32_519 : BitVec 32 := 0#32
  let v903 : Index := Scalar.indexCast c0_i32_519
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v904 : Index := Scalar.indexCast v109
  let c112_520 : Index := 112#32
  ![0, v904.toNat, 112]
def k0_off53 (k0_t2 : Fin k0_t2_loop.trips) : Fin 3 → Nat :=
  let c0_i32_523 : BitVec 32 := 0#32
  let v909 : Index := Scalar.indexCast c0_i32_523
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v910 : Index := Scalar.indexCast v109
  let c128_524 : Index := 128#32
  ![0, v910.toNat, 128]
def k0_off54 (k0_t2 : Fin k0_t2_loop.trips) : Fin 3 → Nat :=
  let c0_i32_527 : BitVec 32 := 0#32
  let v915 : Index := Scalar.indexCast c0_i32_527
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v916 : Index := Scalar.indexCast v109
  let c144_528 : Index := 144#32
  ![0, v916.toNat, 144]
def k0_off55 (k0_t2 : Fin k0_t2_loop.trips) : Fin 3 → Nat :=
  let c0_i32_531 : BitVec 32 := 0#32
  let v921 : Index := Scalar.indexCast c0_i32_531
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v922 : Index := Scalar.indexCast v109
  let c160_532 : Index := 160#32
  ![0, v922.toNat, 160]
def k0_off56 (k0_t2 : Fin k0_t2_loop.trips) : Fin 3 → Nat :=
  let c0_i32_535 : BitVec 32 := 0#32
  let v927 : Index := Scalar.indexCast c0_i32_535
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v928 : Index := Scalar.indexCast v109
  let c176_536 : Index := 176#32
  ![0, v928.toNat, 176]
def k0_off57 (k0_t2 : Fin k0_t2_loop.trips) : Fin 3 → Nat :=
  let c0_i32_539 : BitVec 32 := 0#32
  let v933 : Index := Scalar.indexCast c0_i32_539
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v934 : Index := Scalar.indexCast v109
  let c192_540 : Index := 192#32
  ![0, v934.toNat, 192]
def k0_off58 (k0_t2 : Fin k0_t2_loop.trips) : Fin 3 → Nat :=
  let c0_i32_543 : BitVec 32 := 0#32
  let v939 : Index := Scalar.indexCast c0_i32_543
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v940 : Index := Scalar.indexCast v109
  let c208_544 : Index := 208#32
  ![0, v940.toNat, 208]
def k0_off59 (k0_t2 : Fin k0_t2_loop.trips) : Fin 3 → Nat :=
  let c0_i32_547 : BitVec 32 := 0#32
  let v945 : Index := Scalar.indexCast c0_i32_547
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v946 : Index := Scalar.indexCast v109
  let c224_548 : Index := 224#32
  ![0, v946.toNat, 224]
def k0_off60 (k0_t2 : Fin k0_t2_loop.trips) : Fin 3 → Nat :=
  let c0_i32_551 : BitVec 32 := 0#32
  let v951 : Index := Scalar.indexCast c0_i32_551
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v952 : Index := Scalar.indexCast v109
  let c240_552 : Index := 240#32
  ![0, v952.toNat, 240]

def k0_chk11 (v860 : IVec S16 32) (v960 : IVec S16 32) : Prop :=
  (∀ a x, ((![v860, v960] : Fin 2 → IVec S16 32) a x).toNat < S32x512.size a)
theorem k0_idx11_inb : ∀ (v860 : IVec S16 32) (v960 : IVec S16 32) (k0_hw11 : k0_chk11 v860 v960), ∀ a x, ((![v860, v960] : Fin 2 → IVec S16 32) a x).toNat < S32x512.size a := fun v860 v960 k0_hw11 => k0_hw11
def k0_off61 (k0_t2 : Fin k0_t2_loop.trips) : Fin 3 → Nat :=
  let c0_i32_558 : BitVec 32 := 0#32
  let v964 : Index := Scalar.indexCast c0_i32_558
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v965 : Index := Scalar.indexCast v109
  let c256_559 : Index := 256#32
  ![0, v965.toNat, 256]

def k0_chk12 (v860 : IVec S16 32) (v970 : IVec S16 32) : Prop :=
  (∀ a x, ((![v860, v970] : Fin 2 → IVec S16 32) a x).toNat < S32x512.size a)
theorem k0_idx12_inb : ∀ (v860 : IVec S16 32) (v970 : IVec S16 32) (k0_hw12 : k0_chk12 v860 v970), ∀ a x, ((![v860, v970] : Fin 2 → IVec S16 32) a x).toNat < S32x512.size a := fun v860 v970 k0_hw12 => k0_hw12
def k0_off62 (k0_t2 : Fin k0_t2_loop.trips) : Fin 3 → Nat :=
  let c0_i32_565 : BitVec 32 := 0#32
  let v974 : Index := Scalar.indexCast c0_i32_565
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v975 : Index := Scalar.indexCast v109
  let c272_566 : Index := 272#32
  ![0, v975.toNat, 272]

def k0_chk13 (v860 : IVec S16 32) (v980 : IVec S16 32) : Prop :=
  (∀ a x, ((![v860, v980] : Fin 2 → IVec S16 32) a x).toNat < S32x512.size a)
theorem k0_idx13_inb : ∀ (v860 : IVec S16 32) (v980 : IVec S16 32) (k0_hw13 : k0_chk13 v860 v980), ∀ a x, ((![v860, v980] : Fin 2 → IVec S16 32) a x).toNat < S32x512.size a := fun v860 v980 k0_hw13 => k0_hw13
def k0_off63 (k0_t2 : Fin k0_t2_loop.trips) : Fin 3 → Nat :=
  let c0_i32_572 : BitVec 32 := 0#32
  let v984 : Index := Scalar.indexCast c0_i32_572
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v985 : Index := Scalar.indexCast v109
  let c288_573 : Index := 288#32
  ![0, v985.toNat, 288]

def k0_chk14 (v860 : IVec S16 32) (v990 : IVec S16 32) : Prop :=
  (∀ a x, ((![v860, v990] : Fin 2 → IVec S16 32) a x).toNat < S32x512.size a)
theorem k0_idx14_inb : ∀ (v860 : IVec S16 32) (v990 : IVec S16 32) (k0_hw14 : k0_chk14 v860 v990), ∀ a x, ((![v860, v990] : Fin 2 → IVec S16 32) a x).toNat < S32x512.size a := fun v860 v990 k0_hw14 => k0_hw14
def k0_off64 (k0_t2 : Fin k0_t2_loop.trips) : Fin 3 → Nat :=
  let c0_i32_579 : BitVec 32 := 0#32
  let v994 : Index := Scalar.indexCast c0_i32_579
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v995 : Index := Scalar.indexCast v109
  let c304_580 : Index := 304#32
  ![0, v995.toNat, 304]

def k0_chk15 (v860 : IVec S16 32) (v1000 : IVec S16 32) : Prop :=
  (∀ a x, ((![v860, v1000] : Fin 2 → IVec S16 32) a x).toNat < S32x512.size a)
theorem k0_idx15_inb : ∀ (v860 : IVec S16 32) (v1000 : IVec S16 32) (k0_hw15 : k0_chk15 v860 v1000), ∀ a x, ((![v860, v1000] : Fin 2 → IVec S16 32) a x).toNat < S32x512.size a := fun v860 v1000 k0_hw15 => k0_hw15
def k0_off65 (k0_t2 : Fin k0_t2_loop.trips) : Fin 3 → Nat :=
  let c0_i32_586 : BitVec 32 := 0#32
  let v1004 : Index := Scalar.indexCast c0_i32_586
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1005 : Index := Scalar.indexCast v109
  let c320_587 : Index := 320#32
  ![0, v1005.toNat, 320]

def k0_chk16 (v860 : IVec S16 32) (v1010 : IVec S16 32) : Prop :=
  (∀ a x, ((![v860, v1010] : Fin 2 → IVec S16 32) a x).toNat < S32x512.size a)
theorem k0_idx16_inb : ∀ (v860 : IVec S16 32) (v1010 : IVec S16 32) (k0_hw16 : k0_chk16 v860 v1010), ∀ a x, ((![v860, v1010] : Fin 2 → IVec S16 32) a x).toNat < S32x512.size a := fun v860 v1010 k0_hw16 => k0_hw16
def k0_off66 (k0_t2 : Fin k0_t2_loop.trips) : Fin 3 → Nat :=
  let c0_i32_593 : BitVec 32 := 0#32
  let v1014 : Index := Scalar.indexCast c0_i32_593
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1015 : Index := Scalar.indexCast v109
  let c336_594 : Index := 336#32
  ![0, v1015.toNat, 336]

def k0_chk17 (v860 : IVec S16 32) (v1020 : IVec S16 32) : Prop :=
  (∀ a x, ((![v860, v1020] : Fin 2 → IVec S16 32) a x).toNat < S32x512.size a)
theorem k0_idx17_inb : ∀ (v860 : IVec S16 32) (v1020 : IVec S16 32) (k0_hw17 : k0_chk17 v860 v1020), ∀ a x, ((![v860, v1020] : Fin 2 → IVec S16 32) a x).toNat < S32x512.size a := fun v860 v1020 k0_hw17 => k0_hw17
def k0_off67 (k0_t2 : Fin k0_t2_loop.trips) : Fin 3 → Nat :=
  let c0_i32_600 : BitVec 32 := 0#32
  let v1024 : Index := Scalar.indexCast c0_i32_600
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1025 : Index := Scalar.indexCast v109
  let c352_601 : Index := 352#32
  ![0, v1025.toNat, 352]

def k0_chk18 (v860 : IVec S16 32) (v1030 : IVec S16 32) : Prop :=
  (∀ a x, ((![v860, v1030] : Fin 2 → IVec S16 32) a x).toNat < S32x512.size a)
theorem k0_idx18_inb : ∀ (v860 : IVec S16 32) (v1030 : IVec S16 32) (k0_hw18 : k0_chk18 v860 v1030), ∀ a x, ((![v860, v1030] : Fin 2 → IVec S16 32) a x).toNat < S32x512.size a := fun v860 v1030 k0_hw18 => k0_hw18
def k0_off68 (k0_t2 : Fin k0_t2_loop.trips) : Fin 3 → Nat :=
  let c0_i32_607 : BitVec 32 := 0#32
  let v1034 : Index := Scalar.indexCast c0_i32_607
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1035 : Index := Scalar.indexCast v109
  let c368_608 : Index := 368#32
  ![0, v1035.toNat, 368]

def k0_chk19 (v860 : IVec S16 32) (v1040 : IVec S16 32) : Prop :=
  (∀ a x, ((![v860, v1040] : Fin 2 → IVec S16 32) a x).toNat < S32x512.size a)
theorem k0_idx19_inb : ∀ (v860 : IVec S16 32) (v1040 : IVec S16 32) (k0_hw19 : k0_chk19 v860 v1040), ∀ a x, ((![v860, v1040] : Fin 2 → IVec S16 32) a x).toNat < S32x512.size a := fun v860 v1040 k0_hw19 => k0_hw19
def k0_off69 (k0_t2 : Fin k0_t2_loop.trips) : Fin 3 → Nat :=
  let c0_i32_614 : BitVec 32 := 0#32
  let v1044 : Index := Scalar.indexCast c0_i32_614
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1045 : Index := Scalar.indexCast v109
  let c384_615 : Index := 384#32
  ![0, v1045.toNat, 384]

def k0_chk20 (v860 : IVec S16 32) (v1050 : IVec S16 32) : Prop :=
  (∀ a x, ((![v860, v1050] : Fin 2 → IVec S16 32) a x).toNat < S32x512.size a)
theorem k0_idx20_inb : ∀ (v860 : IVec S16 32) (v1050 : IVec S16 32) (k0_hw20 : k0_chk20 v860 v1050), ∀ a x, ((![v860, v1050] : Fin 2 → IVec S16 32) a x).toNat < S32x512.size a := fun v860 v1050 k0_hw20 => k0_hw20
def k0_off70 (k0_t2 : Fin k0_t2_loop.trips) : Fin 3 → Nat :=
  let c0_i32_621 : BitVec 32 := 0#32
  let v1054 : Index := Scalar.indexCast c0_i32_621
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1055 : Index := Scalar.indexCast v109
  let c400_622 : Index := 400#32
  ![0, v1055.toNat, 400]

def k0_chk21 (v860 : IVec S16 32) (v1060 : IVec S16 32) : Prop :=
  (∀ a x, ((![v860, v1060] : Fin 2 → IVec S16 32) a x).toNat < S32x512.size a)
theorem k0_idx21_inb : ∀ (v860 : IVec S16 32) (v1060 : IVec S16 32) (k0_hw21 : k0_chk21 v860 v1060), ∀ a x, ((![v860, v1060] : Fin 2 → IVec S16 32) a x).toNat < S32x512.size a := fun v860 v1060 k0_hw21 => k0_hw21
def k0_off71 (k0_t2 : Fin k0_t2_loop.trips) : Fin 3 → Nat :=
  let c0_i32_628 : BitVec 32 := 0#32
  let v1064 : Index := Scalar.indexCast c0_i32_628
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1065 : Index := Scalar.indexCast v109
  let c416_629 : Index := 416#32
  ![0, v1065.toNat, 416]

def k0_chk22 (v860 : IVec S16 32) (v1070 : IVec S16 32) : Prop :=
  (∀ a x, ((![v860, v1070] : Fin 2 → IVec S16 32) a x).toNat < S32x512.size a)
theorem k0_idx22_inb : ∀ (v860 : IVec S16 32) (v1070 : IVec S16 32) (k0_hw22 : k0_chk22 v860 v1070), ∀ a x, ((![v860, v1070] : Fin 2 → IVec S16 32) a x).toNat < S32x512.size a := fun v860 v1070 k0_hw22 => k0_hw22
def k0_off72 (k0_t2 : Fin k0_t2_loop.trips) : Fin 3 → Nat :=
  let c0_i32_635 : BitVec 32 := 0#32
  let v1074 : Index := Scalar.indexCast c0_i32_635
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1075 : Index := Scalar.indexCast v109
  let c432_636 : Index := 432#32
  ![0, v1075.toNat, 432]

def k0_chk23 (v860 : IVec S16 32) (v1080 : IVec S16 32) : Prop :=
  (∀ a x, ((![v860, v1080] : Fin 2 → IVec S16 32) a x).toNat < S32x512.size a)
theorem k0_idx23_inb : ∀ (v860 : IVec S16 32) (v1080 : IVec S16 32) (k0_hw23 : k0_chk23 v860 v1080), ∀ a x, ((![v860, v1080] : Fin 2 → IVec S16 32) a x).toNat < S32x512.size a := fun v860 v1080 k0_hw23 => k0_hw23
def k0_off73 (k0_t2 : Fin k0_t2_loop.trips) : Fin 3 → Nat :=
  let c0_i32_642 : BitVec 32 := 0#32
  let v1084 : Index := Scalar.indexCast c0_i32_642
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1085 : Index := Scalar.indexCast v109
  let c448_643 : Index := 448#32
  ![0, v1085.toNat, 448]

def k0_chk24 (v860 : IVec S16 32) (v1090 : IVec S16 32) : Prop :=
  (∀ a x, ((![v860, v1090] : Fin 2 → IVec S16 32) a x).toNat < S32x512.size a)
theorem k0_idx24_inb : ∀ (v860 : IVec S16 32) (v1090 : IVec S16 32) (k0_hw24 : k0_chk24 v860 v1090), ∀ a x, ((![v860, v1090] : Fin 2 → IVec S16 32) a x).toNat < S32x512.size a := fun v860 v1090 k0_hw24 => k0_hw24
def k0_off74 (k0_t2 : Fin k0_t2_loop.trips) : Fin 3 → Nat :=
  let c0_i32_649 : BitVec 32 := 0#32
  let v1094 : Index := Scalar.indexCast c0_i32_649
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1095 : Index := Scalar.indexCast v109
  let c464_650 : Index := 464#32
  ![0, v1095.toNat, 464]

def k0_chk25 (v860 : IVec S16 32) (v1100 : IVec S16 32) : Prop :=
  (∀ a x, ((![v860, v1100] : Fin 2 → IVec S16 32) a x).toNat < S32x512.size a)
theorem k0_idx25_inb : ∀ (v860 : IVec S16 32) (v1100 : IVec S16 32) (k0_hw25 : k0_chk25 v860 v1100), ∀ a x, ((![v860, v1100] : Fin 2 → IVec S16 32) a x).toNat < S32x512.size a := fun v860 v1100 k0_hw25 => k0_hw25
def k0_off75 (k0_t2 : Fin k0_t2_loop.trips) : Fin 3 → Nat :=
  let c0_i32_656 : BitVec 32 := 0#32
  let v1104 : Index := Scalar.indexCast c0_i32_656
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1105 : Index := Scalar.indexCast v109
  let c480_657 : Index := 480#32
  ![0, v1105.toNat, 480]

def k0_chk26 (v860 : IVec S16 32) (v1110 : IVec S16 32) : Prop :=
  (∀ a x, ((![v860, v1110] : Fin 2 → IVec S16 32) a x).toNat < S32x512.size a)
theorem k0_idx26_inb : ∀ (v860 : IVec S16 32) (v1110 : IVec S16 32) (k0_hw26 : k0_chk26 v860 v1110), ∀ a x, ((![v860, v1110] : Fin 2 → IVec S16 32) a x).toNat < S32x512.size a := fun v860 v1110 k0_hw26 => k0_hw26
def k0_off76 (k0_t2 : Fin k0_t2_loop.trips) : Fin 3 → Nat :=
  let c0_i32_663 : BitVec 32 := 0#32
  let v1114 : Index := Scalar.indexCast c0_i32_663
  let c0_i32_59 : BitVec 32 := 0#32
  let c1_i32_60 : BitVec 32 := 1#32
  let arg16 : BitVec 32 := Scf.iv c0_i32_59 c1_i32_60 k0_t2
  let c2_i32_110 : BitVec 32 := 2#32
  let v109 : BitVec 32 := Scalar.muli arg16 c2_i32_110
  let v1115 : Index := Scalar.indexCast v109
  let c496_664 : Index := 496#32
  ![0, v1115.toNat, 496]
def k0_off77 (k0_t2 : Fin k0_t2_loop.trips) : Fin 3 → Nat :=
  let c0_i32_666 : BitVec 32 := 0#32
  let v1120 : Index := Scalar.indexCast c0_i32_666
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1121 : Index := Scalar.indexCast v111
  let c0_667 : Index := 0#32
  ![0, v1121.toNat, 0]
def k0_off78 (k0_t2 : Fin k0_t2_loop.trips) : Fin 3 → Nat :=
  let c0_i32_670 : BitVec 32 := 0#32
  let v1126 : Index := Scalar.indexCast c0_i32_670
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1127 : Index := Scalar.indexCast v111
  let c16_671 : Index := 16#32
  ![0, v1127.toNat, 16]
def k0_off79 (k0_t2 : Fin k0_t2_loop.trips) : Fin 3 → Nat :=
  let c0_i32_674 : BitVec 32 := 0#32
  let v1132 : Index := Scalar.indexCast c0_i32_674
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1133 : Index := Scalar.indexCast v111
  let c32_675 : Index := 32#32
  ![0, v1133.toNat, 32]
def k0_off80 (k0_t2 : Fin k0_t2_loop.trips) : Fin 3 → Nat :=
  let c0_i32_678 : BitVec 32 := 0#32
  let v1138 : Index := Scalar.indexCast c0_i32_678
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1139 : Index := Scalar.indexCast v111
  let c48_679 : Index := 48#32
  ![0, v1139.toNat, 48]
def k0_off81 (k0_t2 : Fin k0_t2_loop.trips) : Fin 3 → Nat :=
  let c0_i32_682 : BitVec 32 := 0#32
  let v1144 : Index := Scalar.indexCast c0_i32_682
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1145 : Index := Scalar.indexCast v111
  let c64_683 : Index := 64#32
  ![0, v1145.toNat, 64]
def k0_off82 (k0_t2 : Fin k0_t2_loop.trips) : Fin 3 → Nat :=
  let c0_i32_686 : BitVec 32 := 0#32
  let v1150 : Index := Scalar.indexCast c0_i32_686
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1151 : Index := Scalar.indexCast v111
  let c80_687 : Index := 80#32
  ![0, v1151.toNat, 80]
def k0_off83 (k0_t2 : Fin k0_t2_loop.trips) : Fin 3 → Nat :=
  let c0_i32_690 : BitVec 32 := 0#32
  let v1156 : Index := Scalar.indexCast c0_i32_690
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1157 : Index := Scalar.indexCast v111
  let c96_691 : Index := 96#32
  ![0, v1157.toNat, 96]
def k0_off84 (k0_t2 : Fin k0_t2_loop.trips) : Fin 3 → Nat :=
  let c0_i32_694 : BitVec 32 := 0#32
  let v1162 : Index := Scalar.indexCast c0_i32_694
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1163 : Index := Scalar.indexCast v111
  let c112_695 : Index := 112#32
  ![0, v1163.toNat, 112]
def k0_off85 (k0_t2 : Fin k0_t2_loop.trips) : Fin 3 → Nat :=
  let c0_i32_698 : BitVec 32 := 0#32
  let v1168 : Index := Scalar.indexCast c0_i32_698
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1169 : Index := Scalar.indexCast v111
  let c128_699 : Index := 128#32
  ![0, v1169.toNat, 128]
def k0_off86 (k0_t2 : Fin k0_t2_loop.trips) : Fin 3 → Nat :=
  let c0_i32_702 : BitVec 32 := 0#32
  let v1174 : Index := Scalar.indexCast c0_i32_702
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1175 : Index := Scalar.indexCast v111
  let c144_703 : Index := 144#32
  ![0, v1175.toNat, 144]
def k0_off87 (k0_t2 : Fin k0_t2_loop.trips) : Fin 3 → Nat :=
  let c0_i32_706 : BitVec 32 := 0#32
  let v1180 : Index := Scalar.indexCast c0_i32_706
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1181 : Index := Scalar.indexCast v111
  let c160_707 : Index := 160#32
  ![0, v1181.toNat, 160]
def k0_off88 (k0_t2 : Fin k0_t2_loop.trips) : Fin 3 → Nat :=
  let c0_i32_710 : BitVec 32 := 0#32
  let v1186 : Index := Scalar.indexCast c0_i32_710
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1187 : Index := Scalar.indexCast v111
  let c176_711 : Index := 176#32
  ![0, v1187.toNat, 176]
def k0_off89 (k0_t2 : Fin k0_t2_loop.trips) : Fin 3 → Nat :=
  let c0_i32_714 : BitVec 32 := 0#32
  let v1192 : Index := Scalar.indexCast c0_i32_714
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1193 : Index := Scalar.indexCast v111
  let c192_715 : Index := 192#32
  ![0, v1193.toNat, 192]
def k0_off90 (k0_t2 : Fin k0_t2_loop.trips) : Fin 3 → Nat :=
  let c0_i32_718 : BitVec 32 := 0#32
  let v1198 : Index := Scalar.indexCast c0_i32_718
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1199 : Index := Scalar.indexCast v111
  let c208_719 : Index := 208#32
  ![0, v1199.toNat, 208]
def k0_off91 (k0_t2 : Fin k0_t2_loop.trips) : Fin 3 → Nat :=
  let c0_i32_722 : BitVec 32 := 0#32
  let v1204 : Index := Scalar.indexCast c0_i32_722
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1205 : Index := Scalar.indexCast v111
  let c224_723 : Index := 224#32
  ![0, v1205.toNat, 224]
def k0_off92 (k0_t2 : Fin k0_t2_loop.trips) : Fin 3 → Nat :=
  let c0_i32_726 : BitVec 32 := 0#32
  let v1210 : Index := Scalar.indexCast c0_i32_726
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1211 : Index := Scalar.indexCast v111
  let c240_727 : Index := 240#32
  ![0, v1211.toNat, 240]

def k0_chk27 (v1119 : IVec S16 32) (v1219 : IVec S16 32) : Prop :=
  (∀ a x, ((![v1119, v1219] : Fin 2 → IVec S16 32) a x).toNat < S32x512.size a)
theorem k0_idx27_inb : ∀ (v1119 : IVec S16 32) (v1219 : IVec S16 32) (k0_hw27 : k0_chk27 v1119 v1219), ∀ a x, ((![v1119, v1219] : Fin 2 → IVec S16 32) a x).toNat < S32x512.size a := fun v1119 v1219 k0_hw27 => k0_hw27
def k0_off93 (k0_t2 : Fin k0_t2_loop.trips) : Fin 3 → Nat :=
  let c0_i32_735 : BitVec 32 := 0#32
  let v1223 : Index := Scalar.indexCast c0_i32_735
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1224 : Index := Scalar.indexCast v111
  let c256_736 : Index := 256#32
  ![0, v1224.toNat, 256]

def k0_chk28 (v1119 : IVec S16 32) (v1229 : IVec S16 32) : Prop :=
  (∀ a x, ((![v1119, v1229] : Fin 2 → IVec S16 32) a x).toNat < S32x512.size a)
theorem k0_idx28_inb : ∀ (v1119 : IVec S16 32) (v1229 : IVec S16 32) (k0_hw28 : k0_chk28 v1119 v1229), ∀ a x, ((![v1119, v1229] : Fin 2 → IVec S16 32) a x).toNat < S32x512.size a := fun v1119 v1229 k0_hw28 => k0_hw28
def k0_off94 (k0_t2 : Fin k0_t2_loop.trips) : Fin 3 → Nat :=
  let c0_i32_742 : BitVec 32 := 0#32
  let v1233 : Index := Scalar.indexCast c0_i32_742
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1234 : Index := Scalar.indexCast v111
  let c272_743 : Index := 272#32
  ![0, v1234.toNat, 272]

def k0_chk29 (v1119 : IVec S16 32) (v1239 : IVec S16 32) : Prop :=
  (∀ a x, ((![v1119, v1239] : Fin 2 → IVec S16 32) a x).toNat < S32x512.size a)
theorem k0_idx29_inb : ∀ (v1119 : IVec S16 32) (v1239 : IVec S16 32) (k0_hw29 : k0_chk29 v1119 v1239), ∀ a x, ((![v1119, v1239] : Fin 2 → IVec S16 32) a x).toNat < S32x512.size a := fun v1119 v1239 k0_hw29 => k0_hw29
def k0_off95 (k0_t2 : Fin k0_t2_loop.trips) : Fin 3 → Nat :=
  let c0_i32_749 : BitVec 32 := 0#32
  let v1243 : Index := Scalar.indexCast c0_i32_749
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1244 : Index := Scalar.indexCast v111
  let c288_750 : Index := 288#32
  ![0, v1244.toNat, 288]

def k0_chk30 (v1119 : IVec S16 32) (v1249 : IVec S16 32) : Prop :=
  (∀ a x, ((![v1119, v1249] : Fin 2 → IVec S16 32) a x).toNat < S32x512.size a)
theorem k0_idx30_inb : ∀ (v1119 : IVec S16 32) (v1249 : IVec S16 32) (k0_hw30 : k0_chk30 v1119 v1249), ∀ a x, ((![v1119, v1249] : Fin 2 → IVec S16 32) a x).toNat < S32x512.size a := fun v1119 v1249 k0_hw30 => k0_hw30
def k0_off96 (k0_t2 : Fin k0_t2_loop.trips) : Fin 3 → Nat :=
  let c0_i32_756 : BitVec 32 := 0#32
  let v1253 : Index := Scalar.indexCast c0_i32_756
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1254 : Index := Scalar.indexCast v111
  let c304_757 : Index := 304#32
  ![0, v1254.toNat, 304]

def k0_chk31 (v1119 : IVec S16 32) (v1259 : IVec S16 32) : Prop :=
  (∀ a x, ((![v1119, v1259] : Fin 2 → IVec S16 32) a x).toNat < S32x512.size a)
theorem k0_idx31_inb : ∀ (v1119 : IVec S16 32) (v1259 : IVec S16 32) (k0_hw31 : k0_chk31 v1119 v1259), ∀ a x, ((![v1119, v1259] : Fin 2 → IVec S16 32) a x).toNat < S32x512.size a := fun v1119 v1259 k0_hw31 => k0_hw31
def k0_off97 (k0_t2 : Fin k0_t2_loop.trips) : Fin 3 → Nat :=
  let c0_i32_763 : BitVec 32 := 0#32
  let v1263 : Index := Scalar.indexCast c0_i32_763
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1264 : Index := Scalar.indexCast v111
  let c320_764 : Index := 320#32
  ![0, v1264.toNat, 320]

def k0_chk32 (v1119 : IVec S16 32) (v1269 : IVec S16 32) : Prop :=
  (∀ a x, ((![v1119, v1269] : Fin 2 → IVec S16 32) a x).toNat < S32x512.size a)
theorem k0_idx32_inb : ∀ (v1119 : IVec S16 32) (v1269 : IVec S16 32) (k0_hw32 : k0_chk32 v1119 v1269), ∀ a x, ((![v1119, v1269] : Fin 2 → IVec S16 32) a x).toNat < S32x512.size a := fun v1119 v1269 k0_hw32 => k0_hw32
def k0_off98 (k0_t2 : Fin k0_t2_loop.trips) : Fin 3 → Nat :=
  let c0_i32_770 : BitVec 32 := 0#32
  let v1273 : Index := Scalar.indexCast c0_i32_770
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1274 : Index := Scalar.indexCast v111
  let c336_771 : Index := 336#32
  ![0, v1274.toNat, 336]

def k0_chk33 (v1119 : IVec S16 32) (v1279 : IVec S16 32) : Prop :=
  (∀ a x, ((![v1119, v1279] : Fin 2 → IVec S16 32) a x).toNat < S32x512.size a)
theorem k0_idx33_inb : ∀ (v1119 : IVec S16 32) (v1279 : IVec S16 32) (k0_hw33 : k0_chk33 v1119 v1279), ∀ a x, ((![v1119, v1279] : Fin 2 → IVec S16 32) a x).toNat < S32x512.size a := fun v1119 v1279 k0_hw33 => k0_hw33
def k0_off99 (k0_t2 : Fin k0_t2_loop.trips) : Fin 3 → Nat :=
  let c0_i32_777 : BitVec 32 := 0#32
  let v1283 : Index := Scalar.indexCast c0_i32_777
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1284 : Index := Scalar.indexCast v111
  let c352_778 : Index := 352#32
  ![0, v1284.toNat, 352]

def k0_chk34 (v1119 : IVec S16 32) (v1289 : IVec S16 32) : Prop :=
  (∀ a x, ((![v1119, v1289] : Fin 2 → IVec S16 32) a x).toNat < S32x512.size a)
theorem k0_idx34_inb : ∀ (v1119 : IVec S16 32) (v1289 : IVec S16 32) (k0_hw34 : k0_chk34 v1119 v1289), ∀ a x, ((![v1119, v1289] : Fin 2 → IVec S16 32) a x).toNat < S32x512.size a := fun v1119 v1289 k0_hw34 => k0_hw34
def k0_off100 (k0_t2 : Fin k0_t2_loop.trips) : Fin 3 → Nat :=
  let c0_i32_784 : BitVec 32 := 0#32
  let v1293 : Index := Scalar.indexCast c0_i32_784
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1294 : Index := Scalar.indexCast v111
  let c368_785 : Index := 368#32
  ![0, v1294.toNat, 368]

def k0_chk35 (v1119 : IVec S16 32) (v1299 : IVec S16 32) : Prop :=
  (∀ a x, ((![v1119, v1299] : Fin 2 → IVec S16 32) a x).toNat < S32x512.size a)
theorem k0_idx35_inb : ∀ (v1119 : IVec S16 32) (v1299 : IVec S16 32) (k0_hw35 : k0_chk35 v1119 v1299), ∀ a x, ((![v1119, v1299] : Fin 2 → IVec S16 32) a x).toNat < S32x512.size a := fun v1119 v1299 k0_hw35 => k0_hw35
def k0_off101 (k0_t2 : Fin k0_t2_loop.trips) : Fin 3 → Nat :=
  let c0_i32_791 : BitVec 32 := 0#32
  let v1303 : Index := Scalar.indexCast c0_i32_791
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1304 : Index := Scalar.indexCast v111
  let c384_792 : Index := 384#32
  ![0, v1304.toNat, 384]

def k0_chk36 (v1119 : IVec S16 32) (v1309 : IVec S16 32) : Prop :=
  (∀ a x, ((![v1119, v1309] : Fin 2 → IVec S16 32) a x).toNat < S32x512.size a)
theorem k0_idx36_inb : ∀ (v1119 : IVec S16 32) (v1309 : IVec S16 32) (k0_hw36 : k0_chk36 v1119 v1309), ∀ a x, ((![v1119, v1309] : Fin 2 → IVec S16 32) a x).toNat < S32x512.size a := fun v1119 v1309 k0_hw36 => k0_hw36
def k0_off102 (k0_t2 : Fin k0_t2_loop.trips) : Fin 3 → Nat :=
  let c0_i32_798 : BitVec 32 := 0#32
  let v1313 : Index := Scalar.indexCast c0_i32_798
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1314 : Index := Scalar.indexCast v111
  let c400_799 : Index := 400#32
  ![0, v1314.toNat, 400]

def k0_chk37 (v1119 : IVec S16 32) (v1319 : IVec S16 32) : Prop :=
  (∀ a x, ((![v1119, v1319] : Fin 2 → IVec S16 32) a x).toNat < S32x512.size a)
theorem k0_idx37_inb : ∀ (v1119 : IVec S16 32) (v1319 : IVec S16 32) (k0_hw37 : k0_chk37 v1119 v1319), ∀ a x, ((![v1119, v1319] : Fin 2 → IVec S16 32) a x).toNat < S32x512.size a := fun v1119 v1319 k0_hw37 => k0_hw37
def k0_off103 (k0_t2 : Fin k0_t2_loop.trips) : Fin 3 → Nat :=
  let c0_i32_805 : BitVec 32 := 0#32
  let v1323 : Index := Scalar.indexCast c0_i32_805
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1324 : Index := Scalar.indexCast v111
  let c416_806 : Index := 416#32
  ![0, v1324.toNat, 416]

def k0_chk38 (v1119 : IVec S16 32) (v1329 : IVec S16 32) : Prop :=
  (∀ a x, ((![v1119, v1329] : Fin 2 → IVec S16 32) a x).toNat < S32x512.size a)
theorem k0_idx38_inb : ∀ (v1119 : IVec S16 32) (v1329 : IVec S16 32) (k0_hw38 : k0_chk38 v1119 v1329), ∀ a x, ((![v1119, v1329] : Fin 2 → IVec S16 32) a x).toNat < S32x512.size a := fun v1119 v1329 k0_hw38 => k0_hw38
def k0_off104 (k0_t2 : Fin k0_t2_loop.trips) : Fin 3 → Nat :=
  let c0_i32_812 : BitVec 32 := 0#32
  let v1333 : Index := Scalar.indexCast c0_i32_812
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1334 : Index := Scalar.indexCast v111
  let c432_813 : Index := 432#32
  ![0, v1334.toNat, 432]

def k0_chk39 (v1119 : IVec S16 32) (v1339 : IVec S16 32) : Prop :=
  (∀ a x, ((![v1119, v1339] : Fin 2 → IVec S16 32) a x).toNat < S32x512.size a)
theorem k0_idx39_inb : ∀ (v1119 : IVec S16 32) (v1339 : IVec S16 32) (k0_hw39 : k0_chk39 v1119 v1339), ∀ a x, ((![v1119, v1339] : Fin 2 → IVec S16 32) a x).toNat < S32x512.size a := fun v1119 v1339 k0_hw39 => k0_hw39
def k0_off105 (k0_t2 : Fin k0_t2_loop.trips) : Fin 3 → Nat :=
  let c0_i32_819 : BitVec 32 := 0#32
  let v1343 : Index := Scalar.indexCast c0_i32_819
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1344 : Index := Scalar.indexCast v111
  let c448_820 : Index := 448#32
  ![0, v1344.toNat, 448]

def k0_chk40 (v1119 : IVec S16 32) (v1349 : IVec S16 32) : Prop :=
  (∀ a x, ((![v1119, v1349] : Fin 2 → IVec S16 32) a x).toNat < S32x512.size a)
theorem k0_idx40_inb : ∀ (v1119 : IVec S16 32) (v1349 : IVec S16 32) (k0_hw40 : k0_chk40 v1119 v1349), ∀ a x, ((![v1119, v1349] : Fin 2 → IVec S16 32) a x).toNat < S32x512.size a := fun v1119 v1349 k0_hw40 => k0_hw40
def k0_off106 (k0_t2 : Fin k0_t2_loop.trips) : Fin 3 → Nat :=
  let c0_i32_826 : BitVec 32 := 0#32
  let v1353 : Index := Scalar.indexCast c0_i32_826
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1354 : Index := Scalar.indexCast v111
  let c464_827 : Index := 464#32
  ![0, v1354.toNat, 464]

def k0_chk41 (v1119 : IVec S16 32) (v1359 : IVec S16 32) : Prop :=
  (∀ a x, ((![v1119, v1359] : Fin 2 → IVec S16 32) a x).toNat < S32x512.size a)
theorem k0_idx41_inb : ∀ (v1119 : IVec S16 32) (v1359 : IVec S16 32) (k0_hw41 : k0_chk41 v1119 v1359), ∀ a x, ((![v1119, v1359] : Fin 2 → IVec S16 32) a x).toNat < S32x512.size a := fun v1119 v1359 k0_hw41 => k0_hw41
def k0_off107 (k0_t2 : Fin k0_t2_loop.trips) : Fin 3 → Nat :=
  let c0_i32_833 : BitVec 32 := 0#32
  let v1363 : Index := Scalar.indexCast c0_i32_833
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1364 : Index := Scalar.indexCast v111
  let c480_834 : Index := 480#32
  ![0, v1364.toNat, 480]

def k0_chk42 (v1119 : IVec S16 32) (v1369 : IVec S16 32) : Prop :=
  (∀ a x, ((![v1119, v1369] : Fin 2 → IVec S16 32) a x).toNat < S32x512.size a)
theorem k0_idx42_inb : ∀ (v1119 : IVec S16 32) (v1369 : IVec S16 32) (k0_hw42 : k0_chk42 v1119 v1369), ∀ a x, ((![v1119, v1369] : Fin 2 → IVec S16 32) a x).toNat < S32x512.size a := fun v1119 v1369 k0_hw42 => k0_hw42
def k0_off108 (k0_t2 : Fin k0_t2_loop.trips) : Fin 3 → Nat :=
  let c0_i32_840 : BitVec 32 := 0#32
  let v1373 : Index := Scalar.indexCast c0_i32_840
  let c0_i32_59 : BitVec 32 := 0#32
  let c1_i32_60 : BitVec 32 := 1#32
  let arg16 : BitVec 32 := Scf.iv c0_i32_59 c1_i32_60 k0_t2
  let c2_i32_111 : BitVec 32 := 2#32
  let v110 : BitVec 32 := Scalar.muli arg16 c2_i32_111
  let c1_i32_112 : BitVec 32 := 1#32
  let v111 : BitVec 32 := Scalar.addi v110 c1_i32_112
  let v1374 : Index := Scalar.indexCast v111
  let c496_841 : Index := 496#32
  ![0, v1374.toNat, 496]
def k0_cond3 (k0_t1 : Fin k0_t1_loop.trips) : BitVec 1 :=
  let c0_i32_17 : BitVec 32 := 0#32
  let c1_i32 : BitVec 32 := 1#32
  let arg15 : BitVec 32 := Scf.iv c0_i32_17 c1_i32 k0_t1
  let c2_i32_71 : BitVec 32 := 2#32
  let v72 : BitVec 32 := Scalar.muli arg15 c2_i32_71
  let c1_i32_72 : BitVec 32 := 1#32
  let v73 : BitVec 32 := Scalar.addi v72 c1_i32_72
  let c1_i32_91 : BitVec 32 := 1#32
  let v92 : BitVec 32 := Scalar.addi v73 c1_i32_91
  let c128_i32_92 : BitVec 32 := 128#32
  let v93 : BitVec 1 := Scalar.cmpi .slt v92 c128_i32_92
  let v94 : BitVec 32 := Scalar.extui v93
  let c0_i32_93 : BitVec 32 := 0#32
  let v95 : BitVec 1 := Scalar.cmpi .ne v94 c0_i32_93
  v95

def k0_off109 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_111 : BitVec 32 := 4096#32
  let v110 : BitVec 32 := Scalar.muli v1 c4096_i32_111
  let c0_i32_17 : BitVec 32 := 0#32
  let c1_i32 : BitVec 32 := 1#32
  let arg15 : BitVec 32 := Scf.iv c0_i32_17 c1_i32 k0_t1
  let c2_i32_71 : BitVec 32 := 2#32
  let v72 : BitVec 32 := Scalar.muli arg15 c2_i32_71
  let c1_i32_72 : BitVec 32 := 1#32
  let v73 : BitVec 32 := Scalar.addi v72 c1_i32_72
  let c1_i32_110 : BitVec 32 := 1#32
  let v109 : BitVec 32 := Scalar.addi v73 c1_i32_110
  let c32_i32_112 : BitVec 32 := 32#32
  let v111 : BitVec 32 := Scalar.muli v109 c32_i32_112
  let v112 : BitVec 32 := Scalar.addi v110 v111
  let c0_i32_116 : BitVec 32 := 0#32
  ![v112.toNat, 0]
def k0_off110 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_120 : BitVec 32 := 4096#32
  let v119 : BitVec 32 := Scalar.muli v1 c4096_i32_120
  let c0_i32_17 : BitVec 32 := 0#32
  let c1_i32 : BitVec 32 := 1#32
  let arg15 : BitVec 32 := Scf.iv c0_i32_17 c1_i32 k0_t1
  let c2_i32_71 : BitVec 32 := 2#32
  let v72 : BitVec 32 := Scalar.muli arg15 c2_i32_71
  let c1_i32_72 : BitVec 32 := 1#32
  let v73 : BitVec 32 := Scalar.addi v72 c1_i32_72
  let c1_i32_110 : BitVec 32 := 1#32
  let v109 : BitVec 32 := Scalar.addi v73 c1_i32_110
  let c32_i32_121 : BitVec 32 := 32#32
  let v120 : BitVec 32 := Scalar.muli v109 c32_i32_121
  let v121 : BitVec 32 := Scalar.addi v119 v120
  let c0_i32_125 : BitVec 32 := 0#32
  ![v121.toNat, 0]
def k0_cond4 (k0_t1 : Fin k0_t1_loop.trips) : BitVec 1 :=
  let c0_i32_17 : BitVec 32 := 0#32
  let c1_i32 : BitVec 32 := 1#32
  let arg15 : BitVec 32 := Scf.iv c0_i32_17 c1_i32 k0_t1
  let c2_i32_71 : BitVec 32 := 2#32
  let v72 : BitVec 32 := Scalar.muli arg15 c2_i32_71
  let c1_i32_72 : BitVec 32 := 1#32
  let v73 : BitVec 32 := Scalar.addi v72 c1_i32_72
  let c2_i32_94 : BitVec 32 := 2#32
  let v96 : BitVec 1 := Scalar.cmpi .sge v73 c2_i32_94
  let v97 : BitVec 32 := Scalar.extui v96
  let c0_i32_95 : BitVec 32 := 0#32
  let v98 : BitVec 1 := Scalar.cmpi .ne v97 c0_i32_95
  v98

def k0_off111 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_111 : BitVec 32 := 4096#32
  let v110 : BitVec 32 := Scalar.muli v1 c4096_i32_111
  let c0_i32_17 : BitVec 32 := 0#32
  let c1_i32 : BitVec 32 := 1#32
  let arg15 : BitVec 32 := Scf.iv c0_i32_17 c1_i32 k0_t1
  let c2_i32_71 : BitVec 32 := 2#32
  let v72 : BitVec 32 := Scalar.muli arg15 c2_i32_71
  let c1_i32_72 : BitVec 32 := 1#32
  let v73 : BitVec 32 := Scalar.addi v72 c1_i32_72
  let c2_i32_110 : BitVec 32 := 2#32
  let v109 : BitVec 32 := Scalar.subi v73 c2_i32_110
  let c32_i32_112 : BitVec 32 := 32#32
  let v111 : BitVec 32 := Scalar.muli v109 c32_i32_112
  let v112 : BitVec 32 := Scalar.addi v110 v111
  let c0_i32_116 : BitVec 32 := 0#32
  ![v112.toNat, 0]
@[reducible] def k0_t13_loop : Scf.Loop 32 :=
  let c0_i32_97 : BitVec 32 := 0#32
  let c16_i32_98 : BitVec 32 := 16#32
  let v99 : BitVec 32 := Scalar.addi c0_i32_97 c16_i32_98
  let c1_i32_99 : BitVec 32 := 1#32
  ⟨c0_i32_97, v99, c1_i32_99⟩
def k0_off112 (k0_t13 : Fin k0_t13_loop.trips) : Fin 3 → Nat :=
  let c1_i32_113 : BitVec 32 := 1#32
  let v112 : Index := Scalar.indexCast c1_i32_113
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v113 : Index := Scalar.indexCast v109
  let c0 : Index := 0#32
  ![1, v113.toNat, 0]
def k0_off113 (k0_t13 : Fin k0_t13_loop.trips) : Fin 3 → Nat :=
  let c1_i32_114 : BitVec 32 := 1#32
  let v115 : Index := Scalar.indexCast c1_i32_114
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v116 : Index := Scalar.indexCast v109
  let c16 : Index := 16#32
  ![1, v116.toNat, 16]
def k0_off114 (k0_t13 : Fin k0_t13_loop.trips) : Fin 3 → Nat :=
  let c1_i32_115 : BitVec 32 := 1#32
  let v118 : Index := Scalar.indexCast c1_i32_115
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v119 : Index := Scalar.indexCast v109
  let c32 : Index := 32#32
  ![1, v119.toNat, 32]
def k0_off115 (k0_t13 : Fin k0_t13_loop.trips) : Fin 3 → Nat :=
  let c1_i32_116 : BitVec 32 := 1#32
  let v121 : Index := Scalar.indexCast c1_i32_116
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v122 : Index := Scalar.indexCast v109
  let c48 : Index := 48#32
  ![1, v122.toNat, 48]
def k0_off116 (k0_t13 : Fin k0_t13_loop.trips) : Fin 3 → Nat :=
  let c1_i32_117 : BitVec 32 := 1#32
  let v124 : Index := Scalar.indexCast c1_i32_117
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v125 : Index := Scalar.indexCast v109
  let c64 : Index := 64#32
  ![1, v125.toNat, 64]
def k0_off117 (k0_t13 : Fin k0_t13_loop.trips) : Fin 3 → Nat :=
  let c1_i32_118 : BitVec 32 := 1#32
  let v127 : Index := Scalar.indexCast c1_i32_118
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v128 : Index := Scalar.indexCast v109
  let c80 : Index := 80#32
  ![1, v128.toNat, 80]
def k0_off118 (k0_t13 : Fin k0_t13_loop.trips) : Fin 3 → Nat :=
  let c1_i32_119 : BitVec 32 := 1#32
  let v130 : Index := Scalar.indexCast c1_i32_119
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v131 : Index := Scalar.indexCast v109
  let c96 : Index := 96#32
  ![1, v131.toNat, 96]
def k0_off119 (k0_t13 : Fin k0_t13_loop.trips) : Fin 3 → Nat :=
  let c1_i32_120 : BitVec 32 := 1#32
  let v133 : Index := Scalar.indexCast c1_i32_120
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v134 : Index := Scalar.indexCast v109
  let c112 : Index := 112#32
  ![1, v134.toNat, 112]
def k0_off120 (k0_t13 : Fin k0_t13_loop.trips) : Fin 3 → Nat :=
  let c1_i32_121 : BitVec 32 := 1#32
  let v136 : Index := Scalar.indexCast c1_i32_121
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v137 : Index := Scalar.indexCast v109
  let c128 : Index := 128#32
  ![1, v137.toNat, 128]
def k0_off121 (k0_t13 : Fin k0_t13_loop.trips) : Fin 3 → Nat :=
  let c1_i32_122 : BitVec 32 := 1#32
  let v139 : Index := Scalar.indexCast c1_i32_122
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v140 : Index := Scalar.indexCast v109
  let c144 : Index := 144#32
  ![1, v140.toNat, 144]
def k0_off122 (k0_t13 : Fin k0_t13_loop.trips) : Fin 3 → Nat :=
  let c1_i32_123 : BitVec 32 := 1#32
  let v142 : Index := Scalar.indexCast c1_i32_123
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v143 : Index := Scalar.indexCast v109
  let c160 : Index := 160#32
  ![1, v143.toNat, 160]
def k0_off123 (k0_t13 : Fin k0_t13_loop.trips) : Fin 3 → Nat :=
  let c1_i32_124 : BitVec 32 := 1#32
  let v145 : Index := Scalar.indexCast c1_i32_124
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v146 : Index := Scalar.indexCast v109
  let c176 : Index := 176#32
  ![1, v146.toNat, 176]
def k0_off124 (k0_t13 : Fin k0_t13_loop.trips) : Fin 3 → Nat :=
  let c1_i32_125 : BitVec 32 := 1#32
  let v148 : Index := Scalar.indexCast c1_i32_125
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v149 : Index := Scalar.indexCast v109
  let c192 : Index := 192#32
  ![1, v149.toNat, 192]
def k0_off125 (k0_t13 : Fin k0_t13_loop.trips) : Fin 3 → Nat :=
  let c1_i32_126 : BitVec 32 := 1#32
  let v151 : Index := Scalar.indexCast c1_i32_126
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v152 : Index := Scalar.indexCast v109
  let c208 : Index := 208#32
  ![1, v152.toNat, 208]
def k0_off126 (k0_t13 : Fin k0_t13_loop.trips) : Fin 3 → Nat :=
  let c1_i32_127 : BitVec 32 := 1#32
  let v154 : Index := Scalar.indexCast c1_i32_127
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v155 : Index := Scalar.indexCast v109
  let c224 : Index := 224#32
  ![1, v155.toNat, 224]
def k0_off127 (k0_t13 : Fin k0_t13_loop.trips) : Fin 3 → Nat :=
  let c1_i32_128 : BitVec 32 := 1#32
  let v157 : Index := Scalar.indexCast c1_i32_128
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v158 : Index := Scalar.indexCast v109
  let c240 : Index := 240#32
  ![1, v158.toNat, 240]
def k0_off128 (k0_t13 : Fin k0_t13_loop.trips) : Fin 3 → Nat :=
  let c1_i32_129 : BitVec 32 := 1#32
  let v160 : Index := Scalar.indexCast c1_i32_129
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v161 : Index := Scalar.indexCast v111
  let c0_130 : Index := 0#32
  ![1, v161.toNat, 0]
def k0_off129 (k0_t13 : Fin k0_t13_loop.trips) : Fin 3 → Nat :=
  let c1_i32_131 : BitVec 32 := 1#32
  let v163 : Index := Scalar.indexCast c1_i32_131
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v164 : Index := Scalar.indexCast v111
  let c16_132 : Index := 16#32
  ![1, v164.toNat, 16]
def k0_off130 (k0_t13 : Fin k0_t13_loop.trips) : Fin 3 → Nat :=
  let c1_i32_133 : BitVec 32 := 1#32
  let v166 : Index := Scalar.indexCast c1_i32_133
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v167 : Index := Scalar.indexCast v111
  let c32_134 : Index := 32#32
  ![1, v167.toNat, 32]
def k0_off131 (k0_t13 : Fin k0_t13_loop.trips) : Fin 3 → Nat :=
  let c1_i32_135 : BitVec 32 := 1#32
  let v169 : Index := Scalar.indexCast c1_i32_135
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v170 : Index := Scalar.indexCast v111
  let c48_136 : Index := 48#32
  ![1, v170.toNat, 48]
def k0_off132 (k0_t13 : Fin k0_t13_loop.trips) : Fin 3 → Nat :=
  let c1_i32_137 : BitVec 32 := 1#32
  let v172 : Index := Scalar.indexCast c1_i32_137
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v173 : Index := Scalar.indexCast v111
  let c64_138 : Index := 64#32
  ![1, v173.toNat, 64]
def k0_off133 (k0_t13 : Fin k0_t13_loop.trips) : Fin 3 → Nat :=
  let c1_i32_139 : BitVec 32 := 1#32
  let v175 : Index := Scalar.indexCast c1_i32_139
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v176 : Index := Scalar.indexCast v111
  let c80_140 : Index := 80#32
  ![1, v176.toNat, 80]
def k0_off134 (k0_t13 : Fin k0_t13_loop.trips) : Fin 3 → Nat :=
  let c1_i32_141 : BitVec 32 := 1#32
  let v178 : Index := Scalar.indexCast c1_i32_141
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v179 : Index := Scalar.indexCast v111
  let c96_142 : Index := 96#32
  ![1, v179.toNat, 96]
def k0_off135 (k0_t13 : Fin k0_t13_loop.trips) : Fin 3 → Nat :=
  let c1_i32_143 : BitVec 32 := 1#32
  let v181 : Index := Scalar.indexCast c1_i32_143
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v182 : Index := Scalar.indexCast v111
  let c112_144 : Index := 112#32
  ![1, v182.toNat, 112]
def k0_off136 (k0_t13 : Fin k0_t13_loop.trips) : Fin 3 → Nat :=
  let c1_i32_145 : BitVec 32 := 1#32
  let v184 : Index := Scalar.indexCast c1_i32_145
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v185 : Index := Scalar.indexCast v111
  let c128_146 : Index := 128#32
  ![1, v185.toNat, 128]
def k0_off137 (k0_t13 : Fin k0_t13_loop.trips) : Fin 3 → Nat :=
  let c1_i32_147 : BitVec 32 := 1#32
  let v187 : Index := Scalar.indexCast c1_i32_147
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v188 : Index := Scalar.indexCast v111
  let c144_148 : Index := 144#32
  ![1, v188.toNat, 144]
def k0_off138 (k0_t13 : Fin k0_t13_loop.trips) : Fin 3 → Nat :=
  let c1_i32_149 : BitVec 32 := 1#32
  let v190 : Index := Scalar.indexCast c1_i32_149
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v191 : Index := Scalar.indexCast v111
  let c160_150 : Index := 160#32
  ![1, v191.toNat, 160]
def k0_off139 (k0_t13 : Fin k0_t13_loop.trips) : Fin 3 → Nat :=
  let c1_i32_151 : BitVec 32 := 1#32
  let v193 : Index := Scalar.indexCast c1_i32_151
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v194 : Index := Scalar.indexCast v111
  let c176_152 : Index := 176#32
  ![1, v194.toNat, 176]
def k0_off140 (k0_t13 : Fin k0_t13_loop.trips) : Fin 3 → Nat :=
  let c1_i32_153 : BitVec 32 := 1#32
  let v196 : Index := Scalar.indexCast c1_i32_153
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v197 : Index := Scalar.indexCast v111
  let c192_154 : Index := 192#32
  ![1, v197.toNat, 192]
def k0_off141 (k0_t13 : Fin k0_t13_loop.trips) : Fin 3 → Nat :=
  let c1_i32_155 : BitVec 32 := 1#32
  let v199 : Index := Scalar.indexCast c1_i32_155
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v200 : Index := Scalar.indexCast v111
  let c208_156 : Index := 208#32
  ![1, v200.toNat, 208]
def k0_off142 (k0_t13 : Fin k0_t13_loop.trips) : Fin 3 → Nat :=
  let c1_i32_157 : BitVec 32 := 1#32
  let v202 : Index := Scalar.indexCast c1_i32_157
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v203 : Index := Scalar.indexCast v111
  let c224_158 : Index := 224#32
  ![1, v203.toNat, 224]
def k0_off143 (k0_t13 : Fin k0_t13_loop.trips) : Fin 3 → Nat :=
  let c1_i32_159 : BitVec 32 := 1#32
  let v205 : Index := Scalar.indexCast c1_i32_159
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v206 : Index := Scalar.indexCast v111
  let c240_160 : Index := 240#32
  ![1, v206.toNat, 240]
@[reducible] def k0_t14_loop : Scf.Loop 32 :=
  let c0_i32_178 : BitVec 32 := 0#32
  let c32_i32_179 : BitVec 32 := 32#32
  let v241 : BitVec 32 := Scalar.addi c0_i32_178 c32_i32_179
  let c1_i32_180 : BitVec 32 := 1#32
  ⟨c0_i32_178, v241, c1_i32_180⟩
def k0_off144 (k0_t14 : Fin k0_t14_loop.trips) : Fin 1 → Nat :=
  let c0_i32_178 : BitVec 32 := 0#32
  let c1_i32_180 : BitVec 32 := 1#32
  let arg17 : BitVec 32 := Scf.iv c0_i32_178 c1_i32_180 k0_t14
  let c16_i32_845 : BitVec 32 := 16#32
  let v1382 : BitVec 32 := Scalar.muli arg17 c16_i32_845
  let v1383 : Index := Scalar.indexCast v1382
  ![v1383.toNat]
@[reducible] def k0_t15_loop : Scf.Loop 32 :=
  let c0_i32_847 : BitVec 32 := 0#32
  let c16_i32_848 : BitVec 32 := 16#32
  let v1387 : BitVec 32 := Scalar.addi c0_i32_847 c16_i32_848
  let c1_i32_849 : BitVec 32 := 1#32
  ⟨c0_i32_847, v1387, c1_i32_849⟩

def k0_chk43 (v1397 : IVec S16 32) : Prop :=
  (∀ a x, ((![v1397] : Fin 1 → IVec S16 32) a x).toNat < S512.size a)
theorem k0_idx43_inb : ∀ (v1397 : IVec S16 32) (k0_hw43 : k0_chk43 v1397), ∀ a x, ((![v1397] : Fin 1 → IVec S16 32) a x).toNat < S512.size a := fun v1397 k0_hw43 => k0_hw43

def k0_chk44 (v1391 : IVec S16 32) : Prop :=
  (∀ a x, ((![v1391] : Fin 1 → IVec S16 32) a x).toNat < S512.size a)
theorem k0_idx44_inb : ∀ (v1391 : IVec S16 32) (k0_hw44 : k0_chk44 v1391), ∀ a x, ((![v1391] : Fin 1 → IVec S16 32) a x).toNat < S512.size a := fun v1391 k0_hw44 => k0_hw44
@[reducible] def k0_t16_loop : Scf.Loop 32 :=
  let c0_i32_247 : BitVec 32 := 0#32
  let c32_i32_248 : BitVec 32 := 32#32
  let v339 : BitVec 32 := Scalar.addi c0_i32_247 c32_i32_248
  let c1_i32_249 : BitVec 32 := 1#32
  ⟨c0_i32_247, v339, c1_i32_249⟩
def k0_off145 (k0_t16 : Fin k0_t16_loop.trips) : Fin 1 → Nat :=
  let c0_i32_247 : BitVec 32 := 0#32
  let c1_i32_249 : BitVec 32 := 1#32
  let arg17 : BitVec 32 := Scf.iv c0_i32_247 c1_i32_249 k0_t16
  let c16_i32_845 : BitVec 32 := 16#32
  let v1382 : BitVec 32 := Scalar.muli arg17 c16_i32_845
  let v1383 : Index := Scalar.indexCast v1382
  ![v1383.toNat]
@[reducible] def k0_t17_loop : Scf.Loop 32 :=
  let c0_i32_847 : BitVec 32 := 0#32
  let c16_i32_848 : BitVec 32 := 16#32
  let v1387 : BitVec 32 := Scalar.addi c0_i32_847 c16_i32_848
  let c1_i32_849 : BitVec 32 := 1#32
  ⟨c0_i32_847, v1387, c1_i32_849⟩

def k0_chk45 (v1397 : IVec S16 32) : Prop :=
  (∀ a x, ((![v1397] : Fin 1 → IVec S16 32) a x).toNat < S512.size a)
theorem k0_idx45_inb : ∀ (v1397 : IVec S16 32) (k0_hw45 : k0_chk45 v1397), ∀ a x, ((![v1397] : Fin 1 → IVec S16 32) a x).toNat < S512.size a := fun v1397 k0_hw45 => k0_hw45

def k0_chk46 (v1391 : IVec S16 32) : Prop :=
  (∀ a x, ((![v1391] : Fin 1 → IVec S16 32) a x).toNat < S512.size a)
theorem k0_idx46_inb : ∀ (v1391 : IVec S16 32) (k0_hw46 : k0_chk46 v1391), ∀ a x, ((![v1391] : Fin 1 → IVec S16 32) a x).toNat < S512.size a := fun v1391 k0_hw46 => k0_hw46
@[reducible] def k0_t18_loop : Scf.Loop 32 :=
  let c0_i32_316 : BitVec 32 := 0#32
  let c32_i32_317 : BitVec 32 := 32#32
  let v469 : BitVec 32 := Scalar.addi c0_i32_316 c32_i32_317
  let c1_i32_318 : BitVec 32 := 1#32
  ⟨c0_i32_316, v469, c1_i32_318⟩
def k0_off146 (k0_t18 : Fin k0_t18_loop.trips) : Fin 1 → Nat :=
  let c0_i32_316 : BitVec 32 := 0#32
  let c1_i32_318 : BitVec 32 := 1#32
  let arg17 : BitVec 32 := Scf.iv c0_i32_316 c1_i32_318 k0_t18
  let c16_i32_844 : BitVec 32 := 16#32
  let v1382 : BitVec 32 := Scalar.muli arg17 c16_i32_844
  let v1383 : Index := Scalar.indexCast v1382
  ![v1383.toNat]
@[reducible] def k0_t19_loop : Scf.Loop 32 :=
  let c0_i32_846 : BitVec 32 := 0#32
  let c16_i32_847 : BitVec 32 := 16#32
  let v1387 : BitVec 32 := Scalar.addi c0_i32_846 c16_i32_847
  let c1_i32_848 : BitVec 32 := 1#32
  ⟨c0_i32_846, v1387, c1_i32_848⟩

def k0_chk47 (v1397 : IVec S16 32) : Prop :=
  (∀ a x, ((![v1397] : Fin 1 → IVec S16 32) a x).toNat < S512.size a)
theorem k0_idx47_inb : ∀ (v1397 : IVec S16 32) (k0_hw47 : k0_chk47 v1397), ∀ a x, ((![v1397] : Fin 1 → IVec S16 32) a x).toNat < S512.size a := fun v1397 k0_hw47 => k0_hw47

def k0_chk48 (v1391 : IVec S16 32) : Prop :=
  (∀ a x, ((![v1391] : Fin 1 → IVec S16 32) a x).toNat < S512.size a)
theorem k0_idx48_inb : ∀ (v1391 : IVec S16 32) (k0_hw48 : k0_chk48 v1391), ∀ a x, ((![v1391] : Fin 1 → IVec S16 32) a x).toNat < S512.size a := fun v1391 k0_hw48 => k0_hw48
@[reducible] def k0_t20_loop : Scf.Loop 32 :=
  let c0_i32_385 : BitVec 32 := 0#32
  let c32_i32_386 : BitVec 32 := 32#32
  let v631 : BitVec 32 := Scalar.addi c0_i32_385 c32_i32_386
  let c1_i32_387 : BitVec 32 := 1#32
  ⟨c0_i32_385, v631, c1_i32_387⟩
def k0_off147 (k0_t20 : Fin k0_t20_loop.trips) : Fin 1 → Nat :=
  let c0_i32_385 : BitVec 32 := 0#32
  let c1_i32_387 : BitVec 32 := 1#32
  let arg17 : BitVec 32 := Scf.iv c0_i32_385 c1_i32_387 k0_t20
  let c16_i32_844 : BitVec 32 := 16#32
  let v1382 : BitVec 32 := Scalar.muli arg17 c16_i32_844
  let v1383 : Index := Scalar.indexCast v1382
  ![v1383.toNat]
@[reducible] def k0_t21_loop : Scf.Loop 32 :=
  let c0_i32_846 : BitVec 32 := 0#32
  let c16_i32_847 : BitVec 32 := 16#32
  let v1387 : BitVec 32 := Scalar.addi c0_i32_846 c16_i32_847
  let c1_i32_848 : BitVec 32 := 1#32
  ⟨c0_i32_846, v1387, c1_i32_848⟩

def k0_chk49 (v1397 : IVec S16 32) : Prop :=
  (∀ a x, ((![v1397] : Fin 1 → IVec S16 32) a x).toNat < S512.size a)
theorem k0_idx49_inb : ∀ (v1397 : IVec S16 32) (k0_hw49 : k0_chk49 v1397), ∀ a x, ((![v1397] : Fin 1 → IVec S16 32) a x).toNat < S512.size a := fun v1397 k0_hw49 => k0_hw49

def k0_chk50 (v1391 : IVec S16 32) : Prop :=
  (∀ a x, ((![v1391] : Fin 1 → IVec S16 32) a x).toNat < S512.size a)
theorem k0_idx50_inb : ∀ (v1391 : IVec S16 32) (k0_hw50 : k0_chk50 v1391), ∀ a x, ((![v1391] : Fin 1 → IVec S16 32) a x).toNat < S512.size a := fun v1391 k0_hw50 => k0_hw50
@[reducible] def k0_t22_loop : Scf.Loop 32 :=
  let c0_i32_454 : BitVec 32 := 0#32
  let c32_i32_455 : BitVec 32 := 32#32
  let v825 : BitVec 32 := Scalar.addi c0_i32_454 c32_i32_455
  let c1_i32_456 : BitVec 32 := 1#32
  ⟨c0_i32_454, v825, c1_i32_456⟩
def k0_off148 (k0_t22 : Fin k0_t22_loop.trips) : Fin 1 → Nat :=
  let c0_i32_454 : BitVec 32 := 0#32
  let c1_i32_456 : BitVec 32 := 1#32
  let arg17 : BitVec 32 := Scf.iv c0_i32_454 c1_i32_456 k0_t22
  let c16_i32_845 : BitVec 32 := 16#32
  let v1382 : BitVec 32 := Scalar.muli arg17 c16_i32_845
  let v1383 : Index := Scalar.indexCast v1382
  ![v1383.toNat]
@[reducible] def k0_t23_loop : Scf.Loop 32 :=
  let c0_i32_847 : BitVec 32 := 0#32
  let c16_i32_848 : BitVec 32 := 16#32
  let v1387 : BitVec 32 := Scalar.addi c0_i32_847 c16_i32_848
  let c1_i32_849 : BitVec 32 := 1#32
  ⟨c0_i32_847, v1387, c1_i32_849⟩

def k0_chk51 (v1397 : IVec S16 32) : Prop :=
  (∀ a x, ((![v1397] : Fin 1 → IVec S16 32) a x).toNat < S512.size a)
theorem k0_idx51_inb : ∀ (v1397 : IVec S16 32) (k0_hw51 : k0_chk51 v1397), ∀ a x, ((![v1397] : Fin 1 → IVec S16 32) a x).toNat < S512.size a := fun v1397 k0_hw51 => k0_hw51

def k0_chk52 (v1391 : IVec S16 32) : Prop :=
  (∀ a x, ((![v1391] : Fin 1 → IVec S16 32) a x).toNat < S512.size a)
theorem k0_idx52_inb : ∀ (v1391 : IVec S16 32) (k0_hw52 : k0_chk52 v1391), ∀ a x, ((![v1391] : Fin 1 → IVec S16 32) a x).toNat < S512.size a := fun v1391 k0_hw52 => k0_hw52
def k0_off149 (k0_t13 : Fin k0_t13_loop.trips) : Fin 3 → Nat :=
  let c1_i32_491 : BitVec 32 := 1#32
  let v861 : Index := Scalar.indexCast c1_i32_491
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v862 : Index := Scalar.indexCast v109
  let c0_492 : Index := 0#32
  ![1, v862.toNat, 0]
def k0_off150 (k0_t13 : Fin k0_t13_loop.trips) : Fin 3 → Nat :=
  let c1_i32_495 : BitVec 32 := 1#32
  let v867 : Index := Scalar.indexCast c1_i32_495
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v868 : Index := Scalar.indexCast v109
  let c16_496 : Index := 16#32
  ![1, v868.toNat, 16]
def k0_off151 (k0_t13 : Fin k0_t13_loop.trips) : Fin 3 → Nat :=
  let c1_i32_499 : BitVec 32 := 1#32
  let v873 : Index := Scalar.indexCast c1_i32_499
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v874 : Index := Scalar.indexCast v109
  let c32_500 : Index := 32#32
  ![1, v874.toNat, 32]
def k0_off152 (k0_t13 : Fin k0_t13_loop.trips) : Fin 3 → Nat :=
  let c1_i32_503 : BitVec 32 := 1#32
  let v879 : Index := Scalar.indexCast c1_i32_503
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v880 : Index := Scalar.indexCast v109
  let c48_504 : Index := 48#32
  ![1, v880.toNat, 48]
def k0_off153 (k0_t13 : Fin k0_t13_loop.trips) : Fin 3 → Nat :=
  let c1_i32_507 : BitVec 32 := 1#32
  let v885 : Index := Scalar.indexCast c1_i32_507
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v886 : Index := Scalar.indexCast v109
  let c64_508 : Index := 64#32
  ![1, v886.toNat, 64]
def k0_off154 (k0_t13 : Fin k0_t13_loop.trips) : Fin 3 → Nat :=
  let c1_i32_511 : BitVec 32 := 1#32
  let v891 : Index := Scalar.indexCast c1_i32_511
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v892 : Index := Scalar.indexCast v109
  let c80_512 : Index := 80#32
  ![1, v892.toNat, 80]
def k0_off155 (k0_t13 : Fin k0_t13_loop.trips) : Fin 3 → Nat :=
  let c1_i32_515 : BitVec 32 := 1#32
  let v897 : Index := Scalar.indexCast c1_i32_515
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v898 : Index := Scalar.indexCast v109
  let c96_516 : Index := 96#32
  ![1, v898.toNat, 96]
def k0_off156 (k0_t13 : Fin k0_t13_loop.trips) : Fin 3 → Nat :=
  let c1_i32_519 : BitVec 32 := 1#32
  let v903 : Index := Scalar.indexCast c1_i32_519
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v904 : Index := Scalar.indexCast v109
  let c112_520 : Index := 112#32
  ![1, v904.toNat, 112]
def k0_off157 (k0_t13 : Fin k0_t13_loop.trips) : Fin 3 → Nat :=
  let c1_i32_523 : BitVec 32 := 1#32
  let v909 : Index := Scalar.indexCast c1_i32_523
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v910 : Index := Scalar.indexCast v109
  let c128_524 : Index := 128#32
  ![1, v910.toNat, 128]
def k0_off158 (k0_t13 : Fin k0_t13_loop.trips) : Fin 3 → Nat :=
  let c1_i32_527 : BitVec 32 := 1#32
  let v915 : Index := Scalar.indexCast c1_i32_527
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v916 : Index := Scalar.indexCast v109
  let c144_528 : Index := 144#32
  ![1, v916.toNat, 144]
def k0_off159 (k0_t13 : Fin k0_t13_loop.trips) : Fin 3 → Nat :=
  let c1_i32_531 : BitVec 32 := 1#32
  let v921 : Index := Scalar.indexCast c1_i32_531
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v922 : Index := Scalar.indexCast v109
  let c160_532 : Index := 160#32
  ![1, v922.toNat, 160]
def k0_off160 (k0_t13 : Fin k0_t13_loop.trips) : Fin 3 → Nat :=
  let c1_i32_535 : BitVec 32 := 1#32
  let v927 : Index := Scalar.indexCast c1_i32_535
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v928 : Index := Scalar.indexCast v109
  let c176_536 : Index := 176#32
  ![1, v928.toNat, 176]
def k0_off161 (k0_t13 : Fin k0_t13_loop.trips) : Fin 3 → Nat :=
  let c1_i32_539 : BitVec 32 := 1#32
  let v933 : Index := Scalar.indexCast c1_i32_539
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v934 : Index := Scalar.indexCast v109
  let c192_540 : Index := 192#32
  ![1, v934.toNat, 192]
def k0_off162 (k0_t13 : Fin k0_t13_loop.trips) : Fin 3 → Nat :=
  let c1_i32_543 : BitVec 32 := 1#32
  let v939 : Index := Scalar.indexCast c1_i32_543
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v940 : Index := Scalar.indexCast v109
  let c208_544 : Index := 208#32
  ![1, v940.toNat, 208]
def k0_off163 (k0_t13 : Fin k0_t13_loop.trips) : Fin 3 → Nat :=
  let c1_i32_547 : BitVec 32 := 1#32
  let v945 : Index := Scalar.indexCast c1_i32_547
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v946 : Index := Scalar.indexCast v109
  let c224_548 : Index := 224#32
  ![1, v946.toNat, 224]
def k0_off164 (k0_t13 : Fin k0_t13_loop.trips) : Fin 3 → Nat :=
  let c1_i32_551 : BitVec 32 := 1#32
  let v951 : Index := Scalar.indexCast c1_i32_551
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v952 : Index := Scalar.indexCast v109
  let c240_552 : Index := 240#32
  ![1, v952.toNat, 240]

def k0_chk53 (v860 : IVec S16 32) (v960 : IVec S16 32) : Prop :=
  (∀ a x, ((![v860, v960] : Fin 2 → IVec S16 32) a x).toNat < S32x512.size a)
theorem k0_idx53_inb : ∀ (v860 : IVec S16 32) (v960 : IVec S16 32) (k0_hw53 : k0_chk53 v860 v960), ∀ a x, ((![v860, v960] : Fin 2 → IVec S16 32) a x).toNat < S32x512.size a := fun v860 v960 k0_hw53 => k0_hw53
def k0_off165 (k0_t13 : Fin k0_t13_loop.trips) : Fin 3 → Nat :=
  let c1_i32_558 : BitVec 32 := 1#32
  let v964 : Index := Scalar.indexCast c1_i32_558
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v965 : Index := Scalar.indexCast v109
  let c256_559 : Index := 256#32
  ![1, v965.toNat, 256]

def k0_chk54 (v860 : IVec S16 32) (v970 : IVec S16 32) : Prop :=
  (∀ a x, ((![v860, v970] : Fin 2 → IVec S16 32) a x).toNat < S32x512.size a)
theorem k0_idx54_inb : ∀ (v860 : IVec S16 32) (v970 : IVec S16 32) (k0_hw54 : k0_chk54 v860 v970), ∀ a x, ((![v860, v970] : Fin 2 → IVec S16 32) a x).toNat < S32x512.size a := fun v860 v970 k0_hw54 => k0_hw54
def k0_off166 (k0_t13 : Fin k0_t13_loop.trips) : Fin 3 → Nat :=
  let c1_i32_565 : BitVec 32 := 1#32
  let v974 : Index := Scalar.indexCast c1_i32_565
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v975 : Index := Scalar.indexCast v109
  let c272_566 : Index := 272#32
  ![1, v975.toNat, 272]

def k0_chk55 (v860 : IVec S16 32) (v980 : IVec S16 32) : Prop :=
  (∀ a x, ((![v860, v980] : Fin 2 → IVec S16 32) a x).toNat < S32x512.size a)
theorem k0_idx55_inb : ∀ (v860 : IVec S16 32) (v980 : IVec S16 32) (k0_hw55 : k0_chk55 v860 v980), ∀ a x, ((![v860, v980] : Fin 2 → IVec S16 32) a x).toNat < S32x512.size a := fun v860 v980 k0_hw55 => k0_hw55
def k0_off167 (k0_t13 : Fin k0_t13_loop.trips) : Fin 3 → Nat :=
  let c1_i32_572 : BitVec 32 := 1#32
  let v984 : Index := Scalar.indexCast c1_i32_572
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v985 : Index := Scalar.indexCast v109
  let c288_573 : Index := 288#32
  ![1, v985.toNat, 288]

def k0_chk56 (v860 : IVec S16 32) (v990 : IVec S16 32) : Prop :=
  (∀ a x, ((![v860, v990] : Fin 2 → IVec S16 32) a x).toNat < S32x512.size a)
theorem k0_idx56_inb : ∀ (v860 : IVec S16 32) (v990 : IVec S16 32) (k0_hw56 : k0_chk56 v860 v990), ∀ a x, ((![v860, v990] : Fin 2 → IVec S16 32) a x).toNat < S32x512.size a := fun v860 v990 k0_hw56 => k0_hw56
def k0_off168 (k0_t13 : Fin k0_t13_loop.trips) : Fin 3 → Nat :=
  let c1_i32_579 : BitVec 32 := 1#32
  let v994 : Index := Scalar.indexCast c1_i32_579
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v995 : Index := Scalar.indexCast v109
  let c304_580 : Index := 304#32
  ![1, v995.toNat, 304]

def k0_chk57 (v860 : IVec S16 32) (v1000 : IVec S16 32) : Prop :=
  (∀ a x, ((![v860, v1000] : Fin 2 → IVec S16 32) a x).toNat < S32x512.size a)
theorem k0_idx57_inb : ∀ (v860 : IVec S16 32) (v1000 : IVec S16 32) (k0_hw57 : k0_chk57 v860 v1000), ∀ a x, ((![v860, v1000] : Fin 2 → IVec S16 32) a x).toNat < S32x512.size a := fun v860 v1000 k0_hw57 => k0_hw57
def k0_off169 (k0_t13 : Fin k0_t13_loop.trips) : Fin 3 → Nat :=
  let c1_i32_586 : BitVec 32 := 1#32
  let v1004 : Index := Scalar.indexCast c1_i32_586
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1005 : Index := Scalar.indexCast v109
  let c320_587 : Index := 320#32
  ![1, v1005.toNat, 320]

def k0_chk58 (v860 : IVec S16 32) (v1010 : IVec S16 32) : Prop :=
  (∀ a x, ((![v860, v1010] : Fin 2 → IVec S16 32) a x).toNat < S32x512.size a)
theorem k0_idx58_inb : ∀ (v860 : IVec S16 32) (v1010 : IVec S16 32) (k0_hw58 : k0_chk58 v860 v1010), ∀ a x, ((![v860, v1010] : Fin 2 → IVec S16 32) a x).toNat < S32x512.size a := fun v860 v1010 k0_hw58 => k0_hw58
def k0_off170 (k0_t13 : Fin k0_t13_loop.trips) : Fin 3 → Nat :=
  let c1_i32_593 : BitVec 32 := 1#32
  let v1014 : Index := Scalar.indexCast c1_i32_593
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1015 : Index := Scalar.indexCast v109
  let c336_594 : Index := 336#32
  ![1, v1015.toNat, 336]

def k0_chk59 (v860 : IVec S16 32) (v1020 : IVec S16 32) : Prop :=
  (∀ a x, ((![v860, v1020] : Fin 2 → IVec S16 32) a x).toNat < S32x512.size a)
theorem k0_idx59_inb : ∀ (v860 : IVec S16 32) (v1020 : IVec S16 32) (k0_hw59 : k0_chk59 v860 v1020), ∀ a x, ((![v860, v1020] : Fin 2 → IVec S16 32) a x).toNat < S32x512.size a := fun v860 v1020 k0_hw59 => k0_hw59
def k0_off171 (k0_t13 : Fin k0_t13_loop.trips) : Fin 3 → Nat :=
  let c1_i32_600 : BitVec 32 := 1#32
  let v1024 : Index := Scalar.indexCast c1_i32_600
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1025 : Index := Scalar.indexCast v109
  let c352_601 : Index := 352#32
  ![1, v1025.toNat, 352]

def k0_chk60 (v860 : IVec S16 32) (v1030 : IVec S16 32) : Prop :=
  (∀ a x, ((![v860, v1030] : Fin 2 → IVec S16 32) a x).toNat < S32x512.size a)
theorem k0_idx60_inb : ∀ (v860 : IVec S16 32) (v1030 : IVec S16 32) (k0_hw60 : k0_chk60 v860 v1030), ∀ a x, ((![v860, v1030] : Fin 2 → IVec S16 32) a x).toNat < S32x512.size a := fun v860 v1030 k0_hw60 => k0_hw60
def k0_off172 (k0_t13 : Fin k0_t13_loop.trips) : Fin 3 → Nat :=
  let c1_i32_607 : BitVec 32 := 1#32
  let v1034 : Index := Scalar.indexCast c1_i32_607
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1035 : Index := Scalar.indexCast v109
  let c368_608 : Index := 368#32
  ![1, v1035.toNat, 368]

def k0_chk61 (v860 : IVec S16 32) (v1040 : IVec S16 32) : Prop :=
  (∀ a x, ((![v860, v1040] : Fin 2 → IVec S16 32) a x).toNat < S32x512.size a)
theorem k0_idx61_inb : ∀ (v860 : IVec S16 32) (v1040 : IVec S16 32) (k0_hw61 : k0_chk61 v860 v1040), ∀ a x, ((![v860, v1040] : Fin 2 → IVec S16 32) a x).toNat < S32x512.size a := fun v860 v1040 k0_hw61 => k0_hw61
def k0_off173 (k0_t13 : Fin k0_t13_loop.trips) : Fin 3 → Nat :=
  let c1_i32_614 : BitVec 32 := 1#32
  let v1044 : Index := Scalar.indexCast c1_i32_614
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1045 : Index := Scalar.indexCast v109
  let c384_615 : Index := 384#32
  ![1, v1045.toNat, 384]

def k0_chk62 (v860 : IVec S16 32) (v1050 : IVec S16 32) : Prop :=
  (∀ a x, ((![v860, v1050] : Fin 2 → IVec S16 32) a x).toNat < S32x512.size a)
theorem k0_idx62_inb : ∀ (v860 : IVec S16 32) (v1050 : IVec S16 32) (k0_hw62 : k0_chk62 v860 v1050), ∀ a x, ((![v860, v1050] : Fin 2 → IVec S16 32) a x).toNat < S32x512.size a := fun v860 v1050 k0_hw62 => k0_hw62
def k0_off174 (k0_t13 : Fin k0_t13_loop.trips) : Fin 3 → Nat :=
  let c1_i32_621 : BitVec 32 := 1#32
  let v1054 : Index := Scalar.indexCast c1_i32_621
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1055 : Index := Scalar.indexCast v109
  let c400_622 : Index := 400#32
  ![1, v1055.toNat, 400]

def k0_chk63 (v860 : IVec S16 32) (v1060 : IVec S16 32) : Prop :=
  (∀ a x, ((![v860, v1060] : Fin 2 → IVec S16 32) a x).toNat < S32x512.size a)
theorem k0_idx63_inb : ∀ (v860 : IVec S16 32) (v1060 : IVec S16 32) (k0_hw63 : k0_chk63 v860 v1060), ∀ a x, ((![v860, v1060] : Fin 2 → IVec S16 32) a x).toNat < S32x512.size a := fun v860 v1060 k0_hw63 => k0_hw63
def k0_off175 (k0_t13 : Fin k0_t13_loop.trips) : Fin 3 → Nat :=
  let c1_i32_628 : BitVec 32 := 1#32
  let v1064 : Index := Scalar.indexCast c1_i32_628
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1065 : Index := Scalar.indexCast v109
  let c416_629 : Index := 416#32
  ![1, v1065.toNat, 416]

def k0_chk64 (v860 : IVec S16 32) (v1070 : IVec S16 32) : Prop :=
  (∀ a x, ((![v860, v1070] : Fin 2 → IVec S16 32) a x).toNat < S32x512.size a)
theorem k0_idx64_inb : ∀ (v860 : IVec S16 32) (v1070 : IVec S16 32) (k0_hw64 : k0_chk64 v860 v1070), ∀ a x, ((![v860, v1070] : Fin 2 → IVec S16 32) a x).toNat < S32x512.size a := fun v860 v1070 k0_hw64 => k0_hw64
def k0_off176 (k0_t13 : Fin k0_t13_loop.trips) : Fin 3 → Nat :=
  let c1_i32_635 : BitVec 32 := 1#32
  let v1074 : Index := Scalar.indexCast c1_i32_635
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1075 : Index := Scalar.indexCast v109
  let c432_636 : Index := 432#32
  ![1, v1075.toNat, 432]

def k0_chk65 (v860 : IVec S16 32) (v1080 : IVec S16 32) : Prop :=
  (∀ a x, ((![v860, v1080] : Fin 2 → IVec S16 32) a x).toNat < S32x512.size a)
theorem k0_idx65_inb : ∀ (v860 : IVec S16 32) (v1080 : IVec S16 32) (k0_hw65 : k0_chk65 v860 v1080), ∀ a x, ((![v860, v1080] : Fin 2 → IVec S16 32) a x).toNat < S32x512.size a := fun v860 v1080 k0_hw65 => k0_hw65
def k0_off177 (k0_t13 : Fin k0_t13_loop.trips) : Fin 3 → Nat :=
  let c1_i32_642 : BitVec 32 := 1#32
  let v1084 : Index := Scalar.indexCast c1_i32_642
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1085 : Index := Scalar.indexCast v109
  let c448_643 : Index := 448#32
  ![1, v1085.toNat, 448]

def k0_chk66 (v860 : IVec S16 32) (v1090 : IVec S16 32) : Prop :=
  (∀ a x, ((![v860, v1090] : Fin 2 → IVec S16 32) a x).toNat < S32x512.size a)
theorem k0_idx66_inb : ∀ (v860 : IVec S16 32) (v1090 : IVec S16 32) (k0_hw66 : k0_chk66 v860 v1090), ∀ a x, ((![v860, v1090] : Fin 2 → IVec S16 32) a x).toNat < S32x512.size a := fun v860 v1090 k0_hw66 => k0_hw66
def k0_off178 (k0_t13 : Fin k0_t13_loop.trips) : Fin 3 → Nat :=
  let c1_i32_649 : BitVec 32 := 1#32
  let v1094 : Index := Scalar.indexCast c1_i32_649
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1095 : Index := Scalar.indexCast v109
  let c464_650 : Index := 464#32
  ![1, v1095.toNat, 464]

def k0_chk67 (v860 : IVec S16 32) (v1100 : IVec S16 32) : Prop :=
  (∀ a x, ((![v860, v1100] : Fin 2 → IVec S16 32) a x).toNat < S32x512.size a)
theorem k0_idx67_inb : ∀ (v860 : IVec S16 32) (v1100 : IVec S16 32) (k0_hw67 : k0_chk67 v860 v1100), ∀ a x, ((![v860, v1100] : Fin 2 → IVec S16 32) a x).toNat < S32x512.size a := fun v860 v1100 k0_hw67 => k0_hw67
def k0_off179 (k0_t13 : Fin k0_t13_loop.trips) : Fin 3 → Nat :=
  let c1_i32_656 : BitVec 32 := 1#32
  let v1104 : Index := Scalar.indexCast c1_i32_656
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1105 : Index := Scalar.indexCast v109
  let c480_657 : Index := 480#32
  ![1, v1105.toNat, 480]

def k0_chk68 (v860 : IVec S16 32) (v1110 : IVec S16 32) : Prop :=
  (∀ a x, ((![v860, v1110] : Fin 2 → IVec S16 32) a x).toNat < S32x512.size a)
theorem k0_idx68_inb : ∀ (v860 : IVec S16 32) (v1110 : IVec S16 32) (k0_hw68 : k0_chk68 v860 v1110), ∀ a x, ((![v860, v1110] : Fin 2 → IVec S16 32) a x).toNat < S32x512.size a := fun v860 v1110 k0_hw68 => k0_hw68
def k0_off180 (k0_t13 : Fin k0_t13_loop.trips) : Fin 3 → Nat :=
  let c1_i32_663 : BitVec 32 := 1#32
  let v1114 : Index := Scalar.indexCast c1_i32_663
  let c0_i32_97 : BitVec 32 := 0#32
  let c1_i32_99 : BitVec 32 := 1#32
  let arg16 : BitVec 32 := Scf.iv c0_i32_97 c1_i32_99 k0_t13
  let c2_i32_110 : BitVec 32 := 2#32
  let v109 : BitVec 32 := Scalar.muli arg16 c2_i32_110
  let v1115 : Index := Scalar.indexCast v109
  let c496_664 : Index := 496#32
  ![1, v1115.toNat, 496]
def k0_off181 (k0_t13 : Fin k0_t13_loop.trips) : Fin 3 → Nat :=
  let c1_i32_666 : BitVec 32 := 1#32
  let v1120 : Index := Scalar.indexCast c1_i32_666
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1121 : Index := Scalar.indexCast v111
  let c0_667 : Index := 0#32
  ![1, v1121.toNat, 0]
def k0_off182 (k0_t13 : Fin k0_t13_loop.trips) : Fin 3 → Nat :=
  let c1_i32_670 : BitVec 32 := 1#32
  let v1126 : Index := Scalar.indexCast c1_i32_670
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1127 : Index := Scalar.indexCast v111
  let c16_671 : Index := 16#32
  ![1, v1127.toNat, 16]
def k0_off183 (k0_t13 : Fin k0_t13_loop.trips) : Fin 3 → Nat :=
  let c1_i32_674 : BitVec 32 := 1#32
  let v1132 : Index := Scalar.indexCast c1_i32_674
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1133 : Index := Scalar.indexCast v111
  let c32_675 : Index := 32#32
  ![1, v1133.toNat, 32]
def k0_off184 (k0_t13 : Fin k0_t13_loop.trips) : Fin 3 → Nat :=
  let c1_i32_678 : BitVec 32 := 1#32
  let v1138 : Index := Scalar.indexCast c1_i32_678
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1139 : Index := Scalar.indexCast v111
  let c48_679 : Index := 48#32
  ![1, v1139.toNat, 48]
def k0_off185 (k0_t13 : Fin k0_t13_loop.trips) : Fin 3 → Nat :=
  let c1_i32_682 : BitVec 32 := 1#32
  let v1144 : Index := Scalar.indexCast c1_i32_682
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1145 : Index := Scalar.indexCast v111
  let c64_683 : Index := 64#32
  ![1, v1145.toNat, 64]
def k0_off186 (k0_t13 : Fin k0_t13_loop.trips) : Fin 3 → Nat :=
  let c1_i32_686 : BitVec 32 := 1#32
  let v1150 : Index := Scalar.indexCast c1_i32_686
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1151 : Index := Scalar.indexCast v111
  let c80_687 : Index := 80#32
  ![1, v1151.toNat, 80]
def k0_off187 (k0_t13 : Fin k0_t13_loop.trips) : Fin 3 → Nat :=
  let c1_i32_690 : BitVec 32 := 1#32
  let v1156 : Index := Scalar.indexCast c1_i32_690
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1157 : Index := Scalar.indexCast v111
  let c96_691 : Index := 96#32
  ![1, v1157.toNat, 96]
def k0_off188 (k0_t13 : Fin k0_t13_loop.trips) : Fin 3 → Nat :=
  let c1_i32_694 : BitVec 32 := 1#32
  let v1162 : Index := Scalar.indexCast c1_i32_694
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1163 : Index := Scalar.indexCast v111
  let c112_695 : Index := 112#32
  ![1, v1163.toNat, 112]
def k0_off189 (k0_t13 : Fin k0_t13_loop.trips) : Fin 3 → Nat :=
  let c1_i32_698 : BitVec 32 := 1#32
  let v1168 : Index := Scalar.indexCast c1_i32_698
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1169 : Index := Scalar.indexCast v111
  let c128_699 : Index := 128#32
  ![1, v1169.toNat, 128]
def k0_off190 (k0_t13 : Fin k0_t13_loop.trips) : Fin 3 → Nat :=
  let c1_i32_702 : BitVec 32 := 1#32
  let v1174 : Index := Scalar.indexCast c1_i32_702
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1175 : Index := Scalar.indexCast v111
  let c144_703 : Index := 144#32
  ![1, v1175.toNat, 144]
def k0_off191 (k0_t13 : Fin k0_t13_loop.trips) : Fin 3 → Nat :=
  let c1_i32_706 : BitVec 32 := 1#32
  let v1180 : Index := Scalar.indexCast c1_i32_706
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1181 : Index := Scalar.indexCast v111
  let c160_707 : Index := 160#32
  ![1, v1181.toNat, 160]
def k0_off192 (k0_t13 : Fin k0_t13_loop.trips) : Fin 3 → Nat :=
  let c1_i32_710 : BitVec 32 := 1#32
  let v1186 : Index := Scalar.indexCast c1_i32_710
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1187 : Index := Scalar.indexCast v111
  let c176_711 : Index := 176#32
  ![1, v1187.toNat, 176]
def k0_off193 (k0_t13 : Fin k0_t13_loop.trips) : Fin 3 → Nat :=
  let c1_i32_714 : BitVec 32 := 1#32
  let v1192 : Index := Scalar.indexCast c1_i32_714
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1193 : Index := Scalar.indexCast v111
  let c192_715 : Index := 192#32
  ![1, v1193.toNat, 192]
def k0_off194 (k0_t13 : Fin k0_t13_loop.trips) : Fin 3 → Nat :=
  let c1_i32_718 : BitVec 32 := 1#32
  let v1198 : Index := Scalar.indexCast c1_i32_718
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1199 : Index := Scalar.indexCast v111
  let c208_719 : Index := 208#32
  ![1, v1199.toNat, 208]
def k0_off195 (k0_t13 : Fin k0_t13_loop.trips) : Fin 3 → Nat :=
  let c1_i32_722 : BitVec 32 := 1#32
  let v1204 : Index := Scalar.indexCast c1_i32_722
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1205 : Index := Scalar.indexCast v111
  let c224_723 : Index := 224#32
  ![1, v1205.toNat, 224]
def k0_off196 (k0_t13 : Fin k0_t13_loop.trips) : Fin 3 → Nat :=
  let c1_i32_726 : BitVec 32 := 1#32
  let v1210 : Index := Scalar.indexCast c1_i32_726
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1211 : Index := Scalar.indexCast v111
  let c240_727 : Index := 240#32
  ![1, v1211.toNat, 240]

def k0_chk69 (v1119 : IVec S16 32) (v1219 : IVec S16 32) : Prop :=
  (∀ a x, ((![v1119, v1219] : Fin 2 → IVec S16 32) a x).toNat < S32x512.size a)
theorem k0_idx69_inb : ∀ (v1119 : IVec S16 32) (v1219 : IVec S16 32) (k0_hw69 : k0_chk69 v1119 v1219), ∀ a x, ((![v1119, v1219] : Fin 2 → IVec S16 32) a x).toNat < S32x512.size a := fun v1119 v1219 k0_hw69 => k0_hw69
def k0_off197 (k0_t13 : Fin k0_t13_loop.trips) : Fin 3 → Nat :=
  let c1_i32_735 : BitVec 32 := 1#32
  let v1223 : Index := Scalar.indexCast c1_i32_735
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1224 : Index := Scalar.indexCast v111
  let c256_736 : Index := 256#32
  ![1, v1224.toNat, 256]

def k0_chk70 (v1119 : IVec S16 32) (v1229 : IVec S16 32) : Prop :=
  (∀ a x, ((![v1119, v1229] : Fin 2 → IVec S16 32) a x).toNat < S32x512.size a)
theorem k0_idx70_inb : ∀ (v1119 : IVec S16 32) (v1229 : IVec S16 32) (k0_hw70 : k0_chk70 v1119 v1229), ∀ a x, ((![v1119, v1229] : Fin 2 → IVec S16 32) a x).toNat < S32x512.size a := fun v1119 v1229 k0_hw70 => k0_hw70
def k0_off198 (k0_t13 : Fin k0_t13_loop.trips) : Fin 3 → Nat :=
  let c1_i32_742 : BitVec 32 := 1#32
  let v1233 : Index := Scalar.indexCast c1_i32_742
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1234 : Index := Scalar.indexCast v111
  let c272_743 : Index := 272#32
  ![1, v1234.toNat, 272]

def k0_chk71 (v1119 : IVec S16 32) (v1239 : IVec S16 32) : Prop :=
  (∀ a x, ((![v1119, v1239] : Fin 2 → IVec S16 32) a x).toNat < S32x512.size a)
theorem k0_idx71_inb : ∀ (v1119 : IVec S16 32) (v1239 : IVec S16 32) (k0_hw71 : k0_chk71 v1119 v1239), ∀ a x, ((![v1119, v1239] : Fin 2 → IVec S16 32) a x).toNat < S32x512.size a := fun v1119 v1239 k0_hw71 => k0_hw71
def k0_off199 (k0_t13 : Fin k0_t13_loop.trips) : Fin 3 → Nat :=
  let c1_i32_749 : BitVec 32 := 1#32
  let v1243 : Index := Scalar.indexCast c1_i32_749
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1244 : Index := Scalar.indexCast v111
  let c288_750 : Index := 288#32
  ![1, v1244.toNat, 288]

def k0_chk72 (v1119 : IVec S16 32) (v1249 : IVec S16 32) : Prop :=
  (∀ a x, ((![v1119, v1249] : Fin 2 → IVec S16 32) a x).toNat < S32x512.size a)
theorem k0_idx72_inb : ∀ (v1119 : IVec S16 32) (v1249 : IVec S16 32) (k0_hw72 : k0_chk72 v1119 v1249), ∀ a x, ((![v1119, v1249] : Fin 2 → IVec S16 32) a x).toNat < S32x512.size a := fun v1119 v1249 k0_hw72 => k0_hw72
def k0_off200 (k0_t13 : Fin k0_t13_loop.trips) : Fin 3 → Nat :=
  let c1_i32_756 : BitVec 32 := 1#32
  let v1253 : Index := Scalar.indexCast c1_i32_756
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1254 : Index := Scalar.indexCast v111
  let c304_757 : Index := 304#32
  ![1, v1254.toNat, 304]

def k0_chk73 (v1119 : IVec S16 32) (v1259 : IVec S16 32) : Prop :=
  (∀ a x, ((![v1119, v1259] : Fin 2 → IVec S16 32) a x).toNat < S32x512.size a)
theorem k0_idx73_inb : ∀ (v1119 : IVec S16 32) (v1259 : IVec S16 32) (k0_hw73 : k0_chk73 v1119 v1259), ∀ a x, ((![v1119, v1259] : Fin 2 → IVec S16 32) a x).toNat < S32x512.size a := fun v1119 v1259 k0_hw73 => k0_hw73
def k0_off201 (k0_t13 : Fin k0_t13_loop.trips) : Fin 3 → Nat :=
  let c1_i32_763 : BitVec 32 := 1#32
  let v1263 : Index := Scalar.indexCast c1_i32_763
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1264 : Index := Scalar.indexCast v111
  let c320_764 : Index := 320#32
  ![1, v1264.toNat, 320]

def k0_chk74 (v1119 : IVec S16 32) (v1269 : IVec S16 32) : Prop :=
  (∀ a x, ((![v1119, v1269] : Fin 2 → IVec S16 32) a x).toNat < S32x512.size a)
theorem k0_idx74_inb : ∀ (v1119 : IVec S16 32) (v1269 : IVec S16 32) (k0_hw74 : k0_chk74 v1119 v1269), ∀ a x, ((![v1119, v1269] : Fin 2 → IVec S16 32) a x).toNat < S32x512.size a := fun v1119 v1269 k0_hw74 => k0_hw74
def k0_off202 (k0_t13 : Fin k0_t13_loop.trips) : Fin 3 → Nat :=
  let c1_i32_770 : BitVec 32 := 1#32
  let v1273 : Index := Scalar.indexCast c1_i32_770
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1274 : Index := Scalar.indexCast v111
  let c336_771 : Index := 336#32
  ![1, v1274.toNat, 336]

def k0_chk75 (v1119 : IVec S16 32) (v1279 : IVec S16 32) : Prop :=
  (∀ a x, ((![v1119, v1279] : Fin 2 → IVec S16 32) a x).toNat < S32x512.size a)
theorem k0_idx75_inb : ∀ (v1119 : IVec S16 32) (v1279 : IVec S16 32) (k0_hw75 : k0_chk75 v1119 v1279), ∀ a x, ((![v1119, v1279] : Fin 2 → IVec S16 32) a x).toNat < S32x512.size a := fun v1119 v1279 k0_hw75 => k0_hw75
def k0_off203 (k0_t13 : Fin k0_t13_loop.trips) : Fin 3 → Nat :=
  let c1_i32_777 : BitVec 32 := 1#32
  let v1283 : Index := Scalar.indexCast c1_i32_777
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1284 : Index := Scalar.indexCast v111
  let c352_778 : Index := 352#32
  ![1, v1284.toNat, 352]

def k0_chk76 (v1119 : IVec S16 32) (v1289 : IVec S16 32) : Prop :=
  (∀ a x, ((![v1119, v1289] : Fin 2 → IVec S16 32) a x).toNat < S32x512.size a)
theorem k0_idx76_inb : ∀ (v1119 : IVec S16 32) (v1289 : IVec S16 32) (k0_hw76 : k0_chk76 v1119 v1289), ∀ a x, ((![v1119, v1289] : Fin 2 → IVec S16 32) a x).toNat < S32x512.size a := fun v1119 v1289 k0_hw76 => k0_hw76
def k0_off204 (k0_t13 : Fin k0_t13_loop.trips) : Fin 3 → Nat :=
  let c1_i32_784 : BitVec 32 := 1#32
  let v1293 : Index := Scalar.indexCast c1_i32_784
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1294 : Index := Scalar.indexCast v111
  let c368_785 : Index := 368#32
  ![1, v1294.toNat, 368]

def k0_chk77 (v1119 : IVec S16 32) (v1299 : IVec S16 32) : Prop :=
  (∀ a x, ((![v1119, v1299] : Fin 2 → IVec S16 32) a x).toNat < S32x512.size a)
theorem k0_idx77_inb : ∀ (v1119 : IVec S16 32) (v1299 : IVec S16 32) (k0_hw77 : k0_chk77 v1119 v1299), ∀ a x, ((![v1119, v1299] : Fin 2 → IVec S16 32) a x).toNat < S32x512.size a := fun v1119 v1299 k0_hw77 => k0_hw77
def k0_off205 (k0_t13 : Fin k0_t13_loop.trips) : Fin 3 → Nat :=
  let c1_i32_791 : BitVec 32 := 1#32
  let v1303 : Index := Scalar.indexCast c1_i32_791
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1304 : Index := Scalar.indexCast v111
  let c384_792 : Index := 384#32
  ![1, v1304.toNat, 384]

def k0_chk78 (v1119 : IVec S16 32) (v1309 : IVec S16 32) : Prop :=
  (∀ a x, ((![v1119, v1309] : Fin 2 → IVec S16 32) a x).toNat < S32x512.size a)
theorem k0_idx78_inb : ∀ (v1119 : IVec S16 32) (v1309 : IVec S16 32) (k0_hw78 : k0_chk78 v1119 v1309), ∀ a x, ((![v1119, v1309] : Fin 2 → IVec S16 32) a x).toNat < S32x512.size a := fun v1119 v1309 k0_hw78 => k0_hw78
def k0_off206 (k0_t13 : Fin k0_t13_loop.trips) : Fin 3 → Nat :=
  let c1_i32_798 : BitVec 32 := 1#32
  let v1313 : Index := Scalar.indexCast c1_i32_798
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1314 : Index := Scalar.indexCast v111
  let c400_799 : Index := 400#32
  ![1, v1314.toNat, 400]

def k0_chk79 (v1119 : IVec S16 32) (v1319 : IVec S16 32) : Prop :=
  (∀ a x, ((![v1119, v1319] : Fin 2 → IVec S16 32) a x).toNat < S32x512.size a)
theorem k0_idx79_inb : ∀ (v1119 : IVec S16 32) (v1319 : IVec S16 32) (k0_hw79 : k0_chk79 v1119 v1319), ∀ a x, ((![v1119, v1319] : Fin 2 → IVec S16 32) a x).toNat < S32x512.size a := fun v1119 v1319 k0_hw79 => k0_hw79
def k0_off207 (k0_t13 : Fin k0_t13_loop.trips) : Fin 3 → Nat :=
  let c1_i32_805 : BitVec 32 := 1#32
  let v1323 : Index := Scalar.indexCast c1_i32_805
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1324 : Index := Scalar.indexCast v111
  let c416_806 : Index := 416#32
  ![1, v1324.toNat, 416]

def k0_chk80 (v1119 : IVec S16 32) (v1329 : IVec S16 32) : Prop :=
  (∀ a x, ((![v1119, v1329] : Fin 2 → IVec S16 32) a x).toNat < S32x512.size a)
theorem k0_idx80_inb : ∀ (v1119 : IVec S16 32) (v1329 : IVec S16 32) (k0_hw80 : k0_chk80 v1119 v1329), ∀ a x, ((![v1119, v1329] : Fin 2 → IVec S16 32) a x).toNat < S32x512.size a := fun v1119 v1329 k0_hw80 => k0_hw80
def k0_off208 (k0_t13 : Fin k0_t13_loop.trips) : Fin 3 → Nat :=
  let c1_i32_812 : BitVec 32 := 1#32
  let v1333 : Index := Scalar.indexCast c1_i32_812
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1334 : Index := Scalar.indexCast v111
  let c432_813 : Index := 432#32
  ![1, v1334.toNat, 432]

def k0_chk81 (v1119 : IVec S16 32) (v1339 : IVec S16 32) : Prop :=
  (∀ a x, ((![v1119, v1339] : Fin 2 → IVec S16 32) a x).toNat < S32x512.size a)
theorem k0_idx81_inb : ∀ (v1119 : IVec S16 32) (v1339 : IVec S16 32) (k0_hw81 : k0_chk81 v1119 v1339), ∀ a x, ((![v1119, v1339] : Fin 2 → IVec S16 32) a x).toNat < S32x512.size a := fun v1119 v1339 k0_hw81 => k0_hw81
def k0_off209 (k0_t13 : Fin k0_t13_loop.trips) : Fin 3 → Nat :=
  let c1_i32_819 : BitVec 32 := 1#32
  let v1343 : Index := Scalar.indexCast c1_i32_819
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1344 : Index := Scalar.indexCast v111
  let c448_820 : Index := 448#32
  ![1, v1344.toNat, 448]

def k0_chk82 (v1119 : IVec S16 32) (v1349 : IVec S16 32) : Prop :=
  (∀ a x, ((![v1119, v1349] : Fin 2 → IVec S16 32) a x).toNat < S32x512.size a)
theorem k0_idx82_inb : ∀ (v1119 : IVec S16 32) (v1349 : IVec S16 32) (k0_hw82 : k0_chk82 v1119 v1349), ∀ a x, ((![v1119, v1349] : Fin 2 → IVec S16 32) a x).toNat < S32x512.size a := fun v1119 v1349 k0_hw82 => k0_hw82
def k0_off210 (k0_t13 : Fin k0_t13_loop.trips) : Fin 3 → Nat :=
  let c1_i32_826 : BitVec 32 := 1#32
  let v1353 : Index := Scalar.indexCast c1_i32_826
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1354 : Index := Scalar.indexCast v111
  let c464_827 : Index := 464#32
  ![1, v1354.toNat, 464]

def k0_chk83 (v1119 : IVec S16 32) (v1359 : IVec S16 32) : Prop :=
  (∀ a x, ((![v1119, v1359] : Fin 2 → IVec S16 32) a x).toNat < S32x512.size a)
theorem k0_idx83_inb : ∀ (v1119 : IVec S16 32) (v1359 : IVec S16 32) (k0_hw83 : k0_chk83 v1119 v1359), ∀ a x, ((![v1119, v1359] : Fin 2 → IVec S16 32) a x).toNat < S32x512.size a := fun v1119 v1359 k0_hw83 => k0_hw83
def k0_off211 (k0_t13 : Fin k0_t13_loop.trips) : Fin 3 → Nat :=
  let c1_i32_833 : BitVec 32 := 1#32
  let v1363 : Index := Scalar.indexCast c1_i32_833
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1364 : Index := Scalar.indexCast v111
  let c480_834 : Index := 480#32
  ![1, v1364.toNat, 480]

def k0_chk84 (v1119 : IVec S16 32) (v1369 : IVec S16 32) : Prop :=
  (∀ a x, ((![v1119, v1369] : Fin 2 → IVec S16 32) a x).toNat < S32x512.size a)
theorem k0_idx84_inb : ∀ (v1119 : IVec S16 32) (v1369 : IVec S16 32) (k0_hw84 : k0_chk84 v1119 v1369), ∀ a x, ((![v1119, v1369] : Fin 2 → IVec S16 32) a x).toNat < S32x512.size a := fun v1119 v1369 k0_hw84 => k0_hw84
def k0_off212 (k0_t13 : Fin k0_t13_loop.trips) : Fin 3 → Nat :=
  let c1_i32_840 : BitVec 32 := 1#32
  let v1373 : Index := Scalar.indexCast c1_i32_840
  let c0_i32_97 : BitVec 32 := 0#32
  let c1_i32_99 : BitVec 32 := 1#32
  let arg16 : BitVec 32 := Scf.iv c0_i32_97 c1_i32_99 k0_t13
  let c2_i32_111 : BitVec 32 := 2#32
  let v110 : BitVec 32 := Scalar.muli arg16 c2_i32_111
  let c1_i32_112 : BitVec 32 := 1#32
  let v111 : BitVec 32 := Scalar.addi v110 c1_i32_112
  let v1374 : Index := Scalar.indexCast v111
  let c496_841 : Index := 496#32
  ![1, v1374.toNat, 496]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x512 : Shape := ⟨2, ![131072, 512]⟩
abbrev S131072x256 : Shape := ⟨2, ![131072, 256]⟩
abbrev S_ : Shape := ⟨0, ![]⟩
abbrev S512 : Shape := ⟨1, ![512]⟩
abbrev S131072x512x1 : Shape := ⟨3, ![131072, 512, 1]⟩
abbrev S1 : Shape := ⟨1, ![1]⟩
abbrev S1x1x1 : Shape := ⟨3, ![1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x256, .i32⟩
  | .hbm, ⟨2, _⟩ => ⟨S131072x256, .i32⟩
  | .hbm, ⟨3, _⟩ => ⟨S_, .i32⟩
  | .hbm, ⟨4, _⟩ => ⟨S131072x256, .i32⟩
  | .hbm, ⟨5, _⟩ => ⟨S131072x256, .i32⟩
  | .hbm, ⟨6, _⟩ => ⟨S131072x256, .i32⟩
  | .hbm, ⟨7, _⟩ => ⟨S_, .i32⟩
  | .hbm, ⟨8, _⟩ => ⟨S131072x256, .i32⟩
  | .hbm, ⟨9, _⟩ => ⟨S131072x256, .i32⟩
  | .hbm, ⟨10, _⟩ => ⟨S512, .i32⟩
  | .hbm, ⟨11, _⟩ => ⟨S131072x512, .i32⟩
  | .hbm, ⟨12, _⟩ => ⟨S131072x256, .i32⟩
  | .hbm, ⟨13, _⟩ => ⟨S131072x512, .i32⟩
  | .hbm, ⟨14, _⟩ => ⟨S_, .i32⟩
  | .hbm, ⟨15, _⟩ => ⟨S131072x512, .i32⟩
  | .hbm, ⟨16, _⟩ => ⟨S131072x512, .i1⟩
  | .hbm, ⟨17, _⟩ => ⟨S_, .i32⟩
  | .hbm, ⟨18, _⟩ => ⟨S131072x512, .i32⟩
  | .hbm, ⟨19, _⟩ => ⟨S131072x512, .i32⟩
  | .hbm, ⟨20, _⟩ => ⟨S131072x512, .i32⟩
  | .hbm, ⟨21, _⟩ => ⟨S131072x512x1, .i32⟩
  | .hbm, ⟨22, _⟩ => ⟨S1, .i32⟩
  | .hbm, ⟨23, _⟩ => ⟨S_, .i32⟩
  | .hbm, ⟨24, _⟩ => ⟨S131072x512x1, .i32⟩
  | .hbm, ⟨25, _⟩ => ⟨S131072x512x1, .i1⟩
  | .hbm, ⟨26, _⟩ => ⟨S1x1x1, .i32⟩
  | .hbm, ⟨27, _⟩ => ⟨S131072x512x1, .i32⟩
  | .hbm, ⟨28, _⟩ => ⟨S131072x512x1, .i1⟩
  | .hbm, ⟨29, _⟩ => ⟨S131072x512x1, .i1⟩
  | .hbm, ⟨30, _⟩ => ⟨S_, .i1⟩
  | .hbm, ⟨31, _⟩ => ⟨S131072x512, .i1⟩
  | .hbm, ⟨32, _⟩ => ⟨S131072x512, .f32⟩
  | .hbm, ⟨33, _⟩ => ⟨S_, .f32⟩
  | .hbm, ⟨34, _⟩ => ⟨S131072x512, .f32⟩
  | .hbm, ⟨35, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v10 : Ref sig .tc := ⟨.hbm, 35, rfl⟩

abbrev nD : Nat := 1
abbrev τ : Topo := Topo.v7x

variable {F : FTy → Type} [FloatOps F]
-- ==== Proof.Body.lean ====
/-
  The pair body of the SparseCore kernel written once, compactly: what one trip of its inner loop does to two rows
  (`2t` and `2t + 1`) of a chunk, for the buffer half `b`. The printed kernel unrolls it twice (`b = 0, 1`);
  `Seg0`/`Seg1` identify the printed text with `pairBody`.
-/
module

public import proofs.«01_k».proof.KernelIdeal

@[expose] public section

noncomputable section

namespace Cert.KernelIdeal.Tile

open Idealize.ShloMosaic Idealize.SL.Sem
open Facts₀ Facts

variable {F : FTy → Type} [FloatOps F] [Facts]

/-- Run `f` at each index in turn and collect the results. -/
def seqFin {E : Type → Type _} {α : Type} : (n : ℕ) → (Fin n → Prog E α) → Prog E (Fin n → α)
  | 0, _ => pure Fin.elim0
  | n + 1, f => do
    let a ← f 0
    let r ← seqFin n fun i => f i.succ
    pure (Fin.cons a r)

/-- Run `f` at each index in turn. -/
def forFin {E : Type → Type _} : (n : ℕ) → (Fin n → Prog E PUnit) → Prog E PUnit
  | 0, _ => pure ⟨⟩
  | n + 1, f => do
    f 0
    forFin n fun i => f i.succ

section
variable (ca : Fin τ.nSC) (cb : Fin τ.nSub)

/-- The effects of a tile. -/
abbrev Eff (F : FTy → Type) [FloatOps F] (ca : Fin τ.nSC) (cb : Fin τ.nSub) := TpuEff nD τ sig (Elt F) Λ₀ (.scVector ca cb)
end

variable {ca : Fin τ.nSC} {cb : Fin τ.nSub}

theorem inb_unit (u : Fin 32) : ∀ a, (![16 * u.val] : Fin 1 → Nat) a + S16.size a ≤ S512.size a := by
  intro a; have := u.isLt; fin_cases a; show 16 * u.val + 16 ≤ 512; omega

/-- Unit `u` of the scratch. -/
abbrev unitRect (u : Fin 32) : Rect S512 := Rect.unit (s := S512) ![16 * u.val] S16.size (inb_unit u)

/-- Read unit `u` of the scratch. -/
def ldUnit (tmp : Memref sig .scVector .vmem S512 .i32) (u : Fin 32) : Prog (Eff F ca cb) (Vec F S16 .i32) :=
  Prog.lift (.load tmp (unitRect u).toLoadRect (View.loadsAt_vmem h_S16))

/-- Write unit `u` of the scratch. -/
def stUnit (tmp : Memref sig .scVector .vmem S512 .i32) (u : Fin 32) (v : Vec F S16 .i32) : Prog (Eff F ca cb) PUnit := do
  let _ ← ldUnit tmp u
  Prog.lift (.store tmp (unitRect u) v Finset.univ (View.stores_vmem_bits_univ h_S16 rfl) (.inl rfl))

/-- One lane's step in the ranking of a unit: count the lanes standing before each one. -/
def rankStep (tmp : Memref sig .scVector .vmem S512 .i32) (t : Fin k0_t3_loop.trips) (flip a : IVec S16 32)
    (j : Fin k0_t4_loop.trips) (rank : IVec S16 32) : Prog (Eff F ca cb) (IVec S16 32) := do
  have at_ : IVec S16 32 := addi (broadcast S16 0#32) (broadcast S16 (Scalar.addi (Scalar.muli (Scf.iv 0#32 1#32 t) 16#32) (Scf.iv 0#32 1#32 j)))
  have hw : k0_chk1 at_ := (← Prog.lift (TpuEff.assume (k0_chk1 at_) (k0_chk1.dec at_))).down
  let v : Vec F S16 .i32 ← SparseCore.vectorLoadIdx tmp ![at_] (k0_idx1_inb at_ hw) (View.loads_vmem h_S512)
  have aj : IVec S16 32 := xori v flip
  pure (addi rank (extui 32 (ori (cmpi .ult aj a) (andi (cmpi .eq aj a)
    (cmpi .slt (broadcast S16 (Scf.iv 0#32 1#32 j)) (iota .scVector S16 32 [0] iota_S16_d0_w32_scVector)))) natLt_1_32))

/-- Sort unit `t` of the scratch in place, descending where `t &&& bit ≠ 0`. -/
def unitStep (bit : BitVec 32) (tmp : Memref sig .scVector .vmem S512 .i32) (t : Fin k0_t3_loop.trips) :
    Prog (Eff F ca cb) PUnit := do
  have flip : IVec S16 32 := subi (broadcast S16 0#32)
    (broadcast S16 (Scalar.extui (Scalar.cmpi .ne (Scalar.andi (Scf.iv 0#32 1#32 t) bit) 0#32) : BitVec 32))
  let a : Vec F S16 .i32 ← Prog.lift (.load tmp (Rect.unit (s := S512) (k0_off40 t) S16.size (k0_off40_inb t)).toLoadRect (View.loadsAt_vmem h_S16))
  let rank : IVec S16 32 ← Scf.Loop.for k0_t4_loop k0_t4_ok (broadcast S16 0#32) (rankStep tmp t flip (xori a flip))
  have to_ : IVec S16 32 := addi rank (broadcast S16 (Scalar.muli (Scf.iv 0#32 1#32 t) 16#32))
  have hw : k0_chk2 to_ := (← Prog.lift (TpuEff.assume (k0_chk2 to_) (k0_chk2.dec to_))).down
  SparseCore.vectorStoreIdx tmp ![to_] (xori (xori a flip) flip) (fun _ => 1#1) false (k0_idx2_inb to_ hw) (View.stores_vmem_bits_univ h_S512 rfl)
  pure ⟨⟩

/-- Sort every unit of the scratch. -/
def unitLoop (bit : BitVec 32) (tmp : Memref sig .scVector .vmem S512 .i32) : Prog (Eff F ca cb) PUnit :=
  Scf.Loop.for k0_t3_loop k0_t3_ok ⟨⟩ fun t _ => unitStep bit tmp t

/-- One exchange of the network on units: the units `i` and `i ^^^ su` of a row, ascending where `i &&& ku = 0`. -/
def exch (ku su : ℕ) (un : Fin 32 → IVec S16 32) (p : Fin 32) : IVec S16 32 :=
  let q : Fin 32 := ⟨p.val ^^^ (su % 16), Nat.xor_lt_two_pow (n := 5) p.isLt (by omega)⟩
  bif ((p.val &&& su) == 0) == ((p.val % 16 &&& ku) == 0) then
    (bif (p.val &&& su) == 0 then minui (un p) (un q) else minui (un q) (un p))
  else
    (bif (p.val &&& su) == 0 then maxui (un p) (un q) else maxui (un q) (un p))

/-- The exchanges between two unit sorts. -/
def stage (ku : ℕ) : ℕ → (Fin 32 → IVec S16 32) → Fin 32 → IVec S16 32
  | 0, un => un
  | n + 1, un => stage ku n (exch ku (2 ^ n) un)

/-- The row of the chunk that trip `t` of the pair loop sorts at half `h` of the scratch. -/
def rowW (h : Fin 2) (t : Fin k0_t2_loop.trips) : BitVec 32 :=
  match h with
  | 0 => Scalar.muli (Scf.iv 0#32 1#32 t) 2#32
  | 1 => Scalar.addi (Scalar.muli (Scf.iv 0#32 1#32 t) 2#32) 1#32

/-- The offsets of unit `i` of that row, in half `b` of a double buffer. -/
def rowOff (b : Fin 2) (h : Fin 2) (t : Fin k0_t2_loop.trips) (n : ℕ) : Fin 3 → Nat :=
  ![b.val, (Scalar.indexCast (rowW h t) : BitVec 32).toNat, n]

theorem rowW_toNat (h : Fin 2) (t : Fin k0_t2_loop.trips) : (rowW h t).toNat = 2 * t.val + h.val := by
  revert h t; decide +kernel

theorem t2_lt (t : Fin k0_t2_loop.trips) : t.val < 16 := t.isLt

theorem rowOff_eq (b h : Fin 2) (t : Fin k0_t2_loop.trips) (n : ℕ) : rowOff b h t n = ![b.val, 2 * t.val + h.val, n] := by
  unfold rowOff; rw [show (Scalar.indexCast (rowW h t) : BitVec 32).toNat = 2 * t.val + h.val from ?_]
  rw [← rowW_toNat]; revert h t; decide +kernel

theorem inb_row (b h : Fin 2) (t : Fin k0_t2_loop.trips) (n : ℕ) (w : ℕ) (hn : n + 16 ≤ w) :
    ∀ a, rowOff b h t n a + S1x1x16.size a ≤ (![2, 32, w] : Fin 3 → ℕ) a := by
  intro a; have := b.isLt; have := h.isLt; have := t2_lt t
  rw [rowOff_eq]
  fin_cases a
  · show b.val + 1 ≤ 2; omega
  · show 2 * t.val + h.val + 1 ≤ 32; omega
  · show n + 16 ≤ w; exact hn

/-- The row half and the unit of a row that index `u` of the 32 units names. -/
abbrev uRow (u : Fin 32) : Fin 2 := ⟨u.val / 16, by have := u.isLt; omega⟩
abbrev uCol (u : Fin 32) : ℕ := u.val % 16

theorem inb_key (b : Fin 2) (t : Fin k0_t2_loop.trips) (u : Fin 32) :
    ∀ a, rowOff b (uRow u) t (16 * uCol u) a + S1x1x16.size a ≤ S2x32x256.size a :=
  inb_row b (uRow u) t (16 * uCol u) 256 (by show 16 * (u.val % 16) + 16 ≤ 256; omega)

theorem inb_lo (b h : Fin 2) (t : Fin k0_t2_loop.trips) (i : Fin 16) :
    ∀ a, rowOff b h t (16 * i.val) a + S1x1x16.size a ≤ S2x32x512.size a :=
  inb_row b h t (16 * i.val) 512 (by have := i.isLt; omega)

theorem inb_hi (b h : Fin 2) (t : Fin k0_t2_loop.trips) (i : Fin 16) :
    ∀ a, rowOff b h t (256 + 16 * i.val) a + S1x1x16.size a ≤ S2x32x512.size a :=
  inb_row b h t (256 + 16 * i.val) 512 (by have := i.isLt; omega)

/-- Read unit `u` of the two rows' keys. -/
def ldKey (b : Fin 2) (t : Fin k0_t2_loop.trips) (kb : Memref sig .scVector .vmem S2x32x256 .i32) (u : Fin 32) :
    Prog (Eff F ca cb) (Vec F S16 .i32) := do
  let v : Vec F S1x1x16 .i32 ← Prog.lift (.load kb (Rect.unit (s := S2x32x256) (rowOff b (uRow u) t (16 * uCol u)) S1x1x16.size (inb_key b t u)).toLoadRect (View.loadsAt_vmem h_S1x1x16))
  pure (shapeCast S16 v shapeCasts_S1x1x16_S16)

/-- Write `v` at 16 columns of a row of the output buffer. -/
def stOut (ob : Memref sig .scVector .vmem S2x32x512 .f32) (off : Fin 3 → ℕ) (hoff : ∀ a, off a + S1x1x16.size a ≤ S2x32x512.size a)
    (v : Vec F S16 .f32) : Prog (Eff F ca cb) PUnit := do
  let _ : Vec F S1x1x16 .f32 ← Prog.lift (.load ob (Rect.unit (s := S2x32x512) off S1x1x16.size hoff).toLoadRect (View.loadsAt_vmem h_S1x1x16))
  Prog.lift (.store ob (Rect.unit (s := S2x32x512) off S1x1x16.size hoff) (shapeCast S1x1x16 v shapeCasts_S16_S1x1x16) Finset.univ (View.stores_vmem_bits_univ h_S1x1x16 rfl) (.inl rfl))

/-- Copy unit `i` of the first half of a row. -/
def copyUnit (b h : Fin 2) (t : Fin k0_t2_loop.trips) (xb ob : Memref sig .scVector .vmem S2x32x512 .f32) (i : Fin 16) :
    Prog (Eff F ca cb) PUnit := do
  let v : Vec F S1x1x16 .f32 ← Prog.lift (.load xb (Rect.unit (s := S2x32x512) (rowOff b h t (16 * i.val)) S1x1x16.size (inb_lo b h t i)).toLoadRect (View.loadsAt_vmem h_S1x1x16))
  stOut ob (rowOff b h t (16 * i.val)) (inb_lo b h t i) (shapeCast S16 v shapeCasts_S1x1x16_S16)

theorem inb_half (b : Fin 2) : ∀ a, (![b.val, 0, 0] : Fin 3 → ℕ) a + S1x32x512.size a ≤ S2x32x512.size a := by
  revert b; decide

/-- Half `b` of a double buffer of rows. -/
abbrev halfX (b : Fin 2) (xb : Memref sig .scVector .vmem S2x32x512 .f32) : Memref sig .scVector .vmem S32x512 .f32 :=
  (xb.slice (Rect.unit (s := S2x32x512) ![b.val, 0, 0] S1x32x512.size (inb_half b)) (fun _ => rfl)).squeeze S32x512 squeezes_S1x32x512_S32x512

/-- Gather unit `i` of the second half of a row by the low bytes of the sorted keys `un`. -/
def gatherUnit (b h : Fin 2) (t : Fin k0_t2_loop.trips) (xb ob : Memref sig .scVector .vmem S2x32x512 .f32) (i : Fin 16)
    (un : IVec S16 32) : Prog (Eff F ca cb) PUnit := do
  have rv : IVec S16 32 := addi (broadcast S16 0#32) (broadcast S16 (rowW h t))
  have ix : IVec S16 32 := addi (andi un (broadcast S16 255#32)) (broadcast S16 256#32)
  have hw : k0_chk11 rv ix := (← Prog.lift (TpuEff.assume (k0_chk11 rv ix) (k0_chk11.dec rv ix))).down
  let v : Vec F S16 .f32 ← SparseCore.vectorLoadIdx (halfX b xb) ![rv, ix] (k0_idx11_inb rv ix hw) (View.loads_vmem h_S32x512)
  stOut ob (rowOff b h t (256 + 16 * i.val)) (inb_hi b h t i) v

/-- Write one row of the output buffer. -/
def outRow (b h : Fin 2) (t : Fin k0_t2_loop.trips) (xb ob : Memref sig .scVector .vmem S2x32x512 .f32)
    (un : Fin 16 → IVec S16 32) : Prog (Eff F ca cb) PUnit := do
  forFin 16 fun i => copyUnit b h t xb ob i
  forFin 16 fun i => gatherUnit b h t xb ob i (un i)

/-- Sort every unit of `un` through the scratch. -/
def sortPass (bit : BitVec 32) (tmp : Memref sig .scVector .vmem S512 .i32) (un : Fin 32 → IVec S16 32) :
    Prog (Eff F ca cb) (Fin 32 → IVec S16 32) := do
  forFin 32 fun u => stUnit (F := F) tmp u (un u)
  unitLoop bit tmp
  seqFin 32 fun u => ldUnit (F := F) tmp u

/-- One trip of the pair loop. -/
def pairBody (b : Fin 2) (xb ob : Memref sig .scVector .vmem S2x32x512 .f32) (kb : Memref sig .scVector .vmem S2x32x256 .i32)
    (tmp : Memref sig .scVector .vmem S512 .i32) (t : Fin k0_t2_loop.trips) : Prog (Eff F ca cb) PUnit := do
  let un ← seqFin 32 fun u => ldKey (F := F) b t kb u
  let un ← sortPass 1#32 tmp un
  let un ← sortPass 2#32 tmp (stage 2 1 un)
  let un ← sortPass 4#32 tmp (stage 4 2 un)
  let un ← sortPass 8#32 tmp (stage 8 3 un)
  let un ← sortPass 0#32 tmp (stage 16 4 un)
  outRow b 0 t xb ob fun i => un ⟨i.val, by omega⟩
  outRow b 1 t xb ob fun i => un ⟨16 + i.val, by omega⟩

end Cert.KernelIdeal.Tile

end
-- ==== Proof.Tile.lean ====
/-
  A tile's program of the SparseCore kernel written once, the tile's 4096 rows in 128 chunks of 32
  rows, the next chunk's rows and keys fetched and the chunk before last's results sent out while one is worked on.
-/
module

public import proofs.«01_k».proof.Proof.Body

@[expose] public section

noncomputable section

namespace Cert.KernelIdeal.Tile

open Idealize.ShloMosaic Idealize.SL.Sem
open Facts₀ Facts

variable {F : FTy → Type} [FloatOps F] [Facts]

/-- The first row of a tile. -/
def rowBase (i : grid0.Coords) : BitVec 32 :=
  Scalar.muli (Scalar.addi (Scalar.muli (BitVec.ofNat 32 (i 1).val) 2#32) (BitVec.ofNat 32 (i 0).val)) 4096#32

def offK (i : grid0.Coords) (d : BitVec 32) : Fin 2 → Nat := ![(Scalar.addi (rowBase i) d).toNat, 0]

/-- Tile `(c, s)`'s number: `2 s + c`. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

theorem rowBase_toNat (i : grid0.Coords) : (rowBase i).toNat = 4096 * wid i := by
  have h0 : (i 0).val < 2 := (i 0).isLt
  have h1 : (i 1).val < 16 := (i 1).isLt
  show (((BitVec.ofNat 32 (i 1).val * 2#32) + BitVec.ofNat 32 (i 0).val) * 4096#32).toNat = _
  unfold wid
  simp only [BitVec.toNat_mul, BitVec.toNat_add, BitVec.toNat_ofNat]
  omega

theorem offK_eq (i : grid0.Coords) {d : BitVec 32} (hd : d.toNat + 32 ≤ 4096) : offK i d = ![4096 * wid i + d.toNat, 0] := by
  unfold offK
  have := wid_lt i
  rw [show (Scalar.addi (rowBase i) d).toNat = 4096 * wid i + d.toNat from ?_]
  show (rowBase i + d).toNat = _
  rw [BitVec.toNat_add, rowBase_toNat]; omega

theorem inbK (i : grid0.Coords) {d : BitVec 32} (hd : d.toNat + 32 ≤ 4096) (w : ℕ) :
    ∀ a, offK i d a + (![32, w] : Fin 2 → ℕ) a ≤ (![131072, w] : Fin 2 → ℕ) a := by
  have := wid_lt i
  rw [offK_eq i hd]
  intro a; fin_cases a
  · show 4096 * wid i + d.toNat + 32 ≤ 131072; omega
  · show 0 + w ≤ w; omega

section
variable (i : grid0.Coords)

/-- The 32 rows of the array `d` rows into the tile's. -/
abbrev xSlice (x : Memref sig .scVector .hbm S131072x512 .f32) (d : BitVec 32) (hd : d.toNat + 32 ≤ 4096) : Memref sig .scVector .hbm S32x512 .f32 :=
  x.slice (Rect.unit (s := S131072x512) (offK i d) S32x512.size (inbK i hd 512)) (fun _ => rfl)
/-- The keys of those rows. -/
abbrev kSlice (k : Memref sig .scVector .hbm S131072x256 .i32) (d : BitVec 32) (hd : d.toNat + 32 ≤ 4096) : Memref sig .scVector .hbm S32x256 .i32 :=
  k.slice (Rect.unit (s := S131072x256) (offK i d) S32x256.size (inbK i hd 256)) (fun _ => rfl)
/-- Those rows of the result. -/
abbrev oSlice (o : Memref sig .scVector .hbm S131072x512 .f32) (d : BitVec 32) (hd : d.toNat + 32 ≤ 4096) : Memref sig .scVector .hbm S32x512 .f32 :=
  o.slice (Rect.unit (s := S131072x512) (offK i d) S32x512.size (inbK i hd 512)) (fun _ => rfl)
end

theorem inb_halfK (b : Fin 2) : ∀ a, (![b.val, 0, 0] : Fin 3 → ℕ) a + S1x32x256.size a ≤ S2x32x256.size a := by
  revert b; decide

/-- Half `b` of the double buffer of keys. -/
abbrev halfK (b : Fin 2) (kb : Memref sig .scVector .vmem S2x32x256 .i32) : Memref sig .scVector .vmem S32x256 .i32 :=
  (kb.slice (Rect.unit (s := S2x32x256) ![b.val, 0, 0] S1x32x256.size (inb_halfK b)) (fun _ => rfl)).squeeze S32x256 squeezes_S1x32x256_S32x256

/-- The chunk number `2 t + b`. -/
def chW (t : Fin k0_t1_loop.trips) (b : Fin 2) : BitVec 32 := Scalar.addi (Scalar.muli (Scf.iv 0#32 1#32 t) 2#32) (BitVec.ofNat 32 b.val)

/-- The rows, within the tile's, of chunk `2 t + b`, of the one after it and of the one two before it. -/
def dCur (t : Fin k0_t1_loop.trips) (b : Fin 2) : BitVec 32 := Scalar.muli (chW t b) 32#32
def dNext (t : Fin k0_t1_loop.trips) (b : Fin 2) : BitVec 32 := Scalar.muli (Scalar.addi (chW t b) 1#32) 32#32
def dPrev (t : Fin k0_t1_loop.trips) (b : Fin 2) : BitVec 32 := Scalar.muli (Scalar.subi (chW t b) 2#32) 32#32

/-- A chunk follows; two chunks came before. -/
def hasNext (t : Fin k0_t1_loop.trips) (b : Fin 2) : BitVec 1 :=
  Scalar.cmpi .ne (Scalar.extui (Scalar.cmpi .slt (Scalar.addi (chW t b) 1#32) 128#32) : BitVec 32) 0#32
def hasPrev (t : Fin k0_t1_loop.trips) (b : Fin 2) : BitVec 1 :=
  Scalar.cmpi .ne (Scalar.extui (Scalar.cmpi .sge (chW t b) 2#32) : BitVec 32) 0#32

theorem dCur_toNat (t : Fin k0_t1_loop.trips) (b : Fin 2) : (dCur t b).toNat = 32 * (2 * t.val + b.val) := by revert t b; decide +kernel
theorem hasNext_iff (t : Fin k0_t1_loop.trips) (b : Fin 2) : hasNext t b = 1#1 ↔ 2 * t.val + b.val + 1 < 128 := by revert t b; decide +kernel
theorem hasPrev_iff (t : Fin k0_t1_loop.trips) (b : Fin 2) : hasPrev t b = 1#1 ↔ 2 ≤ 2 * t.val + b.val := by revert t b; decide +kernel
theorem dNext_toNat (t : Fin k0_t1_loop.trips) (b : Fin 2) : (dNext t b).toNat = 32 * (2 * t.val + b.val + 1) := by revert t b; decide +kernel
theorem dPrev_toNat (t : Fin k0_t1_loop.trips) (b : Fin 2) (h : hasPrev t b = 1#1) : (dPrev t b).toNat = 32 * (2 * t.val + b.val - 2) := by
  revert t b; decide +kernel

theorem dCur_le (t : Fin k0_t1_loop.trips) (b : Fin 2) : (dCur t b).toNat + 32 ≤ 4096 := by
  rw [dCur_toNat]; have : t.val < 64 := t.isLt; have := b.isLt; omega
theorem dNext_le (t : Fin k0_t1_loop.trips) (b : Fin 2) (h : hasNext t b = 1#1) : (dNext t b).toNat + 32 ≤ 4096 := by
  rw [dNext_toNat]; have := (hasNext_iff t b).1 h; omega
theorem dPrev_le (t : Fin k0_t1_loop.trips) (b : Fin 2) (h : hasPrev t b = 1#1) : (dPrev t b).toNat + 32 ≤ 4096 := by
  rw [dPrev_toNat t b h]; have : t.val < 64 := t.isLt; have := b.isLt; omega
theorem le_zero : (0#32 : BitVec 32).toNat + 32 ≤ 4096 := by decide
theorem le_4032 : (4032#32 : BitVec 32).toNat + 32 ≤ 4096 := by decide
theorem le_4064 : (4064#32 : BitVec 32).toNat + 32 ≤ 4096 := by decide

/-- One of a pair of semaphores. -/
def pick (b : Fin 2) (s0 s1 : DmaSems sig S_) : DmaSems sig S_ := match b with | 0 => s0 | 1 => s1

/-- The other half. -/
def oth (b : Fin 2) : Fin 2 := match b with | 0 => 1 | 1 => 0

section
variable {ca : Fin τ.nSC} {cb : Fin τ.nSub} (i : grid0.Coords)
  (x : Memref sig .scVector .hbm S131072x512 .f32) (k : Memref sig .scVector .hbm S131072x256 .i32) (o : Memref sig .scVector .hbm S131072x512 .f32)
  (xb ob : Memref sig .scVector .vmem S2x32x512 .f32) (kb : Memref sig .scVector .vmem S2x32x256 .i32)
  (sx0 sx1 sk0 sk1 ss0 ss1 : DmaSems sig S_) (tmp : Memref sig .scVector .vmem S512 .i32)

/-- Start fetching a chunk's rows and keys into half `b`. -/
def ldStart (b : Fin 2) (d : BitVec 32) (hd : d.toNat + 32 ≤ 4096) : Prog (Eff F ca cb) PUnit := do
  Prog.lift (.enqueueDma (xSlice i x d hd) (.here (halfX b xb)) (.dma (pick b sx0 sx1).sem) (View.wordExact_bits rfl) ((View.wordExact_bits rfl).reshape _ _) ⟨Or.inl rfl, trivial⟩)
  Prog.lift (.enqueueDma (kSlice i k d hd) (.here (halfK b kb)) (.dma (pick b sk0 sk1).sem) (View.wordExact_bits rfl) ((View.wordExact_bits rfl).reshape _ _) ⟨Or.inl rfl, trivial⟩)

/-- Wait for a chunk's rows and keys. -/
def ldWait (b : Fin 2) (d : BitVec 32) (hd : d.toNat + 32 ≤ 4096) : Prog (Eff F ca cb) PUnit := do
  Prog.lift (.waitDma2 (pick b sx0 sx1).sem (xSlice i x d hd) (halfX b xb) (View.wordExact_bits rfl) ((View.wordExact_bits rfl).reshape _ _))
  Prog.lift (.waitDma2 (pick b sk0 sk1).sem (kSlice i k d hd) (halfK b kb) (View.wordExact_bits rfl) ((View.wordExact_bits rfl).reshape _ _))

/-- Start sending a chunk's result out. -/
def stStart (b : Fin 2) (d : BitVec 32) (hd : d.toNat + 32 ≤ 4096) : Prog (Eff F ca cb) PUnit :=
  Prog.lift (.enqueueDma (halfX b ob) (.here (oSlice i o d hd)) (.dma (pick b ss0 ss1).sem) ((View.wordExact_bits rfl).reshape _ _) (View.wordExact_bits rfl) ⟨Or.inl rfl, trivial⟩)

/-- Wait for a chunk's result to be out. -/
def stWait (b : Fin 2) (d : BitVec 32) (hd : d.toNat + 32 ≤ 4096) : Prog (Eff F ca cb) PUnit :=
  Prog.lift (.waitDma2 (pick b ss0 ss1).sem (halfX b ob) (oSlice i o d hd) ((View.wordExact_bits rfl).reshape _ _) (View.wordExact_bits rfl))

/-- Chunk `2 t + b`. -/
def halfBody (t : Fin k0_t1_loop.trips) (b : Fin 2) : Prog (Eff F ca cb) PUnit := do
  ldWait i x k xb kb sx0 sx1 sk0 sk1 b (dCur t b) (dCur_le t b)
  if h : hasNext t b = 1#1 then
    ldStart i x k xb kb sx0 sx1 sk0 sk1 (oth b) (dNext t b) (dNext_le t b h)
  else pure ⟨⟩
  if h : hasPrev t b = 1#1 then
    stWait i o ob ss0 ss1 b (dPrev t b) (dPrev_le t b h)
  else pure ⟨⟩
  Scf.Loop.for k0_t2_loop k0_t2_ok ⟨⟩ fun r _ => pairBody b xb ob kb tmp r
  stStart i o ob ss0 ss1 b (dCur t b) (dCur_le t b)

/-- A tile's program. -/
def tileProg : Prog (Eff F ca cb) PUnit := do
  ldStart i x k xb kb sx0 sx1 sk0 sk1 0 0#32 le_zero
  Scf.Loop.for k0_t1_loop k0_t1_ok ⟨⟩ fun t _ => do
    halfBody i x k o xb ob kb sx0 sx1 sk0 sk1 ss0 ss1 tmp t 0
    halfBody i x k o xb ob kb sx0 sx1 sk0 sk1 ss0 ss1 tmp t 1
  stWait i o ob ss0 ss1 0 4032#32 le_4032
  stWait i o ob ss0 ss1 1 4064#32 le_4064
end

end Cert.KernelIdeal.Tile

end
-- ==== Proof.Steps.lean ====
/-
  Stepping two programs side by side.
-/
module

public import proofs.«01_k».proof.Proof.Body

@[expose] public section

noncomputable section

namespace Cert.KernelIdeal.Tile

open Idealize.ShloMosaic Idealize.SL.Sem
open Facts₀ Facts

variable {F : FTy → Type} [FloatOps F] [Facts]

theorem bind_eq {E : Type → Type _} {α β : Type} (p : Prog E α) (k : α → Prog E β) : Prog.bind p k = (p >>= k) := rfl

theorem op_congr {E : Type → Type _} {α X : Type} {e e' : E X} {k k' : X → Prog E α} (he : e = e') (h : ∀ x, k x = k' x) :
    Prog.op e k = Prog.op e' k' := by
  subst he; rw [funext h]

theorem bind_congr' {E : Type → Type _} {α X : Type} {p p' : Prog E X} {k k' : X → Prog E α} (hp : p = p') (h : ∀ x, k x = k' x) :
    (p >>= k) = (p' >>= k') := by
  subst hp; rw [funext h]

theorem for_congr {E : Type → Type _} {w : ℕ} {α β : Type} {L : Scf.Loop w} {ok : L.OK} {a : β} {f f' : Fin L.trips → β → Prog E β} {k k' : β → Prog E α}
    (hf : f = f') (h : ∀ x, k x = k' x) : (Scf.Loop.for L ok a f >>= k) = (Scf.Loop.for L ok a f' >>= k') := by
  subst hf; rw [funext h]

/-- `seqFin` before a continuation. -/
def seqFinK {E : Type → Type _} {α β : Type} : (n : ℕ) → (Fin n → Prog E α) → ((Fin n → α) → Prog E β) → Prog E β
  | 0, _, k => k Fin.elim0
  | n + 1, f, k => f 0 >>= fun a => seqFinK n (fun i => f i.succ) fun r => k (Fin.cons a r)

/-- `forFin` before a continuation. -/
def forFinK {E : Type → Type _} {β : Type} : (n : ℕ) → (Fin n → Prog E PUnit) → (PUnit → Prog E β) → Prog E β
  | 0, _, k => k ⟨⟩
  | n + 1, f, k => f 0 >>= fun _ => forFinK n (fun i => f i.succ) k

theorem seqFin_bind {E : Type → Type _} {α β : Type} : ∀ (n : ℕ) (f : Fin n → Prog E α) (k : (Fin n → α) → Prog E β),
    (seqFin n f >>= k) = seqFinK n f k
  | 0, _, _ => rfl
  | n + 1, f, k => by
    simp only [seqFin, seqFinK, bind_assoc, pure_bind]
    refine bind_congr' rfl fun a => ?_
    exact seqFin_bind n _ _

theorem forFin_bind {E : Type → Type _} {β : Type} : ∀ (n : ℕ) (f : Fin n → Prog E PUnit) (k : PUnit → Prog E β),
    (forFin n f >>= k) = forFinK n f k
  | 0, _, _ => rfl
  | n + 1, f, k => by
    simp only [forFin, forFinK, bind_assoc, pure_bind]
    refine bind_congr' rfl fun a => ?_
    exact forFin_bind n _ _

theorem forFin_eq {E : Type → Type _} (n : ℕ) (f : Fin n → Prog E PUnit) : forFin n f = forFinK n f fun x => pure x := by
  rw [← forFin_bind, bind_pure]

end Cert.KernelIdeal.Tile

end
-- ==== Proof.Eq.lean ====
/-
  The printed program of a tile is `tileProg`.
-/
module

public import proofs.«01_k».proof.Proof.Tile
public import proofs.«01_k».proof.Proof.Steps

@[expose] public section

noncomputable section

namespace Cert.KernelIdeal.Tile

open Idealize.ShloMosaic Idealize.SL.Sem
open Facts₀ Facts

variable {F : FTy → Type} [FloatOps F] [Facts]

variable (i : grid0.Coords) (arg2 : Memref sig .scVector .hbm S131072x512 .f32) (harg2 : arg2.IsWhole) (arg3 : Memref sig .scVector .hbm S131072x256 .i32) (harg3 : arg3.IsWhole) (arg4 : Memref sig .scVector .hbm S131072x512 .f32) (harg4 : arg4.IsWhole) (arg5 : Memref sig .scVector .vmem S2x32x512 .f32) (harg5 : arg5.IsWhole) (arg6 : Memref sig .scVector .vmem S2x32x512 .f32) (harg6 : arg6.IsWhole) (arg7 : Memref sig .scVector .vmem S2x32x256 .i32) (harg7 : arg7.IsWhole) (arg8 arg9 arg10 arg11 arg12 arg13 : DmaSems sig S_) (arg14 : Memref sig .scVector .vmem S512 .i32) (harg14 : arg14.IsWhole)

/-- The printed pair loop's body for half 0 is `pairBody 0`. -/
def P0 : Prop := ∀ t : Fin k0_t2_loop.trips,
    (do
      let v1375 : Vec F S16 .f32 ← k0_part41 i arg2 harg2 arg3 harg3 arg4 harg4 arg5 harg5 arg6 harg6 arg7 harg7 arg8 arg9 arg10 arg11 arg12 arg13 arg14 harg14 0#32 1#32 t
      let v1378_ld : Vec F S1x1x16 .f32 ← Prog.lift (.load arg6 (Rect.unit (s := S2x32x512) (k0_off108 t) S1x1x16.size (k0_off108_inb t)).toLoadRect (View.loadsAt_vmem h_S1x1x16))
      have v1378 : Vec F S16 .f32 := shapeCast S16 v1378_ld shapeCasts_S1x1x16_S16
      Prog.lift (.store arg6 (Rect.unit (s := S2x32x512) (k0_off108 t) S1x1x16.size (k0_off108_inb t)) (shapeCast S1x1x16 v1375 shapeCasts_S16_S1x1x16) Finset.univ (View.stores_vmem_bits_univ h_S1x1x16 rfl) (.inl rfl))
      pure ⟨⟩ : Prog (Eff F ((i 0).castLE hcore0) ((i 1).castLE hsub0)) PUnit)
    = pairBody 0 arg5 arg6 arg7 arg14 t

/-- The printed pair loop's body for half 1 is `pairBody 1`. -/
def P1 : Prop := ∀ t : Fin k0_t13_loop.trips,
    (do
      let v1375 : Vec F S16 .f32 ← k0_part82 i arg2 harg2 arg3 harg3 arg4 harg4 arg5 harg5 arg6 harg6 arg7 harg7 arg8 arg9 arg10 arg11 arg12 arg13 arg14 harg14 0#32 1#32 t
      let v1378_ld : Vec F S1x1x16 .f32 ← Prog.lift (.load arg6 (Rect.unit (s := S2x32x512) (k0_off212 t) S1x1x16.size (k0_off212_inb t)).toLoadRect (View.loadsAt_vmem h_S1x1x16))
      have v1378 : Vec F S16 .f32 := shapeCast S16 v1378_ld shapeCasts_S1x1x16_S16
      Prog.lift (.store arg6 (Rect.unit (s := S2x32x512) (k0_off212 t) S1x1x16.size (k0_off212_inb t)) (shapeCast S1x1x16 v1375 shapeCasts_S16_S1x1x16) Finset.univ (View.stores_vmem_bits_univ h_S1x1x16 rfl) (.inl rfl))
      pure ⟨⟩ : Prog (Eff F ((i 0).castLE hcore0) ((i 1).castLE hsub0)) PUnit)
    = pairBody 1 arg5 arg6 arg7 arg14 t

set_option maxHeartbeats 0 in
set_option maxRecDepth 100000 in
theorem part83_eq (v1 : BitVec 32) (t : Fin k0_t1_loop.trips) :
    k0_part83 (F := F) i arg2 harg2 arg3 harg3 arg4 harg4 arg5 harg5 arg6 harg6 arg7 harg7 arg8 arg9 arg10 arg11 arg12 arg13 arg14 harg14 v1 0#32 1#32 t = (do
      ldWait i arg2 arg3 arg5 arg7 arg8 arg9 arg10 arg11 0 (dCur t 0) (dCur_le t 0)
      if h : hasNext t 0 = 1#1 then
        ldStart i arg2 arg3 arg5 arg7 arg8 arg9 arg10 arg11 (oth 0) (dNext t 0) (dNext_le t 0 h)
      else pure ⟨⟩
      if h : hasPrev t 0 = 1#1 then
        stWait i arg4 arg6 arg12 arg13 0 (dPrev t 0) (dPrev_le t 0 h)
      else pure ⟨⟩
      pure ⟨Scf.iv 0#32 1#32 t, chW t 0, 0#32, 16#32⟩) := by
  by_cases h1 : k0_cond1 t = 1#1 <;> by_cases h2 : k0_cond2 t = 1#1
  · have e1 : hasNext t 0 = 1#1 := h1
    have e2 : hasPrev t 0 = 1#1 := h2
    simp only [k0_part83, dif_pos h1, dif_pos h2, dif_pos e1, dif_pos e2, ldWait, ldStart, stWait, bind_assoc, pure_bind]
    iterate 5 refine op_congr rfl (fun _ => ?_)
    rfl
  · have e1 : hasNext t 0 = 1#1 := h1
    have e2 : ¬ hasPrev t 0 = 1#1 := h2
    simp only [k0_part83, dif_pos h1, dif_neg h2, dif_pos e1, dif_neg e2, ldWait, ldStart, stWait, bind_assoc, pure_bind]
    iterate 4 refine op_congr rfl (fun _ => ?_)
    rfl
  · have e1 : ¬ hasNext t 0 = 1#1 := h1
    have e2 : hasPrev t 0 = 1#1 := h2
    simp only [k0_part83, dif_neg h1, dif_pos h2, dif_neg e1, dif_pos e2, ldWait, ldStart, stWait, bind_assoc, pure_bind]
    iterate 3 refine op_congr rfl (fun _ => ?_)
    rfl
  · have e1 : ¬ hasNext t 0 = 1#1 := h1
    have e2 : ¬ hasPrev t 0 = 1#1 := h2
    simp only [k0_part83, dif_neg h1, dif_neg h2, dif_neg e1, dif_neg e2, ldWait, ldStart, stWait, bind_assoc, pure_bind]
    iterate 2 refine op_congr rfl (fun _ => ?_)
    rfl

/-- The first of a chunk's two waits. -/
def ldWaitX (b : Fin 2) (d : BitVec 32) (hd : d.toNat + 32 ≤ 4096) : Prog (Eff F ((i 0).castLE hcore0) ((i 1).castLE hsub0)) PUnit :=
  Prog.lift (.waitDma2 (pick b arg8 arg9).sem (xSlice i arg2 d hd) (halfX b arg5) (View.wordExact_bits rfl) ((View.wordExact_bits rfl).reshape _ _))

set_option maxHeartbeats 0 in
set_option maxRecDepth 100000 in
theorem part84_eq (h0 : P0 (F := F) i arg2 harg2 arg3 harg3 arg4 harg4 arg5 harg5 arg6 harg6 arg7 harg7 arg8 arg9 arg10 arg11 arg12 arg13 arg14 harg14) (v1 : BitVec 32) (t : Fin k0_t1_loop.trips) :
    k0_part84 (F := F) i arg2 harg2 arg3 harg3 arg4 harg4 arg5 harg5 arg6 harg6 arg7 harg7 arg8 arg9 arg10 arg11 arg12 arg13 arg14 harg14 v1 t (Scf.iv 0#32 1#32 t) (chW t 0) 0#32 16#32 = (do
      Scf.Loop.for k0_t2_loop k0_t2_ok ⟨⟩ fun r _ => pairBody 0 arg5 arg6 arg7 arg14 r
      stStart i arg4 arg6 arg12 arg13 0 (dCur t 0) (dCur_le t 0)
      ldWaitX i arg2 arg5 arg8 arg9 1 (dCur t 1) (dCur_le t 1)
      pure (chW t 1)) := by
  simp only [k0_part84, stStart, ldWaitX, bind_assoc, pure_bind]
  refine for_congr (funext fun r => funext fun _ => ?_) (fun _ => ?_)
  · rw [← h0 r]
  iterate 2 refine op_congr rfl (fun _ => ?_)
  rfl

end Cert.KernelIdeal.Tile

end
-- ==== Proof.EqA.lean ====
/-
  The printed program of a tile is `tileProg`.
-/
module

public import proofs.«01_k».proof.Proof.Tile
public import proofs.«01_k».proof.Proof.Steps
public import proofs.«01_k».proof.Proof.Eq

@[expose] public section

noncomputable section

namespace Cert.KernelIdeal.Tile

open Idealize.ShloMosaic Idealize.SL.Sem
open Facts₀ Facts

variable {F : FTy → Type} [FloatOps F] [Facts]

variable (i : grid0.Coords) (arg2 : Memref sig .scVector .hbm S131072x512 .f32) (harg2 : arg2.IsWhole) (arg3 : Memref sig .scVector .hbm S131072x256 .i32) (harg3 : arg3.IsWhole) (arg4 : Memref sig .scVector .hbm S131072x512 .f32) (harg4 : arg4.IsWhole) (arg5 : Memref sig .scVector .vmem S2x32x512 .f32) (harg5 : arg5.IsWhole) (arg6 : Memref sig .scVector .vmem S2x32x512 .f32) (harg6 : arg6.IsWhole) (arg7 : Memref sig .scVector .vmem S2x32x256 .i32) (harg7 : arg7.IsWhole) (arg8 arg9 arg10 arg11 arg12 arg13 : DmaSems sig S_) (arg14 : Memref sig .scVector .vmem S512 .i32) (harg14 : arg14.IsWhole)

theorem halves_eq (t : Fin k0_t1_loop.trips) : (do
      halfBody (F := F) (ca := (i 0).castLE hcore0) (cb := (i 1).castLE hsub0) i arg2 arg3 arg4 arg5 arg6 arg7 arg8 arg9 arg10 arg11 arg12 arg13 arg14 t 0
      halfBody i arg2 arg3 arg4 arg5 arg6 arg7 arg8 arg9 arg10 arg11 arg12 arg13 arg14 t 1) = (do
      ldWait i arg2 arg3 arg5 arg7 arg8 arg9 arg10 arg11 0 (dCur t 0) (dCur_le t 0)
      if h : hasNext t 0 = 1#1 then
        ldStart i arg2 arg3 arg5 arg7 arg8 arg9 arg10 arg11 (oth 0) (dNext t 0) (dNext_le t 0 h)
      else pure ⟨⟩
      if h : hasPrev t 0 = 1#1 then
        stWait i arg4 arg6 arg12 arg13 0 (dPrev t 0) (dPrev_le t 0 h)
      else pure ⟨⟩
      Scf.Loop.for k0_t2_loop k0_t2_ok ⟨⟩ fun r _ => pairBody 0 arg5 arg6 arg7 arg14 r
      stStart i arg4 arg6 arg12 arg13 0 (dCur t 0) (dCur_le t 0)
      ldWaitX i arg2 arg5 arg8 arg9 1 (dCur t 1) (dCur_le t 1)
      Prog.lift (.waitDma2 (pick 1 arg10 arg11).sem (kSlice i arg3 (dCur t 1) (dCur_le t 1)) (halfK 1 arg7) (View.wordExact_bits rfl) ((View.wordExact_bits rfl).reshape _ _))
      if h : hasNext t 1 = 1#1 then
        ldStart i arg2 arg3 arg5 arg7 arg8 arg9 arg10 arg11 (oth 1) (dNext t 1) (dNext_le t 1 h)
      else pure ⟨⟩
      if h : hasPrev t 1 = 1#1 then
        stWait i arg4 arg6 arg12 arg13 1 (dPrev t 1) (dPrev_le t 1 h)
      else pure ⟨⟩
      Scf.Loop.for k0_t2_loop k0_t2_ok ⟨⟩ fun r _ => pairBody 1 arg5 arg6 arg7 arg14 r
      stStart i arg4 arg6 arg12 arg13 1 (dCur t 1) (dCur_le t 1)) := by
  by_cases e1 : hasNext t 0 = 1#1 <;> by_cases e2 : hasPrev t 0 = 1#1 <;> by_cases e3 : hasNext t 1 = 1#1 <;> by_cases e4 : hasPrev t 1 = 1#1 <;>
    simp only [halfBody, ldWait, ldWaitX, e1, e2, e3, e4, dite_true, dite_false, bind_assoc, pure_bind]

end Cert.KernelIdeal.Tile

end
-- ==== Proof.EqB.lean ====
/-
  The printed program of a tile is `tileProg`.
-/
module

public import proofs.«01_k».proof.Proof.Tile
public import proofs.«01_k».proof.Proof.Steps
public import proofs.«01_k».proof.Proof.EqA

@[expose] public section

noncomputable section

namespace Cert.KernelIdeal.Tile

open Idealize.ShloMosaic Idealize.SL.Sem
open Facts₀ Facts

variable {F : FTy → Type} [FloatOps F] [Facts]

variable (i : grid0.Coords) (arg2 : Memref sig .scVector .hbm S131072x512 .f32) (harg2 : arg2.IsWhole) (arg3 : Memref sig .scVector .hbm S131072x256 .i32) (harg3 : arg3.IsWhole) (arg4 : Memref sig .scVector .hbm S131072x512 .f32) (harg4 : arg4.IsWhole) (arg5 : Memref sig .scVector .vmem S2x32x512 .f32) (harg5 : arg5.IsWhole) (arg6 : Memref sig .scVector .vmem S2x32x512 .f32) (harg6 : arg6.IsWhole) (arg7 : Memref sig .scVector .vmem S2x32x256 .i32) (harg7 : arg7.IsWhole) (arg8 arg9 arg10 arg11 arg12 arg13 : DmaSems sig S_) (arg14 : Memref sig .scVector .vmem S512 .i32) (harg14 : arg14.IsWhole)

set_option maxHeartbeats 0 in
set_option maxRecDepth 100000 in
theorem trip_eq (h0 : P0 (F := F) i arg2 harg2 arg3 harg3 arg4 harg4 arg5 harg5 arg6 harg6 arg7 harg7 arg8 arg9 arg10 arg11 arg12 arg13 arg14 harg14) (h1 : P1 (F := F) i arg2 harg2 arg3 harg3 arg4 harg4 arg5 harg5 arg6 harg6 arg7 harg7 arg8 arg9 arg10 arg11 arg12 arg13 arg14 harg14) (v1 : BitVec 32) (t : Fin k0_t1_loop.trips) : (do
    let ⟨arg15, v36, c0_i32_59, c16_i32⟩ : Σ' (arg15 : BitVec 32) (v36 : BitVec 32) (c0_i32_59 : BitVec 32), BitVec 32 ← k0_part83 i arg2 harg2 arg3 harg3 arg4 harg4 arg5 harg5 arg6 harg6 arg7 harg7 arg8 arg9 arg10 arg11 arg12 arg13 arg14 harg14 v1 0#32 1#32 t
    let v73 : BitVec 32 ← k0_part84 i arg2 harg2 arg3 harg3 arg4 harg4 arg5 harg5 arg6 harg6 arg7 harg7 arg8 arg9 arg10 arg11 arg12 arg13 arg14 harg14 v1 t arg15 v36 c0_i32_59 c16_i32
    let v89 : Memref sig .scVector .vmem S1x32x256 .i32 := arg7.slice (Rect.unit (s := S2x32x256) ![1, 0, 0] S1x32x256.size inb_S2x32x256_S1x32x256_1_0_0) (fun _ => rfl)
    let v90 : Memref sig .scVector .vmem S32x256 .i32 := v89.squeeze S32x256 squeezes_S1x32x256_S32x256
    let c0_i32_90 : BitVec 32 := 0#32
    let v91 : Memref sig .scVector .hbm S32x256 .i32 := arg3.slice (Rect.unit (s := S131072x256) (k0_off4 i t 1#32) S32x256.size (k0_off4_inb i t 1)) (fun _ => rfl)
    Prog.lift (.waitDma2 arg11.sem v91 v90 (View.wordExact_bits rfl) ((View.wordExact_bits rfl).reshape _ _))
    let c1_i32_91 : BitVec 32 := 1#32
    let v92 : BitVec 32 := Scalar.addi v73 c1_i32_91
    let c128_i32_92 : BitVec 32 := 128#32
    let v93 : BitVec 1 := Scalar.cmpi .slt v92 c128_i32_92
    let v94 : BitVec 32 := Scalar.extui v93
    let c0_i32_93 : BitVec 32 := 0#32
    let v95 : BitVec 1 := Scalar.cmpi .ne v94 c0_i32_93
    if k0_h3 : k0_cond3 t = 1#1 then do
      let c1_i32_110 : BitVec 32 := 1#32
      let v109 : BitVec 32 := Scalar.addi v73 c1_i32_110
      let c4096_i32_111 : BitVec 32 := 4096#32
      let v110 : BitVec 32 := Scalar.muli v1 c4096_i32_111
      let c32_i32_112 : BitVec 32 := 32#32
      let v111 : BitVec 32 := Scalar.muli v109 c32_i32_112
      let v112 : BitVec 32 := Scalar.addi v110 v111
      let c0_i32_113 : BitVec 32 := 0#32
      let c0_i32_114 : BitVec 32 := 0#32
      let c0_i32_115 : BitVec 32 := 0#32
      let v113 : Memref sig .scVector .vmem S1x32x512 .f32 := arg5.slice (Rect.unit (s := S2x32x512) ![0, 0, 0] S1x32x512.size inb_S2x32x512_S1x32x512_0_0_0) (fun _ => rfl)
      let v114 : Memref sig .scVector .vmem S32x512 .f32 := v113.squeeze S32x512 squeezes_S1x32x512_S32x512
      let c0_i32_116 : BitVec 32 := 0#32
      let v115 : Memref sig .scVector .hbm S32x512 .f32 := arg2.slice (Rect.unit (s := S131072x512) (k0_off109 i t) S32x512.size (k0_off109_inb i t k0_h3)) (fun _ => rfl)
      let c0_i32_117 : BitVec 32 := 0#32
      let c0_i32_118 : BitVec 32 := 0#32
      let v116 : Memref sig .scVector .vmem S1x32x512 .f32 := arg5.slice (Rect.unit (s := S2x32x512) ![0, 0, 0] S1x32x512.size inb_S2x32x512_S1x32x512_0_0_0) (fun _ => rfl)
      let v117 : Memref sig .scVector .vmem S32x512 .f32 := v116.squeeze S32x512 squeezes_S1x32x512_S32x512
      let c0_i32_119 : BitVec 32 := 0#32
      let v118 : Memref sig .scVector .hbm S32x512 .f32 := arg2.slice (Rect.unit (s := S131072x512) (k0_off109 i t) S32x512.size (k0_off109_inb i t k0_h3)) (fun _ => rfl)
      Prog.lift (.enqueueDma v118 (.here v117) (.dma arg8.sem) (View.wordExact_bits rfl) ((View.wordExact_bits rfl).reshape _ _) ⟨Or.inl rfl, trivial⟩)
      let c4096_i32_120 : BitVec 32 := 4096#32
      let v119 : BitVec 32 := Scalar.muli v1 c4096_i32_120
      let c32_i32_121 : BitVec 32 := 32#32
      let v120 : BitVec 32 := Scalar.muli v109 c32_i32_121
      let v121 : BitVec 32 := Scalar.addi v119 v120
      let c0_i32_122 : BitVec 32 := 0#32
      let c0_i32_123 : BitVec 32 := 0#32
      let c0_i32_124 : BitVec 32 := 0#32
      let v122 : Memref sig .scVector .vmem S1x32x256 .i32 := arg7.slice (Rect.unit (s := S2x32x256) ![0, 0, 0] S1x32x256.size inb_S2x32x256_S1x32x256_0_0_0) (fun _ => rfl)
      let v123 : Memref sig .scVector .vmem S32x256 .i32 := v122.squeeze S32x256 squeezes_S1x32x256_S32x256
      let c0_i32_125 : BitVec 32 := 0#32
      let v124 : Memref sig .scVector .hbm S32x256 .i32 := arg3.slice (Rect.unit (s := S131072x256) (k0_off110 i t) S32x256.size (k0_off110_inb i t k0_h3)) (fun _ => rfl)
      let c0_i32_126 : BitVec 32 := 0#32
      let c0_i32_127 : BitVec 32 := 0#32
      let v125 : Memref sig .scVector .vmem S1x32x256 .i32 := arg7.slice (Rect.unit (s := S2x32x256) ![0, 0, 0] S1x32x256.size inb_S2x32x256_S1x32x256_0_0_0) (fun _ => rfl)
      let v126 : Memref sig .scVector .vmem S32x256 .i32 := v125.squeeze S32x256 squeezes_S1x32x256_S32x256
      let c0_i32_128 : BitVec 32 := 0#32
      let v127 : Memref sig .scVector .hbm S32x256 .i32 := arg3.slice (Rect.unit (s := S131072x256) (k0_off110 i t) S32x256.size (k0_off110_inb i t k0_h3)) (fun _ => rfl)
      Prog.lift (.enqueueDma v127 (.here v126) (.dma arg10.sem) (View.wordExact_bits rfl) ((View.wordExact_bits rfl).reshape _ _) ⟨Or.inl rfl, trivial⟩)
      pure ⟨⟩
    else do
      pure ⟨⟩
    let c2_i32_94 : BitVec 32 := 2#32
    let v96 : BitVec 1 := Scalar.cmpi .sge v73 c2_i32_94
    let v97 : BitVec 32 := Scalar.extui v96
    let c0_i32_95 : BitVec 32 := 0#32
    let v98 : BitVec 1 := Scalar.cmpi .ne v97 c0_i32_95
    if k0_h4 : k0_cond4 t = 1#1 then do
      let c2_i32_110 : BitVec 32 := 2#32
      let v109 : BitVec 32 := Scalar.subi v73 c2_i32_110
      let c4096_i32_111 : BitVec 32 := 4096#32
      let v110 : BitVec 32 := Scalar.muli v1 c4096_i32_111
      let c32_i32_112 : BitVec 32 := 32#32
      let v111 : BitVec 32 := Scalar.muli v109 c32_i32_112
      let v112 : BitVec 32 := Scalar.addi v110 v111
      let c1_i32_113 : BitVec 32 := 1#32
      let c0_i32_114 : BitVec 32 := 0#32
      let c0_i32_115 : BitVec 32 := 0#32
      let v113 : Memref sig .scVector .vmem S1x32x512 .f32 := arg6.slice (Rect.unit (s := S2x32x512) ![1, 0, 0] S1x32x512.size inb_S2x32x512_S1x32x512_1_0_0) (fun _ => rfl)
      let v114 : Memref sig .scVector .vmem S32x512 .f32 := v113.squeeze S32x512 squeezes_S1x32x512_S32x512
      let c0_i32_116 : BitVec 32 := 0#32
      let v115 : Memref sig .scVector .hbm S32x512 .f32 := arg4.slice (Rect.unit (s := S131072x512) (k0_off111 i t) S32x512.size (k0_off111_inb i t k0_h4)) (fun _ => rfl)
      let c0_i32_117 : BitVec 32 := 0#32
      let v116 : Memref sig .scVector .hbm S32x512 .f32 := arg4.slice (Rect.unit (s := S131072x512) (k0_off111 i t) S32x512.size (k0_off111_inb i t k0_h4)) (fun _ => rfl)
      let c0_i32_118 : BitVec 32 := 0#32
      let c0_i32_119 : BitVec 32 := 0#32
      let v117 : Memref sig .scVector .vmem S1x32x512 .f32 := arg6.slice (Rect.unit (s := S2x32x512) ![1, 0, 0] S1x32x512.size inb_S2x32x512_S1x32x512_1_0_0) (fun _ => rfl)
      let v118 : Memref sig .scVector .vmem S32x512 .f32 := v117.squeeze S32x512 squeezes_S1x32x512_S32x512
      Prog.lift (.waitDma2 arg13.sem v118 v116 ((View.wordExact_bits rfl).reshape _ _) (View.wordExact_bits rfl))
      pure ⟨⟩
    else do
      pure ⟨⟩
    let c0_i32_96 : BitVec 32 := 0#32
    let c0_i32_97 : BitVec 32 := 0#32
    let c16_i32_98 : BitVec 32 := 16#32
    let v99 : BitVec 32 := Scalar.addi c0_i32_97 c16_i32_98
    let c1_i32_99 : BitVec 32 := 1#32
    Scf.Loop.for k0_t13_loop k0_t13_ok ⟨⟩ fun k0_t13 _ => do
      let v1372 : Vec F S16 .f32 ← k0_part82 i arg2 harg2 arg3 harg3 arg4 harg4 arg5 harg5 arg6 harg6 arg7 harg7 arg8 arg9 arg10 arg11 arg12 arg13 arg14 harg14 c0_i32_97 c1_i32_99 k0_t13
      let v1375_ld : Vec F S1x1x16 .f32 ← Prog.lift (.load arg6 (Rect.unit (s := S2x32x512) (k0_off212 k0_t13) S1x1x16.size (k0_off212_inb k0_t13)).toLoadRect (View.loadsAt_vmem h_S1x1x16))
      have v1375 : Vec F S16 .f32 := shapeCast S16 v1375_ld shapeCasts_S1x1x16_S16
      Prog.lift (.store arg6 (Rect.unit (s := S2x32x512) (k0_off212 k0_t13) S1x1x16.size (k0_off212_inb k0_t13)) (shapeCast S1x1x16 v1372 shapeCasts_S16_S1x1x16) Finset.univ (View.stores_vmem_bits_univ h_S1x1x16 rfl) (.inl rfl))
      pure ⟨⟩
    let c16_i32_100 : BitVec 32 := 16#32
    let c4096_i32_101 : BitVec 32 := 4096#32
    let v100 : BitVec 32 := Scalar.muli v1 c4096_i32_101
    let c32_i32_102 : BitVec 32 := 32#32
    let v101 : BitVec 32 := Scalar.muli v73 c32_i32_102
    let v102 : BitVec 32 := Scalar.addi v100 v101
    let c1_i32_103 : BitVec 32 := 1#32
    let c0_i32_104 : BitVec 32 := 0#32
    let c0_i32_105 : BitVec 32 := 0#32
    let v103 : Memref sig .scVector .vmem S1x32x512 .f32 := arg6.slice (Rect.unit (s := S2x32x512) ![1, 0, 0] S1x32x512.size inb_S2x32x512_S1x32x512_1_0_0) (fun _ => rfl)
    let v104 : Memref sig .scVector .vmem S32x512 .f32 := v103.squeeze S32x512 squeezes_S1x32x512_S32x512
    let c0_i32_106 : BitVec 32 := 0#32
    let v105 : Memref sig .scVector .hbm S32x512 .f32 := arg4.slice (Rect.unit (s := S131072x512) (k0_off3 i t 1#32) S32x512.size (k0_off3_inb i t 1)) (fun _ => rfl)
    let c0_i32_107 : BitVec 32 := 0#32
    let v106 : Memref sig .scVector .hbm S32x512 .f32 := arg4.slice (Rect.unit (s := S131072x512) (k0_off3 i t 1#32) S32x512.size (k0_off3_inb i t 1)) (fun _ => rfl)
    let c0_i32_108 : BitVec 32 := 0#32
    let c0_i32_109 : BitVec 32 := 0#32
    let v107 : Memref sig .scVector .vmem S1x32x512 .f32 := arg6.slice (Rect.unit (s := S2x32x512) ![1, 0, 0] S1x32x512.size inb_S2x32x512_S1x32x512_1_0_0) (fun _ => rfl)
    let v108 : Memref sig .scVector .vmem S32x512 .f32 := v107.squeeze S32x512 squeezes_S1x32x512_S32x512
    Prog.lift (.enqueueDma v108 (.here v106) (.dma arg13.sem) ((View.wordExact_bits rfl).reshape _ _) (View.wordExact_bits rfl) ⟨Or.inl rfl, trivial⟩)
    pure ⟨⟩
) = ((do
      halfBody (F := F) i arg2 arg3 arg4 arg5 arg6 arg7 arg8 arg9 arg10 arg11 arg12 arg13 arg14 t 0
      halfBody i arg2 arg3 arg4 arg5 arg6 arg7 arg8 arg9 arg10 arg11 arg12 arg13 arg14 t 1 : Prog (Eff F ((i 0).castLE hcore0) ((i 1).castLE hsub0)) PUnit)) := by
  rw [halves_eq, part83_eq]
  have key : ∀ q q' : PUnit → Prog (Eff F ((i 0).castLE hcore0) ((i 1).castLE hsub0)) PUnit, ∀ f, f = (fun (r : Fin k0_t13_loop.trips) (_ : PUnit) => pairBody (F := F) (ca := (i 0).castLE hcore0) (cb := (i 1).castLE hsub0) 1 arg5 arg6 arg7 arg14 r) →
      (∀ x, q x = q' x) → (Scf.Loop.for k0_t13_loop k0_t13_ok ⟨⟩ f >>= q) = (Scf.Loop.for k0_t2_loop k0_t2_ok ⟨⟩ (fun r _ => pairBody 1 arg5 arg6 arg7 arg14 r) >>= q') := by
    intro q q' f hf hq; subst hf; rw [funext hq]
  by_cases e1 : hasNext t 0 = 1#1 <;> by_cases e2 : hasPrev t 0 = 1#1 <;> by_cases e3 : hasNext t 1 = 1#1 <;> by_cases e4 : hasPrev t 1 = 1#1
  · have g3 : k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_pos e1, dif_pos e2, dif_pos e3, dif_pos e4, dif_pos g3, dif_pos g4, ldWait, ldWaitX, ldStart, stWait, stStart, bind_assoc, pure_bind]
    iterate 5 refine op_congr rfl (fun _ => ?_)
    refine for_congr rfl (fun _ => ?_)
    iterate 6 refine op_congr rfl (fun _ => ?_)
    refine key _ _ _ (funext fun r => funext fun _ => h1 r) (fun _ => ?_)
    rfl
  · have g3 : k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_pos e1, dif_pos e2, dif_pos e3, dif_neg e4, dif_pos g3, dif_neg g4, ldWait, ldWaitX, ldStart, stWait, stStart, bind_assoc, pure_bind]
    iterate 5 refine op_congr rfl (fun _ => ?_)
    refine for_congr rfl (fun _ => ?_)
    iterate 5 refine op_congr rfl (fun _ => ?_)
    refine key _ _ _ (funext fun r => funext fun _ => h1 r) (fun _ => ?_)
    rfl
  · have g3 : ¬ k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_pos e1, dif_pos e2, dif_neg e3, dif_pos e4, dif_neg g3, dif_pos g4, ldWait, ldWaitX, ldStart, stWait, stStart, bind_assoc, pure_bind]
    iterate 5 refine op_congr rfl (fun _ => ?_)
    refine for_congr rfl (fun _ => ?_)
    iterate 4 refine op_congr rfl (fun _ => ?_)
    refine key _ _ _ (funext fun r => funext fun _ => h1 r) (fun _ => ?_)
    rfl
  · have g3 : ¬ k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_pos e1, dif_pos e2, dif_neg e3, dif_neg e4, dif_neg g3, dif_neg g4, ldWait, ldWaitX, ldStart, stWait, stStart, bind_assoc, pure_bind]
    iterate 5 refine op_congr rfl (fun _ => ?_)
    refine for_congr rfl (fun _ => ?_)
    iterate 3 refine op_congr rfl (fun _ => ?_)
    refine key _ _ _ (funext fun r => funext fun _ => h1 r) (fun _ => ?_)
    rfl
  · have g3 : k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_pos e1, dif_neg e2, dif_pos e3, dif_pos e4, dif_pos g3, dif_pos g4, ldWait, ldWaitX, ldStart, stWait, stStart, bind_assoc, pure_bind]
    iterate 4 refine op_congr rfl (fun _ => ?_)
    refine for_congr rfl (fun _ => ?_)
    iterate 6 refine op_congr rfl (fun _ => ?_)
    refine key _ _ _ (funext fun r => funext fun _ => h1 r) (fun _ => ?_)
    rfl
  · have g3 : k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_pos e1, dif_neg e2, dif_pos e3, dif_neg e4, dif_pos g3, dif_neg g4, ldWait, ldWaitX, ldStart, stWait, stStart, bind_assoc, pure_bind]
    iterate 4 refine op_congr rfl (fun _ => ?_)
    refine for_congr rfl (fun _ => ?_)
    iterate 5 refine op_congr rfl (fun _ => ?_)
    refine key _ _ _ (funext fun r => funext fun _ => h1 r) (fun _ => ?_)
    rfl
  · have g3 : ¬ k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_pos e1, dif_neg e2, dif_neg e3, dif_pos e4, dif_neg g3, dif_pos g4, ldWait, ldWaitX, ldStart, stWait, stStart, bind_assoc, pure_bind]
    iterate 4 refine op_congr rfl (fun _ => ?_)
    refine for_congr rfl (fun _ => ?_)
    iterate 4 refine op_congr rfl (fun _ => ?_)
    refine key _ _ _ (funext fun r => funext fun _ => h1 r) (fun _ => ?_)
    rfl
  · have g3 : ¬ k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_pos e1, dif_neg e2, dif_neg e3, dif_neg e4, dif_neg g3, dif_neg g4, ldWait, ldWaitX, ldStart, stWait, stStart, bind_assoc, pure_bind]
    iterate 4 refine op_congr rfl (fun _ => ?_)
    refine for_congr rfl (fun _ => ?_)
    iterate 3 refine op_congr rfl (fun _ => ?_)
    refine key _ _ _ (funext fun r => funext fun _ => h1 r) (fun _ => ?_)
    rfl
  · have g3 : k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_neg e1, dif_pos e2, dif_pos e3, dif_pos e4, dif_pos g3, dif_pos g4, ldWait, ldWaitX, ldStart, stWait, stStart, bind_assoc, pure_bind]
    iterate 3 refine op_congr rfl (fun _ => ?_)
    refine for_congr rfl (fun _ => ?_)
    iterate 6 refine op_congr rfl (fun _ => ?_)
    refine key _ _ _ (funext fun r => funext fun _ => h1 r) (fun _ => ?_)
    rfl
  · have g3 : k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_neg e1, dif_pos e2, dif_pos e3, dif_neg e4, dif_pos g3, dif_neg g4, ldWait, ldWaitX, ldStart, stWait, stStart, bind_assoc, pure_bind]
    iterate 3 refine op_congr rfl (fun _ => ?_)
    refine for_congr rfl (fun _ => ?_)
    iterate 5 refine op_congr rfl (fun _ => ?_)
    refine key _ _ _ (funext fun r => funext fun _ => h1 r) (fun _ => ?_)
    rfl
  · have g3 : ¬ k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_neg e1, dif_pos e2, dif_neg e3, dif_pos e4, dif_neg g3, dif_pos g4, ldWait, ldWaitX, ldStart, stWait, stStart, bind_assoc, pure_bind]
    iterate 3 refine op_congr rfl (fun _ => ?_)
    refine for_congr rfl (fun _ => ?_)
    iterate 4 refine op_congr rfl (fun _ => ?_)
    refine key _ _ _ (funext fun r => funext fun _ => h1 r) (fun _ => ?_)
    rfl
  · have g3 : ¬ k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_neg e1, dif_pos e2, dif_neg e3, dif_neg e4, dif_neg g3, dif_neg g4, ldWait, ldWaitX, ldStart, stWait, stStart, bind_assoc, pure_bind]
    iterate 3 refine op_congr rfl (fun _ => ?_)
    refine for_congr rfl (fun _ => ?_)
    iterate 3 refine op_congr rfl (fun _ => ?_)
    refine key _ _ _ (funext fun r => funext fun _ => h1 r) (fun _ => ?_)
    rfl
  · have g3 : k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_neg e1, dif_neg e2, dif_pos e3, dif_pos e4, dif_pos g3, dif_pos g4, ldWait, ldWaitX, ldStart, stWait, stStart, bind_assoc, pure_bind]
    iterate 2 refine op_congr rfl (fun _ => ?_)
    refine for_congr rfl (fun _ => ?_)
    iterate 6 refine op_congr rfl (fun _ => ?_)
    refine key _ _ _ (funext fun r => funext fun _ => h1 r) (fun _ => ?_)
    rfl
  · have g3 : k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_neg e1, dif_neg e2, dif_pos e3, dif_neg e4, dif_pos g3, dif_neg g4, ldWait, ldWaitX, ldStart, stWait, stStart, bind_assoc, pure_bind]
    iterate 2 refine op_congr rfl (fun _ => ?_)
    refine for_congr rfl (fun _ => ?_)
    iterate 5 refine op_congr rfl (fun _ => ?_)
    refine key _ _ _ (funext fun r => funext fun _ => h1 r) (fun _ => ?_)
    rfl
  · have g3 : ¬ k0_cond3 t = 1#1 := e3
    have g4 : k0_cond4 t = 1#1 := e4
    simp only [part84_eq i arg2 harg2 arg3 harg3 arg4 harg4 arg5 harg5 arg6 harg6 arg7 harg7 arg8 arg9 arg10 arg11 arg12 arg13 arg14 harg14 h0, dif_neg e1, dif_neg e2, dif_neg e3, dif_pos e4, dif_neg g3, dif_pos g4, ldWait, ldWaitX, ldStart, stWait, stStart, bind_assoc, pure_bind]
    iterate 2 refine op_congr rfl (fun _ => ?_)
    refine for_congr rfl (fun _ => ?_)
    iterate 4 refine op_congr rfl (fun _ => ?_)
    refine key _ _ _ (funext fun r => funext fun _ => h1 r) (fun _ => ?_)
    rfl
  · have g3 : ¬ k0_cond3 t = 1#1 := e3
    have g4 : ¬ k0_cond4 t = 1#1 := e4
    simp only [part84_eq i arg2 harg2 arg3 harg3 arg4 harg4 arg5 harg5 arg6 harg6 arg7 harg7 arg8 arg9 arg10 arg11 arg12 arg13 arg14 harg14 h0, dif_neg e1, dif_neg e2, dif_neg e3, dif_neg e4, dif_neg g3, dif_neg g4, ldWait, ldWaitX, ldStart, stWait, stStart, bind_assoc, pure_bind]
    iterate 2 refine op_congr rfl (fun _ => ?_)
    refine for_congr rfl (fun _ => ?_)
    iterate 3 refine op_congr rfl (fun _ => ?_)
    refine key _ _ _ (funext fun r => funext fun _ => h1 r) (fun _ => ?_)
    rfl

end Cert.KernelIdeal.Tile

end
-- ==== Proof.EqC.lean ====
/-
  The printed program of a tile is `tileProg`.
-/
module

public import proofs.«01_k».proof.Proof.Tile
public import proofs.«01_k».proof.Proof.Steps
public import proofs.«01_k».proof.Proof.EqB

@[expose] public section

noncomputable section

namespace Cert.KernelIdeal.Tile

open Idealize.ShloMosaic Idealize.SL.Sem
open Facts₀ Facts

variable {F : FTy → Type} [FloatOps F] [Facts]

variable (i : grid0.Coords) (arg2 : Memref sig .scVector .hbm S131072x512 .f32) (harg2 : arg2.IsWhole) (arg3 : Memref sig .scVector .hbm S131072x256 .i32) (harg3 : arg3.IsWhole) (arg4 : Memref sig .scVector .hbm S131072x512 .f32) (harg4 : arg4.IsWhole) (arg5 : Memref sig .scVector .vmem S2x32x512 .f32) (harg5 : arg5.IsWhole) (arg6 : Memref sig .scVector .vmem S2x32x512 .f32) (harg6 : arg6.IsWhole) (arg7 : Memref sig .scVector .vmem S2x32x256 .i32) (harg7 : arg7.IsWhole) (arg8 arg9 arg10 arg11 arg12 arg13 : DmaSems sig S_) (arg14 : Memref sig .scVector .vmem S512 .i32) (harg14 : arg14.IsWhole)

set_option maxHeartbeats 0 in
set_option maxRecDepth 100000 in
theorem tile_eq (h0 : P0 (F := F) i arg2 harg2 arg3 harg3 arg4 harg4 arg5 harg5 arg6 harg6 arg7 harg7 arg8 arg9 arg10 arg11 arg12 arg13 arg14 harg14) (h1 : P1 (F := F) i arg2 harg2 arg3 harg3 arg4 harg4 arg5 harg5 arg6 harg6 arg7 harg7 arg8 arg9 arg10 arg11 arg12 arg13 arg14 harg14) :
    cc0__sc_permute (F := F) i arg2 harg2 arg3 harg3 arg4 harg4 arg5 harg5 arg6 harg6 arg7 harg7 arg8 arg9 arg10 arg11 arg12 arg13 arg14 harg14 = tileProg i arg2 arg3 arg4 arg5 arg6 arg7 arg8 arg9 arg10 arg11 arg12 arg13 arg14 := by
  simp only [cc0__sc_permute, k0_part85, tileProg, ldStart, stWait, bind_assoc, pure_bind]
  iterate 2 refine op_congr rfl (fun _ => ?_)
  refine for_congr (funext fun t => funext fun _ => ?_) (fun _ => ?_)
  · exact trip_eq i arg2 harg2 arg3 harg3 arg4 harg4 arg5 harg5 arg6 harg6 arg7 harg7 arg8 arg9 arg10 arg11 arg12 arg13 arg14 harg14 h0 h1 _ t
  iterate 2 refine op_congr rfl (fun _ => ?_)
  rfl

end Cert.KernelIdeal.Tile

end
-- ==== Proof.Net.lean ====
/-
  The exchanges of the network, and runs over 32 units, written out.
-/
module

public import proofs.«01_k».proof.Proof.Steps

@[expose] public section

noncomputable section

namespace Cert.KernelIdeal.Tile

open Idealize.ShloMosaic Idealize.SL.Sem

/-- A family over 32 units, by its members. -/
def vec {α : Type} (x0 x1 x2 x3 x4 x5 x6 x7 x8 x9 x10 x11 x12 x13 x14 x15 x16 x17 x18 x19 x20 x21 x22 x23 x24 x25 x26 x27 x28 x29 x30 x31 : α) : Fin 32 → α :=
  Fin.cons x0 (Fin.cons x1 (Fin.cons x2 (Fin.cons x3 (Fin.cons x4 (Fin.cons x5 (Fin.cons x6 (Fin.cons x7 (Fin.cons x8 (Fin.cons x9 (Fin.cons x10 (Fin.cons x11 (Fin.cons x12 (Fin.cons x13 (Fin.cons x14 (Fin.cons x15 (Fin.cons x16 (Fin.cons x17 (Fin.cons x18 (Fin.cons x19 (Fin.cons x20 (Fin.cons x21 (Fin.cons x22 (Fin.cons x23 (Fin.cons x24 (Fin.cons x25 (Fin.cons x26 (Fin.cons x27 (Fin.cons x28 (Fin.cons x29 (Fin.cons x30 (Fin.cons x31 Fin.elim0)))))))))))))))))))))))))))))))

section
variable {α : Type} (x0 x1 x2 x3 x4 x5 x6 x7 x8 x9 x10 x11 x12 x13 x14 x15 x16 x17 x18 x19 x20 x21 x22 x23 x24 x25 x26 x27 x28 x29 x30 x31 : α)

theorem vec_0 : vec x0 x1 x2 x3 x4 x5 x6 x7 x8 x9 x10 x11 x12 x13 x14 x15 x16 x17 x18 x19 x20 x21 x22 x23 x24 x25 x26 x27 x28 x29 x30 x31 0 = x0 := rfl
theorem vec_1 : vec x0 x1 x2 x3 x4 x5 x6 x7 x8 x9 x10 x11 x12 x13 x14 x15 x16 x17 x18 x19 x20 x21 x22 x23 x24 x25 x26 x27 x28 x29 x30 x31 1 = x1 := rfl
theorem vec_2 : vec x0 x1 x2 x3 x4 x5 x6 x7 x8 x9 x10 x11 x12 x13 x14 x15 x16 x17 x18 x19 x20 x21 x22 x23 x24 x25 x26 x27 x28 x29 x30 x31 2 = x2 := rfl
theorem vec_3 : vec x0 x1 x2 x3 x4 x5 x6 x7 x8 x9 x10 x11 x12 x13 x14 x15 x16 x17 x18 x19 x20 x21 x22 x23 x24 x25 x26 x27 x28 x29 x30 x31 3 = x3 := rfl
theorem vec_4 : vec x0 x1 x2 x3 x4 x5 x6 x7 x8 x9 x10 x11 x12 x13 x14 x15 x16 x17 x18 x19 x20 x21 x22 x23 x24 x25 x26 x27 x28 x29 x30 x31 4 = x4 := rfl
theorem vec_5 : vec x0 x1 x2 x3 x4 x5 x6 x7 x8 x9 x10 x11 x12 x13 x14 x15 x16 x17 x18 x19 x20 x21 x22 x23 x24 x25 x26 x27 x28 x29 x30 x31 5 = x5 := rfl
theorem vec_6 : vec x0 x1 x2 x3 x4 x5 x6 x7 x8 x9 x10 x11 x12 x13 x14 x15 x16 x17 x18 x19 x20 x21 x22 x23 x24 x25 x26 x27 x28 x29 x30 x31 6 = x6 := rfl
theorem vec_7 : vec x0 x1 x2 x3 x4 x5 x6 x7 x8 x9 x10 x11 x12 x13 x14 x15 x16 x17 x18 x19 x20 x21 x22 x23 x24 x25 x26 x27 x28 x29 x30 x31 7 = x7 := rfl
theorem vec_8 : vec x0 x1 x2 x3 x4 x5 x6 x7 x8 x9 x10 x11 x12 x13 x14 x15 x16 x17 x18 x19 x20 x21 x22 x23 x24 x25 x26 x27 x28 x29 x30 x31 8 = x8 := rfl
theorem vec_9 : vec x0 x1 x2 x3 x4 x5 x6 x7 x8 x9 x10 x11 x12 x13 x14 x15 x16 x17 x18 x19 x20 x21 x22 x23 x24 x25 x26 x27 x28 x29 x30 x31 9 = x9 := rfl
theorem vec_10 : vec x0 x1 x2 x3 x4 x5 x6 x7 x8 x9 x10 x11 x12 x13 x14 x15 x16 x17 x18 x19 x20 x21 x22 x23 x24 x25 x26 x27 x28 x29 x30 x31 10 = x10 := rfl
theorem vec_11 : vec x0 x1 x2 x3 x4 x5 x6 x7 x8 x9 x10 x11 x12 x13 x14 x15 x16 x17 x18 x19 x20 x21 x22 x23 x24 x25 x26 x27 x28 x29 x30 x31 11 = x11 := rfl
theorem vec_12 : vec x0 x1 x2 x3 x4 x5 x6 x7 x8 x9 x10 x11 x12 x13 x14 x15 x16 x17 x18 x19 x20 x21 x22 x23 x24 x25 x26 x27 x28 x29 x30 x31 12 = x12 := rfl
theorem vec_13 : vec x0 x1 x2 x3 x4 x5 x6 x7 x8 x9 x10 x11 x12 x13 x14 x15 x16 x17 x18 x19 x20 x21 x22 x23 x24 x25 x26 x27 x28 x29 x30 x31 13 = x13 := rfl
theorem vec_14 : vec x0 x1 x2 x3 x4 x5 x6 x7 x8 x9 x10 x11 x12 x13 x14 x15 x16 x17 x18 x19 x20 x21 x22 x23 x24 x25 x26 x27 x28 x29 x30 x31 14 = x14 := rfl
theorem vec_15 : vec x0 x1 x2 x3 x4 x5 x6 x7 x8 x9 x10 x11 x12 x13 x14 x15 x16 x17 x18 x19 x20 x21 x22 x23 x24 x25 x26 x27 x28 x29 x30 x31 15 = x15 := rfl
theorem vec_16 : vec x0 x1 x2 x3 x4 x5 x6 x7 x8 x9 x10 x11 x12 x13 x14 x15 x16 x17 x18 x19 x20 x21 x22 x23 x24 x25 x26 x27 x28 x29 x30 x31 16 = x16 := rfl
theorem vec_17 : vec x0 x1 x2 x3 x4 x5 x6 x7 x8 x9 x10 x11 x12 x13 x14 x15 x16 x17 x18 x19 x20 x21 x22 x23 x24 x25 x26 x27 x28 x29 x30 x31 17 = x17 := rfl
theorem vec_18 : vec x0 x1 x2 x3 x4 x5 x6 x7 x8 x9 x10 x11 x12 x13 x14 x15 x16 x17 x18 x19 x20 x21 x22 x23 x24 x25 x26 x27 x28 x29 x30 x31 18 = x18 := rfl
theorem vec_19 : vec x0 x1 x2 x3 x4 x5 x6 x7 x8 x9 x10 x11 x12 x13 x14 x15 x16 x17 x18 x19 x20 x21 x22 x23 x24 x25 x26 x27 x28 x29 x30 x31 19 = x19 := rfl
theorem vec_20 : vec x0 x1 x2 x3 x4 x5 x6 x7 x8 x9 x10 x11 x12 x13 x14 x15 x16 x17 x18 x19 x20 x21 x22 x23 x24 x25 x26 x27 x28 x29 x30 x31 20 = x20 := rfl
theorem vec_21 : vec x0 x1 x2 x3 x4 x5 x6 x7 x8 x9 x10 x11 x12 x13 x14 x15 x16 x17 x18 x19 x20 x21 x22 x23 x24 x25 x26 x27 x28 x29 x30 x31 21 = x21 := rfl
theorem vec_22 : vec x0 x1 x2 x3 x4 x5 x6 x7 x8 x9 x10 x11 x12 x13 x14 x15 x16 x17 x18 x19 x20 x21 x22 x23 x24 x25 x26 x27 x28 x29 x30 x31 22 = x22 := rfl
theorem vec_23 : vec x0 x1 x2 x3 x4 x5 x6 x7 x8 x9 x10 x11 x12 x13 x14 x15 x16 x17 x18 x19 x20 x21 x22 x23 x24 x25 x26 x27 x28 x29 x30 x31 23 = x23 := rfl
theorem vec_24 : vec x0 x1 x2 x3 x4 x5 x6 x7 x8 x9 x10 x11 x12 x13 x14 x15 x16 x17 x18 x19 x20 x21 x22 x23 x24 x25 x26 x27 x28 x29 x30 x31 24 = x24 := rfl
theorem vec_25 : vec x0 x1 x2 x3 x4 x5 x6 x7 x8 x9 x10 x11 x12 x13 x14 x15 x16 x17 x18 x19 x20 x21 x22 x23 x24 x25 x26 x27 x28 x29 x30 x31 25 = x25 := rfl
theorem vec_26 : vec x0 x1 x2 x3 x4 x5 x6 x7 x8 x9 x10 x11 x12 x13 x14 x15 x16 x17 x18 x19 x20 x21 x22 x23 x24 x25 x26 x27 x28 x29 x30 x31 26 = x26 := rfl
theorem vec_27 : vec x0 x1 x2 x3 x4 x5 x6 x7 x8 x9 x10 x11 x12 x13 x14 x15 x16 x17 x18 x19 x20 x21 x22 x23 x24 x25 x26 x27 x28 x29 x30 x31 27 = x27 := rfl
theorem vec_28 : vec x0 x1 x2 x3 x4 x5 x6 x7 x8 x9 x10 x11 x12 x13 x14 x15 x16 x17 x18 x19 x20 x21 x22 x23 x24 x25 x26 x27 x28 x29 x30 x31 28 = x28 := rfl
theorem vec_29 : vec x0 x1 x2 x3 x4 x5 x6 x7 x8 x9 x10 x11 x12 x13 x14 x15 x16 x17 x18 x19 x20 x21 x22 x23 x24 x25 x26 x27 x28 x29 x30 x31 29 = x29 := rfl
theorem vec_30 : vec x0 x1 x2 x3 x4 x5 x6 x7 x8 x9 x10 x11 x12 x13 x14 x15 x16 x17 x18 x19 x20 x21 x22 x23 x24 x25 x26 x27 x28 x29 x30 x31 30 = x30 := rfl
theorem vec_31 : vec x0 x1 x2 x3 x4 x5 x6 x7 x8 x9 x10 x11 x12 x13 x14 x15 x16 x17 x18 x19 x20 x21 x22 x23 x24 x25 x26 x27 x28 x29 x30 x31 31 = x31 := rfl

end

theorem seqFinK_32 {E : Type → Type _} {α β : Type} (f : Fin 32 → Prog E α) (k : (Fin 32 → α) → Prog E β) :
    seqFinK 32 f k = (f 0 >>= fun x0 => f 1 >>= fun x1 => f 2 >>= fun x2 => f 3 >>= fun x3 => f 4 >>= fun x4 => f 5 >>= fun x5 => f 6 >>= fun x6 => f 7 >>= fun x7 => f 8 >>= fun x8 => f 9 >>= fun x9 => f 10 >>= fun x10 => f 11 >>= fun x11 => f 12 >>= fun x12 => f 13 >>= fun x13 => f 14 >>= fun x14 => f 15 >>= fun x15 => f 16 >>= fun x16 => f 17 >>= fun x17 => f 18 >>= fun x18 => f 19 >>= fun x19 => f 20 >>= fun x20 => f 21 >>= fun x21 => f 22 >>= fun x22 => f 23 >>= fun x23 => f 24 >>= fun x24 => f 25 >>= fun x25 => f 26 >>= fun x26 => f 27 >>= fun x27 => f 28 >>= fun x28 => f 29 >>= fun x29 => f 30 >>= fun x30 => f 31 >>= fun x31 => k (vec x0 x1 x2 x3 x4 x5 x6 x7 x8 x9 x10 x11 x12 x13 x14 x15 x16 x17 x18 x19 x20 x21 x22 x23 x24 x25 x26 x27 x28 x29 x30 x31)) := rfl

theorem forFinK_32 {E : Type → Type _} {β : Type} (f : Fin 32 → Prog E PUnit) (k : PUnit → Prog E β) :
    forFinK 32 f k = (f 0 >>= fun _ => f 1 >>= fun _ => f 2 >>= fun _ => f 3 >>= fun _ => f 4 >>= fun _ => f 5 >>= fun _ => f 6 >>= fun _ => f 7 >>= fun _ => f 8 >>= fun _ => f 9 >>= fun _ => f 10 >>= fun _ => f 11 >>= fun _ => f 12 >>= fun _ => f 13 >>= fun _ => f 14 >>= fun _ => f 15 >>= fun _ => f 16 >>= fun _ => f 17 >>= fun _ => f 18 >>= fun _ => f 19 >>= fun _ => f 20 >>= fun _ => f 21 >>= fun _ => f 22 >>= fun _ => f 23 >>= fun _ => f 24 >>= fun _ => f 25 >>= fun _ => f 26 >>= fun _ => f 27 >>= fun _ => f 28 >>= fun _ => f 29 >>= fun _ => f 30 >>= fun _ => f 31 >>= fun _ => k ⟨⟩) := rfl

section
variable (x0 x1 x2 x3 x4 x5 x6 x7 x8 x9 x10 x11 x12 x13 x14 x15 x16 x17 x18 x19 x20 x21 x22 x23 x24 x25 x26 x27 x28 x29 x30 x31 : IVec S16 32)

theorem exch_2_1 : exch 2 1 (vec x0 x1 x2 x3 x4 x5 x6 x7 x8 x9 x10 x11 x12 x13 x14 x15 x16 x17 x18 x19 x20 x21 x22 x23 x24 x25 x26 x27 x28 x29 x30 x31) = vec (minui x0 x1) (maxui x0 x1) (maxui x2 x3) (minui x2 x3) (minui x4 x5) (maxui x4 x5) (maxui x6 x7) (minui x6 x7) (minui x8 x9) (maxui x8 x9) (maxui x10 x11) (minui x10 x11) (minui x12 x13) (maxui x12 x13) (maxui x14 x15) (minui x14 x15) (minui x16 x17) (maxui x16 x17) (maxui x18 x19) (minui x18 x19) (minui x20 x21) (maxui x20 x21) (maxui x22 x23) (minui x22 x23) (minui x24 x25) (maxui x24 x25) (maxui x26 x27) (minui x26 x27) (minui x28 x29) (maxui x28 x29) (maxui x30 x31) (minui x30 x31) := by
  funext p; fin_cases p <;> rfl

theorem stage_2 (u : Fin 32 → IVec S16 32) : stage 2 1 u = (exch 2 1 u) := rfl

theorem exch_4_1 : exch 4 1 (vec x0 x1 x2 x3 x4 x5 x6 x7 x8 x9 x10 x11 x12 x13 x14 x15 x16 x17 x18 x19 x20 x21 x22 x23 x24 x25 x26 x27 x28 x29 x30 x31) = vec (minui x0 x1) (maxui x0 x1) (minui x2 x3) (maxui x2 x3) (maxui x4 x5) (minui x4 x5) (maxui x6 x7) (minui x6 x7) (minui x8 x9) (maxui x8 x9) (minui x10 x11) (maxui x10 x11) (maxui x12 x13) (minui x12 x13) (maxui x14 x15) (minui x14 x15) (minui x16 x17) (maxui x16 x17) (minui x18 x19) (maxui x18 x19) (maxui x20 x21) (minui x20 x21) (maxui x22 x23) (minui x22 x23) (minui x24 x25) (maxui x24 x25) (minui x26 x27) (maxui x26 x27) (maxui x28 x29) (minui x28 x29) (maxui x30 x31) (minui x30 x31) := by
  funext p; fin_cases p <;> rfl

theorem exch_4_2 : exch 4 2 (vec x0 x1 x2 x3 x4 x5 x6 x7 x8 x9 x10 x11 x12 x13 x14 x15 x16 x17 x18 x19 x20 x21 x22 x23 x24 x25 x26 x27 x28 x29 x30 x31) = vec (minui x0 x2) (minui x1 x3) (maxui x0 x2) (maxui x1 x3) (maxui x4 x6) (maxui x5 x7) (minui x4 x6) (minui x5 x7) (minui x8 x10) (minui x9 x11) (maxui x8 x10) (maxui x9 x11) (maxui x12 x14) (maxui x13 x15) (minui x12 x14) (minui x13 x15) (minui x16 x18) (minui x17 x19) (maxui x16 x18) (maxui x17 x19) (maxui x20 x22) (maxui x21 x23) (minui x20 x22) (minui x21 x23) (minui x24 x26) (minui x25 x27) (maxui x24 x26) (maxui x25 x27) (maxui x28 x30) (maxui x29 x31) (minui x28 x30) (minui x29 x31) := by
  funext p; fin_cases p <;> rfl

theorem stage_4 (u : Fin 32 → IVec S16 32) : stage 4 2 u = (exch 4 1 (exch 4 2 u)) := rfl

theorem exch_8_1 : exch 8 1 (vec x0 x1 x2 x3 x4 x5 x6 x7 x8 x9 x10 x11 x12 x13 x14 x15 x16 x17 x18 x19 x20 x21 x22 x23 x24 x25 x26 x27 x28 x29 x30 x31) = vec (minui x0 x1) (maxui x0 x1) (minui x2 x3) (maxui x2 x3) (minui x4 x5) (maxui x4 x5) (minui x6 x7) (maxui x6 x7) (maxui x8 x9) (minui x8 x9) (maxui x10 x11) (minui x10 x11) (maxui x12 x13) (minui x12 x13) (maxui x14 x15) (minui x14 x15) (minui x16 x17) (maxui x16 x17) (minui x18 x19) (maxui x18 x19) (minui x20 x21) (maxui x20 x21) (minui x22 x23) (maxui x22 x23) (maxui x24 x25) (minui x24 x25) (maxui x26 x27) (minui x26 x27) (maxui x28 x29) (minui x28 x29) (maxui x30 x31) (minui x30 x31) := by
  funext p; fin_cases p <;> rfl

theorem exch_8_2 : exch 8 2 (vec x0 x1 x2 x3 x4 x5 x6 x7 x8 x9 x10 x11 x12 x13 x14 x15 x16 x17 x18 x19 x20 x21 x22 x23 x24 x25 x26 x27 x28 x29 x30 x31) = vec (minui x0 x2) (minui x1 x3) (maxui x0 x2) (maxui x1 x3) (minui x4 x6) (minui x5 x7) (maxui x4 x6) (maxui x5 x7) (maxui x8 x10) (maxui x9 x11) (minui x8 x10) (minui x9 x11) (maxui x12 x14) (maxui x13 x15) (minui x12 x14) (minui x13 x15) (minui x16 x18) (minui x17 x19) (maxui x16 x18) (maxui x17 x19) (minui x20 x22) (minui x21 x23) (maxui x20 x22) (maxui x21 x23) (maxui x24 x26) (maxui x25 x27) (minui x24 x26) (minui x25 x27) (maxui x28 x30) (maxui x29 x31) (minui x28 x30) (minui x29 x31) := by
  funext p; fin_cases p <;> rfl

theorem exch_8_4 : exch 8 4 (vec x0 x1 x2 x3 x4 x5 x6 x7 x8 x9 x10 x11 x12 x13 x14 x15 x16 x17 x18 x19 x20 x21 x22 x23 x24 x25 x26 x27 x28 x29 x30 x31) = vec (minui x0 x4) (minui x1 x5) (minui x2 x6) (minui x3 x7) (maxui x0 x4) (maxui x1 x5) (maxui x2 x6) (maxui x3 x7) (maxui x8 x12) (maxui x9 x13) (maxui x10 x14) (maxui x11 x15) (minui x8 x12) (minui x9 x13) (minui x10 x14) (minui x11 x15) (minui x16 x20) (minui x17 x21) (minui x18 x22) (minui x19 x23) (maxui x16 x20) (maxui x17 x21) (maxui x18 x22) (maxui x19 x23) (maxui x24 x28) (maxui x25 x29) (maxui x26 x30) (maxui x27 x31) (minui x24 x28) (minui x25 x29) (minui x26 x30) (minui x27 x31) := by
  funext p; fin_cases p <;> rfl

theorem stage_8 (u : Fin 32 → IVec S16 32) : stage 8 3 u = (exch 8 1 (exch 8 2 (exch 8 4 u))) := rfl

theorem exch_16_1 : exch 16 1 (vec x0 x1 x2 x3 x4 x5 x6 x7 x8 x9 x10 x11 x12 x13 x14 x15 x16 x17 x18 x19 x20 x21 x22 x23 x24 x25 x26 x27 x28 x29 x30 x31) = vec (minui x0 x1) (maxui x0 x1) (minui x2 x3) (maxui x2 x3) (minui x4 x5) (maxui x4 x5) (minui x6 x7) (maxui x6 x7) (minui x8 x9) (maxui x8 x9) (minui x10 x11) (maxui x10 x11) (minui x12 x13) (maxui x12 x13) (minui x14 x15) (maxui x14 x15) (minui x16 x17) (maxui x16 x17) (minui x18 x19) (maxui x18 x19) (minui x20 x21) (maxui x20 x21) (minui x22 x23) (maxui x22 x23) (minui x24 x25) (maxui x24 x25) (minui x26 x27) (maxui x26 x27) (minui x28 x29) (maxui x28 x29) (minui x30 x31) (maxui x30 x31) := by
  funext p; fin_cases p <;> rfl

theorem exch_16_2 : exch 16 2 (vec x0 x1 x2 x3 x4 x5 x6 x7 x8 x9 x10 x11 x12 x13 x14 x15 x16 x17 x18 x19 x20 x21 x22 x23 x24 x25 x26 x27 x28 x29 x30 x31) = vec (minui x0 x2) (minui x1 x3) (maxui x0 x2) (maxui x1 x3) (minui x4 x6) (minui x5 x7) (maxui x4 x6) (maxui x5 x7) (minui x8 x10) (minui x9 x11) (maxui x8 x10) (maxui x9 x11) (minui x12 x14) (minui x13 x15) (maxui x12 x14) (maxui x13 x15) (minui x16 x18) (minui x17 x19) (maxui x16 x18) (maxui x17 x19) (minui x20 x22) (minui x21 x23) (maxui x20 x22) (maxui x21 x23) (minui x24 x26) (minui x25 x27) (maxui x24 x26) (maxui x25 x27) (minui x28 x30) (minui x29 x31) (maxui x28 x30) (maxui x29 x31) := by
  funext p; fin_cases p <;> rfl

theorem exch_16_4 : exch 16 4 (vec x0 x1 x2 x3 x4 x5 x6 x7 x8 x9 x10 x11 x12 x13 x14 x15 x16 x17 x18 x19 x20 x21 x22 x23 x24 x25 x26 x27 x28 x29 x30 x31) = vec (minui x0 x4) (minui x1 x5) (minui x2 x6) (minui x3 x7) (maxui x0 x4) (maxui x1 x5) (maxui x2 x6) (maxui x3 x7) (minui x8 x12) (minui x9 x13) (minui x10 x14) (minui x11 x15) (maxui x8 x12) (maxui x9 x13) (maxui x10 x14) (maxui x11 x15) (minui x16 x20) (minui x17 x21) (minui x18 x22) (minui x19 x23) (maxui x16 x20) (maxui x17 x21) (maxui x18 x22) (maxui x19 x23) (minui x24 x28) (minui x25 x29) (minui x26 x30) (minui x27 x31) (maxui x24 x28) (maxui x25 x29) (maxui x26 x30) (maxui x27 x31) := by
  funext p; fin_cases p <;> rfl

theorem exch_16_8 : exch 16 8 (vec x0 x1 x2 x3 x4 x5 x6 x7 x8 x9 x10 x11 x12 x13 x14 x15 x16 x17 x18 x19 x20 x21 x22 x23 x24 x25 x26 x27 x28 x29 x30 x31) = vec (minui x0 x8) (minui x1 x9) (minui x2 x10) (minui x3 x11) (minui x4 x12) (minui x5 x13) (minui x6 x14) (minui x7 x15) (maxui x0 x8) (maxui x1 x9) (maxui x2 x10) (maxui x3 x11) (maxui x4 x12) (maxui x5 x13) (maxui x6 x14) (maxui x7 x15) (minui x16 x24) (minui x17 x25) (minui x18 x26) (minui x19 x27) (minui x20 x28) (minui x21 x29) (minui x22 x30) (minui x23 x31) (maxui x16 x24) (maxui x17 x25) (maxui x18 x26) (maxui x19 x27) (maxui x20 x28) (maxui x21 x29) (maxui x22 x30) (maxui x23 x31) := by
  funext p; fin_cases p <;> rfl

theorem stage_16 (u : Fin 32 → IVec S16 32) : stage 16 4 u = (exch 16 1 (exch 16 2 (exch 16 4 (exch 16 8 u)))) := rfl

end

end Cert.KernelIdeal.Tile

end
-- ==== Proof.Flat.lean ====
/-
  The steps of a trip written out unit by unit, before a continuation.
-/
module

public import proofs.«01_k».proof.Proof.Net

@[expose] public section

noncomputable section

namespace Cert.KernelIdeal.Tile

open Idealize.ShloMosaic Idealize.SL.Sem
open Facts₀ Facts

variable {F : FTy → Type} [FloatOps F] [Facts]
variable {ca : Fin τ.nSC} {cb : Fin τ.nSub} {α : Type}

theorem keys_32 (b : Fin 2) (t : Fin k0_t2_loop.trips) (kb : Memref sig .scVector .vmem S2x32x256 .i32) (k : (Fin 32 → Vec F S16 .i32) → Prog (Eff F ca cb) α) :
    (seqFin 32 (fun u => ldKey (F := F) b t kb u) >>= k) = (ldKey (F := F) b t kb 0 >>= fun x0 => ldKey (F := F) b t kb 1 >>= fun x1 => ldKey (F := F) b t kb 2 >>= fun x2 => ldKey (F := F) b t kb 3 >>= fun x3 => ldKey (F := F) b t kb 4 >>= fun x4 => ldKey (F := F) b t kb 5 >>= fun x5 => ldKey (F := F) b t kb 6 >>= fun x6 => ldKey (F := F) b t kb 7 >>= fun x7 => ldKey (F := F) b t kb 8 >>= fun x8 => ldKey (F := F) b t kb 9 >>= fun x9 => ldKey (F := F) b t kb 10 >>= fun x10 => ldKey (F := F) b t kb 11 >>= fun x11 => ldKey (F := F) b t kb 12 >>= fun x12 => ldKey (F := F) b t kb 13 >>= fun x13 => ldKey (F := F) b t kb 14 >>= fun x14 => ldKey (F := F) b t kb 15 >>= fun x15 => ldKey (F := F) b t kb 16 >>= fun x16 => ldKey (F := F) b t kb 17 >>= fun x17 => ldKey (F := F) b t kb 18 >>= fun x18 => ldKey (F := F) b t kb 19 >>= fun x19 => ldKey (F := F) b t kb 20 >>= fun x20 => ldKey (F := F) b t kb 21 >>= fun x21 => ldKey (F := F) b t kb 22 >>= fun x22 => ldKey (F := F) b t kb 23 >>= fun x23 => ldKey (F := F) b t kb 24 >>= fun x24 => ldKey (F := F) b t kb 25 >>= fun x25 => ldKey (F := F) b t kb 26 >>= fun x26 => ldKey (F := F) b t kb 27 >>= fun x27 => ldKey (F := F) b t kb 28 >>= fun x28 => ldKey (F := F) b t kb 29 >>= fun x29 => ldKey (F := F) b t kb 30 >>= fun x30 => ldKey (F := F) b t kb 31 >>= fun x31 => k (vec x0 x1 x2 x3 x4 x5 x6 x7 x8 x9 x10 x11 x12 x13 x14 x15 x16 x17 x18 x19 x20 x21 x22 x23 x24 x25 x26 x27 x28 x29 x30 x31)) := by
  rw [seqFin_bind, seqFinK_32]

theorem pass_32 {bit : BitVec 32} {tmp : Memref sig .scVector .vmem S512 .i32} {x0 x1 x2 x3 x4 x5 x6 x7 x8 x9 x10 x11 x12 x13 x14 x15 x16 x17 x18 x19 x20 x21 x22 x23 x24 x25 x26 x27 x28 x29 x30 x31 : IVec S16 32} {k : (Fin 32 → IVec S16 32) → Prog (Eff F ca cb) α} :
    (sortPass (F := F) bit tmp (vec x0 x1 x2 x3 x4 x5 x6 x7 x8 x9 x10 x11 x12 x13 x14 x15 x16 x17 x18 x19 x20 x21 x22 x23 x24 x25 x26 x27 x28 x29 x30 x31) >>= k) = (stUnit (F := F) tmp 0 x0 >>= fun _ => stUnit (F := F) tmp 1 x1 >>= fun _ => stUnit (F := F) tmp 2 x2 >>= fun _ => stUnit (F := F) tmp 3 x3 >>= fun _ => stUnit (F := F) tmp 4 x4 >>= fun _ => stUnit (F := F) tmp 5 x5 >>= fun _ => stUnit (F := F) tmp 6 x6 >>= fun _ => stUnit (F := F) tmp 7 x7 >>= fun _ => stUnit (F := F) tmp 8 x8 >>= fun _ => stUnit (F := F) tmp 9 x9 >>= fun _ => stUnit (F := F) tmp 10 x10 >>= fun _ => stUnit (F := F) tmp 11 x11 >>= fun _ => stUnit (F := F) tmp 12 x12 >>= fun _ => stUnit (F := F) tmp 13 x13 >>= fun _ => stUnit (F := F) tmp 14 x14 >>= fun _ => stUnit (F := F) tmp 15 x15 >>= fun _ => stUnit (F := F) tmp 16 x16 >>= fun _ => stUnit (F := F) tmp 17 x17 >>= fun _ => stUnit (F := F) tmp 18 x18 >>= fun _ => stUnit (F := F) tmp 19 x19 >>= fun _ => stUnit (F := F) tmp 20 x20 >>= fun _ => stUnit (F := F) tmp 21 x21 >>= fun _ => stUnit (F := F) tmp 22 x22 >>= fun _ => stUnit (F := F) tmp 23 x23 >>= fun _ => stUnit (F := F) tmp 24 x24 >>= fun _ => stUnit (F := F) tmp 25 x25 >>= fun _ => stUnit (F := F) tmp 26 x26 >>= fun _ => stUnit (F := F) tmp 27 x27 >>= fun _ => stUnit (F := F) tmp 28 x28 >>= fun _ => stUnit (F := F) tmp 29 x29 >>= fun _ => stUnit (F := F) tmp 30 x30 >>= fun _ => stUnit (F := F) tmp 31 x31 >>= fun _ => unitLoop (F := F) bit tmp >>= fun _ => ldUnit (F := F) tmp 0 >>= fun y0 => ldUnit (F := F) tmp 1 >>= fun y1 => ldUnit (F := F) tmp 2 >>= fun y2 => ldUnit (F := F) tmp 3 >>= fun y3 => ldUnit (F := F) tmp 4 >>= fun y4 => ldUnit (F := F) tmp 5 >>= fun y5 => ldUnit (F := F) tmp 6 >>= fun y6 => ldUnit (F := F) tmp 7 >>= fun y7 => ldUnit (F := F) tmp 8 >>= fun y8 => ldUnit (F := F) tmp 9 >>= fun y9 => ldUnit (F := F) tmp 10 >>= fun y10 => ldUnit (F := F) tmp 11 >>= fun y11 => ldUnit (F := F) tmp 12 >>= fun y12 => ldUnit (F := F) tmp 13 >>= fun y13 => ldUnit (F := F) tmp 14 >>= fun y14 => ldUnit (F := F) tmp 15 >>= fun y15 => ldUnit (F := F) tmp 16 >>= fun y16 => ldUnit (F := F) tmp 17 >>= fun y17 => ldUnit (F := F) tmp 18 >>= fun y18 => ldUnit (F := F) tmp 19 >>= fun y19 => ldUnit (F := F) tmp 20 >>= fun y20 => ldUnit (F := F) tmp 21 >>= fun y21 => ldUnit (F := F) tmp 22 >>= fun y22 => ldUnit (F := F) tmp 23 >>= fun y23 => ldUnit (F := F) tmp 24 >>= fun y24 => ldUnit (F := F) tmp 25 >>= fun y25 => ldUnit (F := F) tmp 26 >>= fun y26 => ldUnit (F := F) tmp 27 >>= fun y27 => ldUnit (F := F) tmp 28 >>= fun y28 => ldUnit (F := F) tmp 29 >>= fun y29 => ldUnit (F := F) tmp 30 >>= fun y30 => ldUnit (F := F) tmp 31 >>= fun y31 => k (vec y0 y1 y2 y3 y4 y5 y6 y7 y8 y9 y10 y11 y12 y13 y14 y15 y16 y17 y18 y19 y20 y21 y22 y23 y24 y25 y26 y27 y28 y29 y30 y31)) := by
  unfold sortPass
  simp only [bind_assoc, forFin_bind, seqFin_bind, forFinK_32, seqFinK_32, vec_0, vec_1, vec_2, vec_3, vec_4, vec_5, vec_6, vec_7, vec_8, vec_9, vec_10, vec_11, vec_12, vec_13, vec_14, vec_15, vec_16, vec_17, vec_18, vec_19, vec_20, vec_21, vec_22, vec_23, vec_24, vec_25, vec_26, vec_27, vec_28, vec_29, vec_30, vec_31]

theorem stagePass_2 {tmp : Memref sig .scVector .vmem S512 .i32} {x0 x1 x2 x3 x4 x5 x6 x7 x8 x9 x10 x11 x12 x13 x14 x15 x16 x17 x18 x19 x20 x21 x22 x23 x24 x25 x26 x27 x28 x29 x30 x31 : IVec S16 32} {k : (Fin 32 → IVec S16 32) → Prog (Eff F ca cb) α} :
    (sortPass (F := F) 2#32 tmp (stage 2 1 (vec x0 x1 x2 x3 x4 x5 x6 x7 x8 x9 x10 x11 x12 x13 x14 x15 x16 x17 x18 x19 x20 x21 x22 x23 x24 x25 x26 x27 x28 x29 x30 x31)) >>= k) = (stUnit (F := F) tmp 0 (minui x0 x1) >>= fun _ => stUnit (F := F) tmp 1 (maxui x0 x1) >>= fun _ => stUnit (F := F) tmp 2 (maxui x2 x3) >>= fun _ => stUnit (F := F) tmp 3 (minui x2 x3) >>= fun _ => stUnit (F := F) tmp 4 (minui x4 x5) >>= fun _ => stUnit (F := F) tmp 5 (maxui x4 x5) >>= fun _ => stUnit (F := F) tmp 6 (maxui x6 x7) >>= fun _ => stUnit (F := F) tmp 7 (minui x6 x7) >>= fun _ => stUnit (F := F) tmp 8 (minui x8 x9) >>= fun _ => stUnit (F := F) tmp 9 (maxui x8 x9) >>= fun _ => stUnit (F := F) tmp 10 (maxui x10 x11) >>= fun _ => stUnit (F := F) tmp 11 (minui x10 x11) >>= fun _ => stUnit (F := F) tmp 12 (minui x12 x13) >>= fun _ => stUnit (F := F) tmp 13 (maxui x12 x13) >>= fun _ => stUnit (F := F) tmp 14 (maxui x14 x15) >>= fun _ => stUnit (F := F) tmp 15 (minui x14 x15) >>= fun _ => stUnit (F := F) tmp 16 (minui x16 x17) >>= fun _ => stUnit (F := F) tmp 17 (maxui x16 x17) >>= fun _ => stUnit (F := F) tmp 18 (maxui x18 x19) >>= fun _ => stUnit (F := F) tmp 19 (minui x18 x19) >>= fun _ => stUnit (F := F) tmp 20 (minui x20 x21) >>= fun _ => stUnit (F := F) tmp 21 (maxui x20 x21) >>= fun _ => stUnit (F := F) tmp 22 (maxui x22 x23) >>= fun _ => stUnit (F := F) tmp 23 (minui x22 x23) >>= fun _ => stUnit (F := F) tmp 24 (minui x24 x25) >>= fun _ => stUnit (F := F) tmp 25 (maxui x24 x25) >>= fun _ => stUnit (F := F) tmp 26 (maxui x26 x27) >>= fun _ => stUnit (F := F) tmp 27 (minui x26 x27) >>= fun _ => stUnit (F := F) tmp 28 (minui x28 x29) >>= fun _ => stUnit (F := F) tmp 29 (maxui x28 x29) >>= fun _ => stUnit (F := F) tmp 30 (maxui x30 x31) >>= fun _ => stUnit (F := F) tmp 31 (minui x30 x31) >>= fun _ => unitLoop (F := F) 2#32 tmp >>= fun _ => ldUnit (F := F) tmp 0 >>= fun y0 => ldUnit (F := F) tmp 1 >>= fun y1 => ldUnit (F := F) tmp 2 >>= fun y2 => ldUnit (F := F) tmp 3 >>= fun y3 => ldUnit (F := F) tmp 4 >>= fun y4 => ldUnit (F := F) tmp 5 >>= fun y5 => ldUnit (F := F) tmp 6 >>= fun y6 => ldUnit (F := F) tmp 7 >>= fun y7 => ldUnit (F := F) tmp 8 >>= fun y8 => ldUnit (F := F) tmp 9 >>= fun y9 => ldUnit (F := F) tmp 10 >>= fun y10 => ldUnit (F := F) tmp 11 >>= fun y11 => ldUnit (F := F) tmp 12 >>= fun y12 => ldUnit (F := F) tmp 13 >>= fun y13 => ldUnit (F := F) tmp 14 >>= fun y14 => ldUnit (F := F) tmp 15 >>= fun y15 => ldUnit (F := F) tmp 16 >>= fun y16 => ldUnit (F := F) tmp 17 >>= fun y17 => ldUnit (F := F) tmp 18 >>= fun y18 => ldUnit (F := F) tmp 19 >>= fun y19 => ldUnit (F := F) tmp 20 >>= fun y20 => ldUnit (F := F) tmp 21 >>= fun y21 => ldUnit (F := F) tmp 22 >>= fun y22 => ldUnit (F := F) tmp 23 >>= fun y23 => ldUnit (F := F) tmp 24 >>= fun y24 => ldUnit (F := F) tmp 25 >>= fun y25 => ldUnit (F := F) tmp 26 >>= fun y26 => ldUnit (F := F) tmp 27 >>= fun y27 => ldUnit (F := F) tmp 28 >>= fun y28 => ldUnit (F := F) tmp 29 >>= fun y29 => ldUnit (F := F) tmp 30 >>= fun y30 => ldUnit (F := F) tmp 31 >>= fun y31 => k (vec y0 y1 y2 y3 y4 y5 y6 y7 y8 y9 y10 y11 y12 y13 y14 y15 y16 y17 y18 y19 y20 y21 y22 y23 y24 y25 y26 y27 y28 y29 y30 y31)) := by
  rw [stage_2, exch_2_1, pass_32]

theorem stagePass_4 {tmp : Memref sig .scVector .vmem S512 .i32} {x0 x1 x2 x3 x4 x5 x6 x7 x8 x9 x10 x11 x12 x13 x14 x15 x16 x17 x18 x19 x20 x21 x22 x23 x24 x25 x26 x27 x28 x29 x30 x31 : IVec S16 32} {k : (Fin 32 → IVec S16 32) → Prog (Eff F ca cb) α} :
    (sortPass (F := F) 4#32 tmp (stage 4 2 (vec x0 x1 x2 x3 x4 x5 x6 x7 x8 x9 x10 x11 x12 x13 x14 x15 x16 x17 x18 x19 x20 x21 x22 x23 x24 x25 x26 x27 x28 x29 x30 x31)) >>= k) = (stUnit (F := F) tmp 0 (minui (minui x0 x2) (minui x1 x3)) >>= fun _ => stUnit (F := F) tmp 1 (maxui (minui x0 x2) (minui x1 x3)) >>= fun _ => stUnit (F := F) tmp 2 (minui (maxui x0 x2) (maxui x1 x3)) >>= fun _ => stUnit (F := F) tmp 3 (maxui (maxui x0 x2) (maxui x1 x3)) >>= fun _ => stUnit (F := F) tmp 4 (maxui (maxui x4 x6) (maxui x5 x7)) >>= fun _ => stUnit (F := F) tmp 5 (minui (maxui x4 x6) (maxui x5 x7)) >>= fun _ => stUnit (F := F) tmp 6 (maxui (minui x4 x6) (minui x5 x7)) >>= fun _ => stUnit (F := F) tmp 7 (minui (minui x4 x6) (minui x5 x7)) >>= fun _ => stUnit (F := F) tmp 8 (minui (minui x8 x10) (minui x9 x11)) >>= fun _ => stUnit (F := F) tmp 9 (maxui (minui x8 x10) (minui x9 x11)) >>= fun _ => stUnit (F := F) tmp 10 (minui (maxui x8 x10) (maxui x9 x11)) >>= fun _ => stUnit (F := F) tmp 11 (maxui (maxui x8 x10) (maxui x9 x11)) >>= fun _ => stUnit (F := F) tmp 12 (maxui (maxui x12 x14) (maxui x13 x15)) >>= fun _ => stUnit (F := F) tmp 13 (minui (maxui x12 x14) (maxui x13 x15)) >>= fun _ => stUnit (F := F) tmp 14 (maxui (minui x12 x14) (minui x13 x15)) >>= fun _ => stUnit (F := F) tmp 15 (minui (minui x12 x14) (minui x13 x15)) >>= fun _ => stUnit (F := F) tmp 16 (minui (minui x16 x18) (minui x17 x19)) >>= fun _ => stUnit (F := F) tmp 17 (maxui (minui x16 x18) (minui x17 x19)) >>= fun _ => stUnit (F := F) tmp 18 (minui (maxui x16 x18) (maxui x17 x19)) >>= fun _ => stUnit (F := F) tmp 19 (maxui (maxui x16 x18) (maxui x17 x19)) >>= fun _ => stUnit (F := F) tmp 20 (maxui (maxui x20 x22) (maxui x21 x23)) >>= fun _ => stUnit (F := F) tmp 21 (minui (maxui x20 x22) (maxui x21 x23)) >>= fun _ => stUnit (F := F) tmp 22 (maxui (minui x20 x22) (minui x21 x23)) >>= fun _ => stUnit (F := F) tmp 23 (minui (minui x20 x22) (minui x21 x23)) >>= fun _ => stUnit (F := F) tmp 24 (minui (minui x24 x26) (minui x25 x27)) >>= fun _ => stUnit (F := F) tmp 25 (maxui (minui x24 x26) (minui x25 x27)) >>= fun _ => stUnit (F := F) tmp 26 (minui (maxui x24 x26) (maxui x25 x27)) >>= fun _ => stUnit (F := F) tmp 27 (maxui (maxui x24 x26) (maxui x25 x27)) >>= fun _ => stUnit (F := F) tmp 28 (maxui (maxui x28 x30) (maxui x29 x31)) >>= fun _ => stUnit (F := F) tmp 29 (minui (maxui x28 x30) (maxui x29 x31)) >>= fun _ => stUnit (F := F) tmp 30 (maxui (minui x28 x30) (minui x29 x31)) >>= fun _ => stUnit (F := F) tmp 31 (minui (minui x28 x30) (minui x29 x31)) >>= fun _ => unitLoop (F := F) 4#32 tmp >>= fun _ => ldUnit (F := F) tmp 0 >>= fun y0 => ldUnit (F := F) tmp 1 >>= fun y1 => ldUnit (F := F) tmp 2 >>= fun y2 => ldUnit (F := F) tmp 3 >>= fun y3 => ldUnit (F := F) tmp 4 >>= fun y4 => ldUnit (F := F) tmp 5 >>= fun y5 => ldUnit (F := F) tmp 6 >>= fun y6 => ldUnit (F := F) tmp 7 >>= fun y7 => ldUnit (F := F) tmp 8 >>= fun y8 => ldUnit (F := F) tmp 9 >>= fun y9 => ldUnit (F := F) tmp 10 >>= fun y10 => ldUnit (F := F) tmp 11 >>= fun y11 => ldUnit (F := F) tmp 12 >>= fun y12 => ldUnit (F := F) tmp 13 >>= fun y13 => ldUnit (F := F) tmp 14 >>= fun y14 => ldUnit (F := F) tmp 15 >>= fun y15 => ldUnit (F := F) tmp 16 >>= fun y16 => ldUnit (F := F) tmp 17 >>= fun y17 => ldUnit (F := F) tmp 18 >>= fun y18 => ldUnit (F := F) tmp 19 >>= fun y19 => ldUnit (F := F) tmp 20 >>= fun y20 => ldUnit (F := F) tmp 21 >>= fun y21 => ldUnit (F := F) tmp 22 >>= fun y22 => ldUnit (F := F) tmp 23 >>= fun y23 => ldUnit (F := F) tmp 24 >>= fun y24 => ldUnit (F := F) tmp 25 >>= fun y25 => ldUnit (F := F) tmp 26 >>= fun y26 => ldUnit (F := F) tmp 27 >>= fun y27 => ldUnit (F := F) tmp 28 >>= fun y28 => ldUnit (F := F) tmp 29 >>= fun y29 => ldUnit (F := F) tmp 30 >>= fun y30 => ldUnit (F := F) tmp 31 >>= fun y31 => k (vec y0 y1 y2 y3 y4 y5 y6 y7 y8 y9 y10 y11 y12 y13 y14 y15 y16 y17 y18 y19 y20 y21 y22 y23 y24 y25 y26 y27 y28 y29 y30 y31)) := by
  rw [stage_4, exch_4_2, exch_4_1, pass_32]

theorem stagePass_8 {tmp : Memref sig .scVector .vmem S512 .i32} {x0 x1 x2 x3 x4 x5 x6 x7 x8 x9 x10 x11 x12 x13 x14 x15 x16 x17 x18 x19 x20 x21 x22 x23 x24 x25 x26 x27 x28 x29 x30 x31 : IVec S16 32} {k : (Fin 32 → IVec S16 32) → Prog (Eff F ca cb) α} :
    (sortPass (F := F) 8#32 tmp (stage 8 3 (vec x0 x1 x2 x3 x4 x5 x6 x7 x8 x9 x10 x11 x12 x13 x14 x15 x16 x17 x18 x19 x20 x21 x22 x23 x24 x25 x26 x27 x28 x29 x30 x31)) >>= k) = (stUnit (F := F) tmp 0 (minui (minui (minui x0 x4) (minui x2 x6)) (minui (minui x1 x5) (minui x3 x7))) >>= fun _ => stUnit (F := F) tmp 1 (maxui (minui (minui x0 x4) (minui x2 x6)) (minui (minui x1 x5) (minui x3 x7))) >>= fun _ => stUnit (F := F) tmp 2 (minui (maxui (minui x0 x4) (minui x2 x6)) (maxui (minui x1 x5) (minui x3 x7))) >>= fun _ => stUnit (F := F) tmp 3 (maxui (maxui (minui x0 x4) (minui x2 x6)) (maxui (minui x1 x5) (minui x3 x7))) >>= fun _ => stUnit (F := F) tmp 4 (minui (minui (maxui x0 x4) (maxui x2 x6)) (minui (maxui x1 x5) (maxui x3 x7))) >>= fun _ => stUnit (F := F) tmp 5 (maxui (minui (maxui x0 x4) (maxui x2 x6)) (minui (maxui x1 x5) (maxui x3 x7))) >>= fun _ => stUnit (F := F) tmp 6 (minui (maxui (maxui x0 x4) (maxui x2 x6)) (maxui (maxui x1 x5) (maxui x3 x7))) >>= fun _ => stUnit (F := F) tmp 7 (maxui (maxui (maxui x0 x4) (maxui x2 x6)) (maxui (maxui x1 x5) (maxui x3 x7))) >>= fun _ => stUnit (F := F) tmp 8 (maxui (maxui (maxui x8 x12) (maxui x10 x14)) (maxui (maxui x9 x13) (maxui x11 x15))) >>= fun _ => stUnit (F := F) tmp 9 (minui (maxui (maxui x8 x12) (maxui x10 x14)) (maxui (maxui x9 x13) (maxui x11 x15))) >>= fun _ => stUnit (F := F) tmp 10 (maxui (minui (maxui x8 x12) (maxui x10 x14)) (minui (maxui x9 x13) (maxui x11 x15))) >>= fun _ => stUnit (F := F) tmp 11 (minui (minui (maxui x8 x12) (maxui x10 x14)) (minui (maxui x9 x13) (maxui x11 x15))) >>= fun _ => stUnit (F := F) tmp 12 (maxui (maxui (minui x8 x12) (minui x10 x14)) (maxui (minui x9 x13) (minui x11 x15))) >>= fun _ => stUnit (F := F) tmp 13 (minui (maxui (minui x8 x12) (minui x10 x14)) (maxui (minui x9 x13) (minui x11 x15))) >>= fun _ => stUnit (F := F) tmp 14 (maxui (minui (minui x8 x12) (minui x10 x14)) (minui (minui x9 x13) (minui x11 x15))) >>= fun _ => stUnit (F := F) tmp 15 (minui (minui (minui x8 x12) (minui x10 x14)) (minui (minui x9 x13) (minui x11 x15))) >>= fun _ => stUnit (F := F) tmp 16 (minui (minui (minui x16 x20) (minui x18 x22)) (minui (minui x17 x21) (minui x19 x23))) >>= fun _ => stUnit (F := F) tmp 17 (maxui (minui (minui x16 x20) (minui x18 x22)) (minui (minui x17 x21) (minui x19 x23))) >>= fun _ => stUnit (F := F) tmp 18 (minui (maxui (minui x16 x20) (minui x18 x22)) (maxui (minui x17 x21) (minui x19 x23))) >>= fun _ => stUnit (F := F) tmp 19 (maxui (maxui (minui x16 x20) (minui x18 x22)) (maxui (minui x17 x21) (minui x19 x23))) >>= fun _ => stUnit (F := F) tmp 20 (minui (minui (maxui x16 x20) (maxui x18 x22)) (minui (maxui x17 x21) (maxui x19 x23))) >>= fun _ => stUnit (F := F) tmp 21 (maxui (minui (maxui x16 x20) (maxui x18 x22)) (minui (maxui x17 x21) (maxui x19 x23))) >>= fun _ => stUnit (F := F) tmp 22 (minui (maxui (maxui x16 x20) (maxui x18 x22)) (maxui (maxui x17 x21) (maxui x19 x23))) >>= fun _ => stUnit (F := F) tmp 23 (maxui (maxui (maxui x16 x20) (maxui x18 x22)) (maxui (maxui x17 x21) (maxui x19 x23))) >>= fun _ => stUnit (F := F) tmp 24 (maxui (maxui (maxui x24 x28) (maxui x26 x30)) (maxui (maxui x25 x29) (maxui x27 x31))) >>= fun _ => stUnit (F := F) tmp 25 (minui (maxui (maxui x24 x28) (maxui x26 x30)) (maxui (maxui x25 x29) (maxui x27 x31))) >>= fun _ => stUnit (F := F) tmp 26 (maxui (minui (maxui x24 x28) (maxui x26 x30)) (minui (maxui x25 x29) (maxui x27 x31))) >>= fun _ => stUnit (F := F) tmp 27 (minui (minui (maxui x24 x28) (maxui x26 x30)) (minui (maxui x25 x29) (maxui x27 x31))) >>= fun _ => stUnit (F := F) tmp 28 (maxui (maxui (minui x24 x28) (minui x26 x30)) (maxui (minui x25 x29) (minui x27 x31))) >>= fun _ => stUnit (F := F) tmp 29 (minui (maxui (minui x24 x28) (minui x26 x30)) (maxui (minui x25 x29) (minui x27 x31))) >>= fun _ => stUnit (F := F) tmp 30 (maxui (minui (minui x24 x28) (minui x26 x30)) (minui (minui x25 x29) (minui x27 x31))) >>= fun _ => stUnit (F := F) tmp 31 (minui (minui (minui x24 x28) (minui x26 x30)) (minui (minui x25 x29) (minui x27 x31))) >>= fun _ => unitLoop (F := F) 8#32 tmp >>= fun _ => ldUnit (F := F) tmp 0 >>= fun y0 => ldUnit (F := F) tmp 1 >>= fun y1 => ldUnit (F := F) tmp 2 >>= fun y2 => ldUnit (F := F) tmp 3 >>= fun y3 => ldUnit (F := F) tmp 4 >>= fun y4 => ldUnit (F := F) tmp 5 >>= fun y5 => ldUnit (F := F) tmp 6 >>= fun y6 => ldUnit (F := F) tmp 7 >>= fun y7 => ldUnit (F := F) tmp 8 >>= fun y8 => ldUnit (F := F) tmp 9 >>= fun y9 => ldUnit (F := F) tmp 10 >>= fun y10 => ldUnit (F := F) tmp 11 >>= fun y11 => ldUnit (F := F) tmp 12 >>= fun y12 => ldUnit (F := F) tmp 13 >>= fun y13 => ldUnit (F := F) tmp 14 >>= fun y14 => ldUnit (F := F) tmp 15 >>= fun y15 => ldUnit (F := F) tmp 16 >>= fun y16 => ldUnit (F := F) tmp 17 >>= fun y17 => ldUnit (F := F) tmp 18 >>= fun y18 => ldUnit (F := F) tmp 19 >>= fun y19 => ldUnit (F := F) tmp 20 >>= fun y20 => ldUnit (F := F) tmp 21 >>= fun y21 => ldUnit (F := F) tmp 22 >>= fun y22 => ldUnit (F := F) tmp 23 >>= fun y23 => ldUnit (F := F) tmp 24 >>= fun y24 => ldUnit (F := F) tmp 25 >>= fun y25 => ldUnit (F := F) tmp 26 >>= fun y26 => ldUnit (F := F) tmp 27 >>= fun y27 => ldUnit (F := F) tmp 28 >>= fun y28 => ldUnit (F := F) tmp 29 >>= fun y29 => ldUnit (F := F) tmp 30 >>= fun y30 => ldUnit (F := F) tmp 31 >>= fun y31 => k (vec y0 y1 y2 y3 y4 y5 y6 y7 y8 y9 y10 y11 y12 y13 y14 y15 y16 y17 y18 y19 y20 y21 y22 y23 y24 y25 y26 y27 y28 y29 y30 y31)) := by
  rw [stage_8, exch_8_4, exch_8_2, exch_8_1, pass_32]

theorem stagePass_16 {tmp : Memref sig .scVector .vmem S512 .i32} {x0 x1 x2 x3 x4 x5 x6 x7 x8 x9 x10 x11 x12 x13 x14 x15 x16 x17 x18 x19 x20 x21 x22 x23 x24 x25 x26 x27 x28 x29 x30 x31 : IVec S16 32} {k : (Fin 32 → IVec S16 32) → Prog (Eff F ca cb) α} :
    (sortPass (F := F) 0#32 tmp (stage 16 4 (vec x0 x1 x2 x3 x4 x5 x6 x7 x8 x9 x10 x11 x12 x13 x14 x15 x16 x17 x18 x19 x20 x21 x22 x23 x24 x25 x26 x27 x28 x29 x30 x31)) >>= k) = (stUnit (F := F) tmp 0 (minui (minui (minui (minui x0 x8) (minui x4 x12)) (minui (minui x2 x10) (minui x6 x14))) (minui (minui (minui x1 x9) (minui x5 x13)) (minui (minui x3 x11) (minui x7 x15)))) >>= fun _ => stUnit (F := F) tmp 1 (maxui (minui (minui (minui x0 x8) (minui x4 x12)) (minui (minui x2 x10) (minui x6 x14))) (minui (minui (minui x1 x9) (minui x5 x13)) (minui (minui x3 x11) (minui x7 x15)))) >>= fun _ => stUnit (F := F) tmp 2 (minui (maxui (minui (minui x0 x8) (minui x4 x12)) (minui (minui x2 x10) (minui x6 x14))) (maxui (minui (minui x1 x9) (minui x5 x13)) (minui (minui x3 x11) (minui x7 x15)))) >>= fun _ => stUnit (F := F) tmp 3 (maxui (maxui (minui (minui x0 x8) (minui x4 x12)) (minui (minui x2 x10) (minui x6 x14))) (maxui (minui (minui x1 x9) (minui x5 x13)) (minui (minui x3 x11) (minui x7 x15)))) >>= fun _ => stUnit (F := F) tmp 4 (minui (minui (maxui (minui x0 x8) (minui x4 x12)) (maxui (minui x2 x10) (minui x6 x14))) (minui (maxui (minui x1 x9) (minui x5 x13)) (maxui (minui x3 x11) (minui x7 x15)))) >>= fun _ => stUnit (F := F) tmp 5 (maxui (minui (maxui (minui x0 x8) (minui x4 x12)) (maxui (minui x2 x10) (minui x6 x14))) (minui (maxui (minui x1 x9) (minui x5 x13)) (maxui (minui x3 x11) (minui x7 x15)))) >>= fun _ => stUnit (F := F) tmp 6 (minui (maxui (maxui (minui x0 x8) (minui x4 x12)) (maxui (minui x2 x10) (minui x6 x14))) (maxui (maxui (minui x1 x9) (minui x5 x13)) (maxui (minui x3 x11) (minui x7 x15)))) >>= fun _ => stUnit (F := F) tmp 7 (maxui (maxui (maxui (minui x0 x8) (minui x4 x12)) (maxui (minui x2 x10) (minui x6 x14))) (maxui (maxui (minui x1 x9) (minui x5 x13)) (maxui (minui x3 x11) (minui x7 x15)))) >>= fun _ => stUnit (F := F) tmp 8 (minui (minui (minui (maxui x0 x8) (maxui x4 x12)) (minui (maxui x2 x10) (maxui x6 x14))) (minui (minui (maxui x1 x9) (maxui x5 x13)) (minui (maxui x3 x11) (maxui x7 x15)))) >>= fun _ => stUnit (F := F) tmp 9 (maxui (minui (minui (maxui x0 x8) (maxui x4 x12)) (minui (maxui x2 x10) (maxui x6 x14))) (minui (minui (maxui x1 x9) (maxui x5 x13)) (minui (maxui x3 x11) (maxui x7 x15)))) >>= fun _ => stUnit (F := F) tmp 10 (minui (maxui (minui (maxui x0 x8) (maxui x4 x12)) (minui (maxui x2 x10) (maxui x6 x14))) (maxui (minui (maxui x1 x9) (maxui x5 x13)) (minui (maxui x3 x11) (maxui x7 x15)))) >>= fun _ => stUnit (F := F) tmp 11 (maxui (maxui (minui (maxui x0 x8) (maxui x4 x12)) (minui (maxui x2 x10) (maxui x6 x14))) (maxui (minui (maxui x1 x9) (maxui x5 x13)) (minui (maxui x3 x11) (maxui x7 x15)))) >>= fun _ => stUnit (F := F) tmp 12 (minui (minui (maxui (maxui x0 x8) (maxui x4 x12)) (maxui (maxui x2 x10) (maxui x6 x14))) (minui (maxui (maxui x1 x9) (maxui x5 x13)) (maxui (maxui x3 x11) (maxui x7 x15)))) >>= fun _ => stUnit (F := F) tmp 13 (maxui (minui (maxui (maxui x0 x8) (maxui x4 x12)) (maxui (maxui x2 x10) (maxui x6 x14))) (minui (maxui (maxui x1 x9) (maxui x5 x13)) (maxui (maxui x3 x11) (maxui x7 x15)))) >>= fun _ => stUnit (F := F) tmp 14 (minui (maxui (maxui (maxui x0 x8) (maxui x4 x12)) (maxui (maxui x2 x10) (maxui x6 x14))) (maxui (maxui (maxui x1 x9) (maxui x5 x13)) (maxui (maxui x3 x11) (maxui x7 x15)))) >>= fun _ => stUnit (F := F) tmp 15 (maxui (maxui (maxui (maxui x0 x8) (maxui x4 x12)) (maxui (maxui x2 x10) (maxui x6 x14))) (maxui (maxui (maxui x1 x9) (maxui x5 x13)) (maxui (maxui x3 x11) (maxui x7 x15)))) >>= fun _ => stUnit (F := F) tmp 16 (minui (minui (minui (minui x16 x24) (minui x20 x28)) (minui (minui x18 x26) (minui x22 x30))) (minui (minui (minui x17 x25) (minui x21 x29)) (minui (minui x19 x27) (minui x23 x31)))) >>= fun _ => stUnit (F := F) tmp 17 (maxui (minui (minui (minui x16 x24) (minui x20 x28)) (minui (minui x18 x26) (minui x22 x30))) (minui (minui (minui x17 x25) (minui x21 x29)) (minui (minui x19 x27) (minui x23 x31)))) >>= fun _ => stUnit (F := F) tmp 18 (minui (maxui (minui (minui x16 x24) (minui x20 x28)) (minui (minui x18 x26) (minui x22 x30))) (maxui (minui (minui x17 x25) (minui x21 x29)) (minui (minui x19 x27) (minui x23 x31)))) >>= fun _ => stUnit (F := F) tmp 19 (maxui (maxui (minui (minui x16 x24) (minui x20 x28)) (minui (minui x18 x26) (minui x22 x30))) (maxui (minui (minui x17 x25) (minui x21 x29)) (minui (minui x19 x27) (minui x23 x31)))) >>= fun _ => stUnit (F := F) tmp 20 (minui (minui (maxui (minui x16 x24) (minui x20 x28)) (maxui (minui x18 x26) (minui x22 x30))) (minui (maxui (minui x17 x25) (minui x21 x29)) (maxui (minui x19 x27) (minui x23 x31)))) >>= fun _ => stUnit (F := F) tmp 21 (maxui (minui (maxui (minui x16 x24) (minui x20 x28)) (maxui (minui x18 x26) (minui x22 x30))) (minui (maxui (minui x17 x25) (minui x21 x29)) (maxui (minui x19 x27) (minui x23 x31)))) >>= fun _ => stUnit (F := F) tmp 22 (minui (maxui (maxui (minui x16 x24) (minui x20 x28)) (maxui (minui x18 x26) (minui x22 x30))) (maxui (maxui (minui x17 x25) (minui x21 x29)) (maxui (minui x19 x27) (minui x23 x31)))) >>= fun _ => stUnit (F := F) tmp 23 (maxui (maxui (maxui (minui x16 x24) (minui x20 x28)) (maxui (minui x18 x26) (minui x22 x30))) (maxui (maxui (minui x17 x25) (minui x21 x29)) (maxui (minui x19 x27) (minui x23 x31)))) >>= fun _ => stUnit (F := F) tmp 24 (minui (minui (minui (maxui x16 x24) (maxui x20 x28)) (minui (maxui x18 x26) (maxui x22 x30))) (minui (minui (maxui x17 x25) (maxui x21 x29)) (minui (maxui x19 x27) (maxui x23 x31)))) >>= fun _ => stUnit (F := F) tmp 25 (maxui (minui (minui (maxui x16 x24) (maxui x20 x28)) (minui (maxui x18 x26) (maxui x22 x30))) (minui (minui (maxui x17 x25) (maxui x21 x29)) (minui (maxui x19 x27) (maxui x23 x31)))) >>= fun _ => stUnit (F := F) tmp 26 (minui (maxui (minui (maxui x16 x24) (maxui x20 x28)) (minui (maxui x18 x26) (maxui x22 x30))) (maxui (minui (maxui x17 x25) (maxui x21 x29)) (minui (maxui x19 x27) (maxui x23 x31)))) >>= fun _ => stUnit (F := F) tmp 27 (maxui (maxui (minui (maxui x16 x24) (maxui x20 x28)) (minui (maxui x18 x26) (maxui x22 x30))) (maxui (minui (maxui x17 x25) (maxui x21 x29)) (minui (maxui x19 x27) (maxui x23 x31)))) >>= fun _ => stUnit (F := F) tmp 28 (minui (minui (maxui (maxui x16 x24) (maxui x20 x28)) (maxui (maxui x18 x26) (maxui x22 x30))) (minui (maxui (maxui x17 x25) (maxui x21 x29)) (maxui (maxui x19 x27) (maxui x23 x31)))) >>= fun _ => stUnit (F := F) tmp 29 (maxui (minui (maxui (maxui x16 x24) (maxui x20 x28)) (maxui (maxui x18 x26) (maxui x22 x30))) (minui (maxui (maxui x17 x25) (maxui x21 x29)) (maxui (maxui x19 x27) (maxui x23 x31)))) >>= fun _ => stUnit (F := F) tmp 30 (minui (maxui (maxui (maxui x16 x24) (maxui x20 x28)) (maxui (maxui x18 x26) (maxui x22 x30))) (maxui (maxui (maxui x17 x25) (maxui x21 x29)) (maxui (maxui x19 x27) (maxui x23 x31)))) >>= fun _ => stUnit (F := F) tmp 31 (maxui (maxui (maxui (maxui x16 x24) (maxui x20 x28)) (maxui (maxui x18 x26) (maxui x22 x30))) (maxui (maxui (maxui x17 x25) (maxui x21 x29)) (maxui (maxui x19 x27) (maxui x23 x31)))) >>= fun _ => unitLoop (F := F) 0#32 tmp >>= fun _ => ldUnit (F := F) tmp 0 >>= fun y0 => ldUnit (F := F) tmp 1 >>= fun y1 => ldUnit (F := F) tmp 2 >>= fun y2 => ldUnit (F := F) tmp 3 >>= fun y3 => ldUnit (F := F) tmp 4 >>= fun y4 => ldUnit (F := F) tmp 5 >>= fun y5 => ldUnit (F := F) tmp 6 >>= fun y6 => ldUnit (F := F) tmp 7 >>= fun y7 => ldUnit (F := F) tmp 8 >>= fun y8 => ldUnit (F := F) tmp 9 >>= fun y9 => ldUnit (F := F) tmp 10 >>= fun y10 => ldUnit (F := F) tmp 11 >>= fun y11 => ldUnit (F := F) tmp 12 >>= fun y12 => ldUnit (F := F) tmp 13 >>= fun y13 => ldUnit (F := F) tmp 14 >>= fun y14 => ldUnit (F := F) tmp 15 >>= fun y15 => ldUnit (F := F) tmp 16 >>= fun y16 => ldUnit (F := F) tmp 17 >>= fun y17 => ldUnit (F := F) tmp 18 >>= fun y18 => ldUnit (F := F) tmp 19 >>= fun y19 => ldUnit (F := F) tmp 20 >>= fun y20 => ldUnit (F := F) tmp 21 >>= fun y21 => ldUnit (F := F) tmp 22 >>= fun y22 => ldUnit (F := F) tmp 23 >>= fun y23 => ldUnit (F := F) tmp 24 >>= fun y24 => ldUnit (F := F) tmp 25 >>= fun y25 => ldUnit (F := F) tmp 26 >>= fun y26 => ldUnit (F := F) tmp 27 >>= fun y27 => ldUnit (F := F) tmp 28 >>= fun y28 => ldUnit (F := F) tmp 29 >>= fun y29 => ldUnit (F := F) tmp 30 >>= fun y30 => ldUnit (F := F) tmp 31 >>= fun y31 => k (vec y0 y1 y2 y3 y4 y5 y6 y7 y8 y9 y10 y11 y12 y13 y14 y15 y16 y17 y18 y19 y20 y21 y22 y23 y24 y25 y26 y27 y28 y29 y30 y31)) := by
  rw [stage_16, exch_16_8, exch_16_4, exch_16_2, exch_16_1, pass_32]

end Cert.KernelIdeal.Tile

end
-- ==== Proof.Rows.lean ====
/-
  The rows that a trip writes, written out unit by unit.
-/
module

public import proofs.«01_k».proof.Proof.Flat

@[expose] public section

noncomputable section

namespace Cert.KernelIdeal.Tile

open Idealize.ShloMosaic Idealize.SL.Sem
open Facts₀ Facts

variable {F : FTy → Type} [FloatOps F] [Facts]
variable {ca : Fin τ.nSC} {cb : Fin τ.nSub} {α : Type}

theorem forFinK_16 {E : Type → Type _} {β : Type} (f : Fin 16 → Prog E PUnit) (k : PUnit → Prog E β) :
    forFinK 16 f k = (f 0 >>= fun _ => f 1 >>= fun _ => f 2 >>= fun _ => f 3 >>= fun _ => f 4 >>= fun _ => f 5 >>= fun _ => f 6 >>= fun _ => f 7 >>= fun _ => f 8 >>= fun _ => f 9 >>= fun _ => f 10 >>= fun _ => f 11 >>= fun _ => f 12 >>= fun _ => f 13 >>= fun _ => f 14 >>= fun _ => f 15 >>= fun _ => k ⟨⟩) := rfl

theorem outRow_16 (b h : Fin 2) (t : Fin k0_t2_loop.trips) (xb ob : Memref sig .scVector .vmem S2x32x512 .f32) (un : Fin 16 → IVec S16 32) (k : PUnit → Prog (Eff F ca cb) α) :
    (outRow (F := F) b h t xb ob un >>= k) = (copyUnit (F := F) b h t xb ob 0 >>= fun _ => copyUnit (F := F) b h t xb ob 1 >>= fun _ => copyUnit (F := F) b h t xb ob 2 >>= fun _ => copyUnit (F := F) b h t xb ob 3 >>= fun _ => copyUnit (F := F) b h t xb ob 4 >>= fun _ => copyUnit (F := F) b h t xb ob 5 >>= fun _ => copyUnit (F := F) b h t xb ob 6 >>= fun _ => copyUnit (F := F) b h t xb ob 7 >>= fun _ => copyUnit (F := F) b h t xb ob 8 >>= fun _ => copyUnit (F := F) b h t xb ob 9 >>= fun _ => copyUnit (F := F) b h t xb ob 10 >>= fun _ => copyUnit (F := F) b h t xb ob 11 >>= fun _ => copyUnit (F := F) b h t xb ob 12 >>= fun _ => copyUnit (F := F) b h t xb ob 13 >>= fun _ => copyUnit (F := F) b h t xb ob 14 >>= fun _ => copyUnit (F := F) b h t xb ob 15 >>= fun _ => gatherUnit (F := F) b h t xb ob 0 (un 0) >>= fun _ => gatherUnit (F := F) b h t xb ob 1 (un 1) >>= fun _ => gatherUnit (F := F) b h t xb ob 2 (un 2) >>= fun _ => gatherUnit (F := F) b h t xb ob 3 (un 3) >>= fun _ => gatherUnit (F := F) b h t xb ob 4 (un 4) >>= fun _ => gatherUnit (F := F) b h t xb ob 5 (un 5) >>= fun _ => gatherUnit (F := F) b h t xb ob 6 (un 6) >>= fun _ => gatherUnit (F := F) b h t xb ob 7 (un 7) >>= fun _ => gatherUnit (F := F) b h t xb ob 8 (un 8) >>= fun _ => gatherUnit (F := F) b h t xb ob 9 (un 9) >>= fun _ => gatherUnit (F := F) b h t xb ob 10 (un 10) >>= fun _ => gatherUnit (F := F) b h t xb ob 11 (un 11) >>= fun _ => gatherUnit (F := F) b h t xb ob 12 (un 12) >>= fun _ => gatherUnit (F := F) b h t xb ob 13 (un 13) >>= fun _ => gatherUnit (F := F) b h t xb ob 14 (un 14) >>= fun _ => gatherUnit (F := F) b h t xb ob 15 (un 15) >>= fun _ => k ⟨⟩) := by
  unfold outRow
  simp only [bind_assoc, forFin_bind, forFinK_16]

theorem rows_32 {b : Fin 2} {t : Fin k0_t2_loop.trips} {xb ob : Memref sig .scVector .vmem S2x32x512 .f32} {x0 x1 x2 x3 x4 x5 x6 x7 x8 x9 x10 x11 x12 x13 x14 x15 x16 x17 x18 x19 x20 x21 x22 x23 x24 x25 x26 x27 x28 x29 x30 x31 : IVec S16 32} :
    (outRow (F := F) (ca := ca) (cb := cb) b 0 t xb ob (fun i => vec x0 x1 x2 x3 x4 x5 x6 x7 x8 x9 x10 x11 x12 x13 x14 x15 x16 x17 x18 x19 x20 x21 x22 x23 x24 x25 x26 x27 x28 x29 x30 x31 ⟨i.val, by omega⟩) >>= fun _ => outRow b 1 t xb ob (fun i => vec x0 x1 x2 x3 x4 x5 x6 x7 x8 x9 x10 x11 x12 x13 x14 x15 x16 x17 x18 x19 x20 x21 x22 x23 x24 x25 x26 x27 x28 x29 x30 x31 ⟨16 + i.val, by omega⟩)) = (copyUnit (F := F) b 0 t xb ob 0 >>= fun _ => copyUnit (F := F) b 0 t xb ob 1 >>= fun _ => copyUnit (F := F) b 0 t xb ob 2 >>= fun _ => copyUnit (F := F) b 0 t xb ob 3 >>= fun _ => copyUnit (F := F) b 0 t xb ob 4 >>= fun _ => copyUnit (F := F) b 0 t xb ob 5 >>= fun _ => copyUnit (F := F) b 0 t xb ob 6 >>= fun _ => copyUnit (F := F) b 0 t xb ob 7 >>= fun _ => copyUnit (F := F) b 0 t xb ob 8 >>= fun _ => copyUnit (F := F) b 0 t xb ob 9 >>= fun _ => copyUnit (F := F) b 0 t xb ob 10 >>= fun _ => copyUnit (F := F) b 0 t xb ob 11 >>= fun _ => copyUnit (F := F) b 0 t xb ob 12 >>= fun _ => copyUnit (F := F) b 0 t xb ob 13 >>= fun _ => copyUnit (F := F) b 0 t xb ob 14 >>= fun _ => copyUnit (F := F) b 0 t xb ob 15 >>= fun _ => gatherUnit (F := F) b 0 t xb ob 0 x0 >>= fun _ => gatherUnit (F := F) b 0 t xb ob 1 x1 >>= fun _ => gatherUnit (F := F) b 0 t xb ob 2 x2 >>= fun _ => gatherUnit (F := F) b 0 t xb ob 3 x3 >>= fun _ => gatherUnit (F := F) b 0 t xb ob 4 x4 >>= fun _ => gatherUnit (F := F) b 0 t xb ob 5 x5 >>= fun _ => gatherUnit (F := F) b 0 t xb ob 6 x6 >>= fun _ => gatherUnit (F := F) b 0 t xb ob 7 x7 >>= fun _ => gatherUnit (F := F) b 0 t xb ob 8 x8 >>= fun _ => gatherUnit (F := F) b 0 t xb ob 9 x9 >>= fun _ => gatherUnit (F := F) b 0 t xb ob 10 x10 >>= fun _ => gatherUnit (F := F) b 0 t xb ob 11 x11 >>= fun _ => gatherUnit (F := F) b 0 t xb ob 12 x12 >>= fun _ => gatherUnit (F := F) b 0 t xb ob 13 x13 >>= fun _ => gatherUnit (F := F) b 0 t xb ob 14 x14 >>= fun _ => gatherUnit (F := F) b 0 t xb ob 15 x15 >>= fun _ => copyUnit (F := F) b 1 t xb ob 0 >>= fun _ => copyUnit (F := F) b 1 t xb ob 1 >>= fun _ => copyUnit (F := F) b 1 t xb ob 2 >>= fun _ => copyUnit (F := F) b 1 t xb ob 3 >>= fun _ => copyUnit (F := F) b 1 t xb ob 4 >>= fun _ => copyUnit (F := F) b 1 t xb ob 5 >>= fun _ => copyUnit (F := F) b 1 t xb ob 6 >>= fun _ => copyUnit (F := F) b 1 t xb ob 7 >>= fun _ => copyUnit (F := F) b 1 t xb ob 8 >>= fun _ => copyUnit (F := F) b 1 t xb ob 9 >>= fun _ => copyUnit (F := F) b 1 t xb ob 10 >>= fun _ => copyUnit (F := F) b 1 t xb ob 11 >>= fun _ => copyUnit (F := F) b 1 t xb ob 12 >>= fun _ => copyUnit (F := F) b 1 t xb ob 13 >>= fun _ => copyUnit (F := F) b 1 t xb ob 14 >>= fun _ => copyUnit (F := F) b 1 t xb ob 15 >>= fun _ => gatherUnit (F := F) b 1 t xb ob 0 x16 >>= fun _ => gatherUnit (F := F) b 1 t xb ob 1 x17 >>= fun _ => gatherUnit (F := F) b 1 t xb ob 2 x18 >>= fun _ => gatherUnit (F := F) b 1 t xb ob 3 x19 >>= fun _ => gatherUnit (F := F) b 1 t xb ob 4 x20 >>= fun _ => gatherUnit (F := F) b 1 t xb ob 5 x21 >>= fun _ => gatherUnit (F := F) b 1 t xb ob 6 x22 >>= fun _ => gatherUnit (F := F) b 1 t xb ob 7 x23 >>= fun _ => gatherUnit (F := F) b 1 t xb ob 8 x24 >>= fun _ => gatherUnit (F := F) b 1 t xb ob 9 x25 >>= fun _ => gatherUnit (F := F) b 1 t xb ob 10 x26 >>= fun _ => gatherUnit (F := F) b 1 t xb ob 11 x27 >>= fun _ => gatherUnit (F := F) b 1 t xb ob 12 x28 >>= fun _ => gatherUnit (F := F) b 1 t xb ob 13 x29 >>= fun _ => gatherUnit (F := F) b 1 t xb ob 14 x30 >>= fun _ => gatherUnit (F := F) b 1 t xb ob 15 x31 >>= fun _ => pure ⟨⟩) := by
  rw [outRow_16, ← bind_pure (outRow b 1 t xb ob _), outRow_16]
  rfl

theorem ret_bind {E : Type → Type _} {β γ : Type} (x : β) (k : β → Prog E γ) : (Prog.ret x >>= k) = k x := rfl

end Cert.KernelIdeal.Tile

end
-- ==== Proof.Seg0.lean ====
/-
  The printed pair loop's body for half 0 of the buffers is `pairBody 0`.
-/
module

public import proofs.«01_k».proof.Proof.Rows

@[expose] public section

noncomputable section

namespace Cert.KernelIdeal.Tile

open Idealize.ShloMosaic Idealize.SL.Sem
open Facts₀ Facts

variable {F : FTy → Type} [FloatOps F] [Facts]

set_option maxHeartbeats 0 in
set_option maxRecDepth 100000 in
theorem pair0_eq (i : grid0.Coords) (arg2 : Memref sig .scVector .hbm S131072x512 .f32) (harg2 : arg2.IsWhole) (arg3 : Memref sig .scVector .hbm S131072x256 .i32) (harg3 : arg3.IsWhole) (arg4 : Memref sig .scVector .hbm S131072x512 .f32) (harg4 : arg4.IsWhole) (arg5 : Memref sig .scVector .vmem S2x32x512 .f32) (harg5 : arg5.IsWhole) (arg6 : Memref sig .scVector .vmem S2x32x512 .f32) (harg6 : arg6.IsWhole) (arg7 : Memref sig .scVector .vmem S2x32x256 .i32) (harg7 : arg7.IsWhole) (arg8 arg9 arg10 arg11 arg12 arg13 : DmaSems sig S_) (arg14 : Memref sig .scVector .vmem S512 .i32) (harg14 : arg14.IsWhole) (t : Fin k0_t2_loop.trips) :
    (do
      let v1375 : Vec F S16 .f32 ← k0_part41 i arg2 harg2 arg3 harg3 arg4 harg4 arg5 harg5 arg6 harg6 arg7 harg7 arg8 arg9 arg10 arg11 arg12 arg13 arg14 harg14 0#32 1#32 t
      let v1378_ld : Vec F S1x1x16 .f32 ← Prog.lift (.load arg6 (Rect.unit (s := S2x32x512) (k0_off108 t) S1x1x16.size (k0_off108_inb t)).toLoadRect (View.loadsAt_vmem h_S1x1x16))
      have v1378 : Vec F S16 .f32 := shapeCast S16 v1378_ld shapeCasts_S1x1x16_S16
      Prog.lift (.store arg6 (Rect.unit (s := S2x32x512) (k0_off108 t) S1x1x16.size (k0_off108_inb t)) (shapeCast S1x1x16 v1375 shapeCasts_S16_S1x1x16) Finset.univ (View.stores_vmem_bits_univ h_S1x1x16 rfl) (.inl rfl))
      pure ⟨⟩ : Prog (Eff F ((i 0).castLE hcore0) ((i 1).castLE hsub0)) PUnit)
    = pairBody 0 arg5 arg6 arg7 arg14 t := by
  show _ = (seqFin 32 (fun u => ldKey (F := F) 0 t arg7 u) >>= fun un => sortPass (F := F) 1#32 arg14 un >>= fun un => sortPass (F := F) 2#32 arg14 (stage 2 1 un) >>= fun un => sortPass (F := F) 4#32 arg14 (stage 4 2 un) >>= fun un => sortPass (F := F) 8#32 arg14 (stage 8 3 un) >>= fun un => sortPass (F := F) 0#32 arg14 (stage 16 4 un) >>= fun un => outRow 0 0 t arg5 arg6 (fun i => un ⟨i.val, by omega⟩) >>= fun _ => outRow 0 1 t arg5 arg6 (fun i => un ⟨16 + i.val, by omega⟩))
  rw [keys_32]
  iterate 32 refine op_congr rfl (fun _ => ?_)
  as_aux_lemma =>
  refine Eq.trans ?_ (pass_32 (F := F)).symm
  iterate 64 refine op_congr rfl (fun _ => ?_)
  simp only [bind_eq, bind_assoc, pure_bind, k0_part6]
  refine for_congr (by rfl) (fun _ => ?_)
  iterate 32 refine op_congr rfl (fun _ => ?_)
  as_aux_lemma =>
  refine Eq.trans ?_ (stagePass_2 (F := F)).symm
  iterate 64 refine op_congr rfl (fun _ => ?_)
  simp only [bind_eq, bind_assoc, pure_bind, k0_part9]
  refine for_congr (by rfl) (fun _ => ?_)
  iterate 32 refine op_congr rfl (fun _ => ?_)
  as_aux_lemma =>
  refine Eq.trans ?_ (stagePass_4 (F := F)).symm
  iterate 64 refine op_congr rfl (fun _ => ?_)
  simp only [bind_eq, bind_assoc, pure_bind, k0_part13]
  refine for_congr (by rfl) (fun _ => ?_)
  iterate 32 refine op_congr rfl (fun _ => ?_)
  as_aux_lemma =>
  refine Eq.trans ?_ (stagePass_8 (F := F)).symm
  iterate 64 refine op_congr rfl (fun _ => ?_)
  simp only [bind_eq, bind_assoc, pure_bind, k0_part17]
  refine for_congr (by rfl) (fun _ => ?_)
  iterate 32 refine op_congr rfl (fun _ => ?_)
  as_aux_lemma =>
  refine Eq.trans ?_ (stagePass_16 (F := F)).symm
  iterate 64 refine op_congr rfl (fun _ => ?_)
  simp only [bind_eq, bind_assoc, pure_bind, k0_part22]
  refine for_congr (by rfl) (fun _ => ?_)
  iterate 32 refine op_congr rfl (fun _ => ?_)
  as_aux_lemma =>
  refine Eq.trans ?_ (rows_32 (F := F)).symm
  simp only [bind_eq, ret_bind, bind_assoc, pure_bind, copyUnit, gatherUnit, stOut]
  iterate 3 refine bind_congr' (by rfl) (fun _ => ?_)
  conv_lhs => simp only [k0_part24, bind_assoc, pure_bind]
  iterate 14 refine bind_congr' (by rfl) (fun _ => ?_)
  conv_lhs => simp only [k0_part25, bind_assoc, pure_bind]
  iterate 14 refine bind_congr' (by rfl) (fun _ => ?_)
  as_aux_lemma =>
  conv_lhs => simp only [k0_part26, bind_assoc, pure_bind]
  iterate 14 refine bind_congr' (by rfl) (fun _ => ?_)
  conv_lhs => simp only [k0_part27, bind_assoc, pure_bind]
  iterate 12 refine bind_congr' (by rfl) (fun _ => ?_)
  conv_lhs => simp only [k0_part28, bind_assoc, pure_bind]
  iterate 12 refine bind_congr' (by rfl) (fun _ => ?_)
  as_aux_lemma =>
  conv_lhs => simp only [k0_part29, bind_assoc, pure_bind]
  iterate 12 refine bind_congr' (by rfl) (fun _ => ?_)
  conv_lhs => simp only [k0_part30, bind_assoc, pure_bind]
  iterate 12 refine bind_congr' (by rfl) (fun _ => ?_)
  conv_lhs => simp only [k0_part31, bind_assoc, pure_bind]
  iterate 12 refine bind_congr' (by rfl) (fun _ => ?_)
  as_aux_lemma =>
  conv_lhs => simp only [k0_part32, bind_assoc, pure_bind]
  iterate 12 refine bind_congr' (by rfl) (fun _ => ?_)
  conv_lhs => simp only [k0_part33, bind_assoc, pure_bind]
  iterate 14 refine bind_congr' (by rfl) (fun _ => ?_)
  conv_lhs => simp only [k0_part34, bind_assoc, pure_bind]
  iterate 14 refine bind_congr' (by rfl) (fun _ => ?_)
  as_aux_lemma =>
  conv_lhs => simp only [k0_part35, bind_assoc, pure_bind]
  iterate 13 refine bind_congr' (by rfl) (fun _ => ?_)
  conv_lhs => simp only [k0_part36, bind_assoc, pure_bind]
  iterate 12 refine bind_congr' (by rfl) (fun _ => ?_)
  conv_lhs => simp only [k0_part37, bind_assoc, pure_bind]
  iterate 12 refine bind_congr' (by rfl) (fun _ => ?_)
  as_aux_lemma =>
  conv_lhs => simp only [k0_part38, bind_assoc, pure_bind]
  iterate 12 refine bind_congr' (by rfl) (fun _ => ?_)
  conv_lhs => simp only [k0_part39, bind_assoc, pure_bind]
  iterate 12 refine bind_congr' (by rfl) (fun _ => ?_)
  conv_lhs => simp only [k0_part40, bind_assoc, pure_bind]
  iterate 12 refine bind_congr' (by rfl) (fun _ => ?_)
  as_aux_lemma =>
  iterate 6 refine bind_congr' (by rfl) (fun _ => ?_)
  rfl

end Cert.KernelIdeal.Tile

end
-- ==== Proof.Seg1.lean ====
/-
  The printed pair loop's body for half 1 of the buffers is `pairBody 1`.
-/
module

public import proofs.«01_k».proof.Proof.Rows

@[expose] public section

noncomputable section

namespace Cert.KernelIdeal.Tile

open Idealize.ShloMosaic Idealize.SL.Sem
open Facts₀ Facts

variable {F : FTy → Type} [FloatOps F] [Facts]

set_option maxHeartbeats 0 in
set_option maxRecDepth 100000 in
theorem pair1_eq (i : grid0.Coords) (arg2 : Memref sig .scVector .hbm S131072x512 .f32) (harg2 : arg2.IsWhole) (arg3 : Memref sig .scVector .hbm S131072x256 .i32) (harg3 : arg3.IsWhole) (arg4 : Memref sig .scVector .hbm S131072x512 .f32) (harg4 : arg4.IsWhole) (arg5 : Memref sig .scVector .vmem S2x32x512 .f32) (harg5 : arg5.IsWhole) (arg6 : Memref sig .scVector .vmem S2x32x512 .f32) (harg6 : arg6.IsWhole) (arg7 : Memref sig .scVector .vmem S2x32x256 .i32) (harg7 : arg7.IsWhole) (arg8 arg9 arg10 arg11 arg12 arg13 : DmaSems sig S_) (arg14 : Memref sig .scVector .vmem S512 .i32) (harg14 : arg14.IsWhole) (t : Fin k0_t13_loop.trips) :
    (do
      let v1375 : Vec F S16 .f32 ← k0_part82 i arg2 harg2 arg3 harg3 arg4 harg4 arg5 harg5 arg6 harg6 arg7 harg7 arg8 arg9 arg10 arg11 arg12 arg13 arg14 harg14 0#32 1#32 t
      let v1378_ld : Vec F S1x1x16 .f32 ← Prog.lift (.load arg6 (Rect.unit (s := S2x32x512) (k0_off212 t) S1x1x16.size (k0_off212_inb t)).toLoadRect (View.loadsAt_vmem h_S1x1x16))
      have v1378 : Vec F S16 .f32 := shapeCast S16 v1378_ld shapeCasts_S1x1x16_S16
      Prog.lift (.store arg6 (Rect.unit (s := S2x32x512) (k0_off212 t) S1x1x16.size (k0_off212_inb t)) (shapeCast S1x1x16 v1375 shapeCasts_S16_S1x1x16) Finset.univ (View.stores_vmem_bits_univ h_S1x1x16 rfl) (.inl rfl))
      pure ⟨⟩ : Prog (Eff F ((i 0).castLE hcore0) ((i 1).castLE hsub0)) PUnit)
    = pairBody 1 arg5 arg6 arg7 arg14 t := by
  show _ = (seqFin 32 (fun u => ldKey (F := F) 1 t arg7 u) >>= fun un => sortPass (F := F) 1#32 arg14 un >>= fun un => sortPass (F := F) 2#32 arg14 (stage 2 1 un) >>= fun un => sortPass (F := F) 4#32 arg14 (stage 4 2 un) >>= fun un => sortPass (F := F) 8#32 arg14 (stage 8 3 un) >>= fun un => sortPass (F := F) 0#32 arg14 (stage 16 4 un) >>= fun un => outRow 1 0 t arg5 arg6 (fun i => un ⟨i.val, by omega⟩) >>= fun _ => outRow 1 1 t arg5 arg6 (fun i => un ⟨16 + i.val, by omega⟩))
  rw [keys_32]
  iterate 32 refine op_congr rfl (fun _ => ?_)
  as_aux_lemma =>
  refine Eq.trans ?_ (pass_32 (F := F)).symm
  iterate 64 refine op_congr rfl (fun _ => ?_)
  simp only [bind_eq, bind_assoc, pure_bind, k0_part47]
  refine for_congr (by rfl) (fun _ => ?_)
  iterate 32 refine op_congr rfl (fun _ => ?_)
  as_aux_lemma =>
  refine Eq.trans ?_ (stagePass_2 (F := F)).symm
  iterate 64 refine op_congr rfl (fun _ => ?_)
  simp only [bind_eq, bind_assoc, pure_bind, k0_part50]
  refine for_congr (by rfl) (fun _ => ?_)
  iterate 32 refine op_congr rfl (fun _ => ?_)
  as_aux_lemma =>
  refine Eq.trans ?_ (stagePass_4 (F := F)).symm
  iterate 64 refine op_congr rfl (fun _ => ?_)
  simp only [bind_eq, bind_assoc, pure_bind, k0_part54]
  refine for_congr (by rfl) (fun _ => ?_)
  iterate 32 refine op_congr rfl (fun _ => ?_)
  as_aux_lemma =>
  refine Eq.trans ?_ (stagePass_8 (F := F)).symm
  iterate 64 refine op_congr rfl (fun _ => ?_)
  simp only [bind_eq, bind_assoc, pure_bind, k0_part58]
  refine for_congr (by rfl) (fun _ => ?_)
  iterate 32 refine op_congr rfl (fun _ => ?_)
  as_aux_lemma =>
  refine Eq.trans ?_ (stagePass_16 (F := F)).symm
  iterate 64 refine op_congr rfl (fun _ => ?_)
  simp only [bind_eq, bind_assoc, pure_bind, k0_part63]
  refine for_congr (by rfl) (fun _ => ?_)
  iterate 32 refine op_congr rfl (fun _ => ?_)
  as_aux_lemma =>
  refine Eq.trans ?_ (rows_32 (F := F)).symm
  simp only [bind_eq, ret_bind, bind_assoc, pure_bind, copyUnit, gatherUnit, stOut]
  iterate 3 refine bind_congr' (by rfl) (fun _ => ?_)
  conv_lhs => simp only [k0_part65, bind_assoc, pure_bind]
  iterate 14 refine bind_congr' (by rfl) (fun _ => ?_)
  conv_lhs => simp only [k0_part66, bind_assoc, pure_bind]
  iterate 14 refine bind_congr' (by rfl) (fun _ => ?_)
  as_aux_lemma =>
  conv_lhs => simp only [k0_part67, bind_assoc, pure_bind]
  iterate 14 refine bind_congr' (by rfl) (fun _ => ?_)
  conv_lhs => simp only [k0_part68, bind_assoc, pure_bind]
  iterate 12 refine bind_congr' (by rfl) (fun _ => ?_)
  conv_lhs => simp only [k0_part69, bind_assoc, pure_bind]
  iterate 12 refine bind_congr' (by rfl) (fun _ => ?_)
  as_aux_lemma =>
  conv_lhs => simp only [k0_part70, bind_assoc, pure_bind]
  iterate 12 refine bind_congr' (by rfl) (fun _ => ?_)
  conv_lhs => simp only [k0_part71, bind_assoc, pure_bind]
  iterate 12 refine bind_congr' (by rfl) (fun _ => ?_)
  conv_lhs => simp only [k0_part72, bind_assoc, pure_bind]
  iterate 12 refine bind_congr' (by rfl) (fun _ => ?_)
  as_aux_lemma =>
  conv_lhs => simp only [k0_part73, bind_assoc, pure_bind]
  iterate 12 refine bind_congr' (by rfl) (fun _ => ?_)
  conv_lhs => simp only [k0_part74, bind_assoc, pure_bind]
  iterate 14 refine bind_congr' (by rfl) (fun _ => ?_)
  conv_lhs => simp only [k0_part75, bind_assoc, pure_bind]
  iterate 14 refine bind_congr' (by rfl) (fun _ => ?_)
  as_aux_lemma =>
  conv_lhs => simp only [k0_part76, bind_assoc, pure_bind]
  iterate 13 refine bind_congr' (by rfl) (fun _ => ?_)
  conv_lhs => simp only [k0_part77, bind_assoc, pure_bind]
  iterate 12 refine bind_congr' (by rfl) (fun _ => ?_)
  conv_lhs => simp only [k0_part78, bind_assoc, pure_bind]
  iterate 12 refine bind_congr' (by rfl) (fun _ => ?_)
  as_aux_lemma =>
  conv_lhs => simp only [k0_part79, bind_assoc, pure_bind]
  iterate 12 refine bind_congr' (by rfl) (fun _ => ?_)
  conv_lhs => simp only [k0_part80, bind_assoc, pure_bind]
  iterate 12 refine bind_congr' (by rfl) (fun _ => ?_)
  conv_lhs => simp only [k0_part81, bind_assoc, pure_bind]
  iterate 12 refine bind_congr' (by rfl) (fun _ => ?_)
  as_aux_lemma =>
  iterate 6 refine bind_congr' (by rfl) (fun _ => ?_)
  rfl

end Cert.KernelIdeal.Tile

end
-- ==== Proof.Setup.lean ====
/-
  The program as the launch theorem sees it, the resource algebra, and the triples of a tile's operations on its scratch.
-/
module

public import proofs.«01_k».proof.Proof.Tile
public import proofs.«01_k».proof.Proof.Gen.KernelIdeal
public import Idealize.ShloMosaic.Lib.Pipeline.Kit
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic

@[expose] public section

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] [Facts] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds and the transfers' counters. -/
abbrev UH : Type := URounds (GSem nD τ sig) ℕ
abbrev UU : Type := UH × Counters

/-- The resources. -/
abbrev MM (F : FTy → Type) := MT nD τ sig (HIx 1) (Elt F) ℕ UU ℕ

variable [FloatOps F] [Facts]

/-- The weakest precondition of a tile's program. -/
abbrev tw (d : Dev nD) (ca : Fin τ.nSC) (cb : Fin τ.nSub) {α : Type} (p : Prog (Eff F ca cb) α) (Q : α → sProp (MM F)) : sProp (MM F) :=
  wp frame (wpE (defs₀ (F := F)) 𝒱₀ (V d ca cb) none) Set.univ p Q

variable {d : Dev nD} {ca : Fin τ.nSC} {cb : Fin τ.nSub}

theorem tw_bind {α β : Type} {p : Prog (Eff F ca cb) α} {k : α → Prog (Eff F ca cb) β} {P : sProp (MM F)} {R : α → sProp (MM F)} {Q : β → sProp (MM F)}
    (h : P ⊢ tw d ca cb p R) (hk : ∀ a, R a ⊢ tw d ca cb (k a) Q) : P ⊢ tw d ca cb (p >>= k) Q := by
  unfold tw; rw [wp_bind]; exact h.trans (wp_mono _ _ _ hk)

theorem tw_pure {α : Type} {a : α} {P : sProp (MM F)} {Q : α → sProp (MM F)} (h : P ⊢ Q a) : P ⊢ tw d ca cb (pure a) Q :=
  h.trans (le_wp_ret _ _ _ _ _)

theorem tw_frame {α : Type} {p : Prog (Eff F ca cb) α} {P R : sProp (MM F)} {Q : α → sProp (MM F)} (h : P ⊢ tw d ca cb p Q) :
    iprop(P ∗ R) ⊢ tw d ca cb p fun a => iprop(Q a ∗ R) :=
  (sep_mono_left h).trans (wp_frame_r _ _ _)

theorem tw_mono {α : Type} {p : Prog (Eff F ca cb) α} {P : sProp (MM F)} {Q Q' : α → sProp (MM F)} (h : P ⊢ tw d ca cb p Q) (hq : ∀ a, Q a ⊢ Q' a) :
    P ⊢ tw d ca cb p Q' := h.trans (wp_mono _ _ _ hq)

/-- Collecting results, each known. -/
theorem tw_seqFin {α : Type} {R : sProp (MM F)} : ∀ (n : ℕ) (f : Fin n → Prog (Eff F ca cb) α) (v : Fin n → α)
    (_ : ∀ i, R ⊢ tw d ca cb (f i) fun a => iprop(⌜a = v i⌝ ∗ R)), R ⊢ tw d ca cb (seqFin n f) fun r => iprop(⌜r = v⌝ ∗ R)
  | 0, f, v, h => tw_pure (by
      iintro H
      isplitr
      · ipureintro; exact funext fun i => i.elim0
      · iexact H)
  | n + 1, f, v, h => by
    refine tw_bind (h 0) fun a => ?_
    iintro ⟨%ha, H⟩
    subst ha
    iapply (show R ⊢ tw d ca cb _ _ from tw_bind (tw_seqFin n (fun i => f i.succ) (fun i => v i.succ) fun i => h i.succ) fun r => tw_pure (by
      iintro ⟨%hr, H⟩
      subst hr
      isplitr
      · ipureintro; exact Fin.cons_self_tail v
      · iexact H))
    iexact H

/-- An invariant through a run of steps. -/
theorem tw_forFin : ∀ (n : ℕ) (f : Fin n → Prog (Eff F ca cb) PUnit) (I : ℕ → sProp (MM F))
    (_ : ∀ i : Fin n, I i.val ⊢ tw d ca cb (f i) fun _ => I (i.val + 1)), I 0 ⊢ tw d ca cb (forFin n f) fun _ => I n
  | 0, f, I, h => tw_pure .rfl
  | n + 1, f, I, h => by
    refine tw_bind (h 0) fun _ => ?_
    refine tw_forFin n (fun i => f i.succ) (fun j => I (j + 1)) fun i => ?_
    have := h i.succ
    simpa using this

/-- An invariant through a loop. -/
theorem tw_for {σ : Type} {w : ℕ} (L : Scf.Loop w) (ok : L.OK) (init : σ) (body : Fin L.trips → σ → Prog (Eff F ca cb) σ) (I : ℕ → σ → sProp (MM F))
    (h : ∀ (k : Fin L.trips) (acc : σ), I k.val acc ⊢ tw d ca cb (body k acc) (I (k.val + 1))) :
    I 0 init ⊢ tw d ca cb (Scf.Loop.for L ok init body) (I L.trips) := by
  have := Scf.wp_for (Q := I L.trips) frame (wpE (defs₀ (F := F)) 𝒱₀ (V d ca cb) none) Set.univ L.lb L.ub L.st ok init body I h
  refine BIBase.Entails.trans ?_ this
  iintro H
  isplitl [H]
  · iexact H
  · iintro %a H; iexact H

end Cert.KernelIdeal.Tile

end
-- ==== Proof.Scratch.lean ====
/-
  What a tile's operations on its scratch do.
-/
module

public import proofs.«01_k».proof.Proof.Setup

@[expose] public section

noncomputable section

namespace Cert.KernelIdeal.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Facts₀ Facts

variable {F : FTy → Type} [FloatOps F] [Facts]
variable {d : Dev nD} {ca : Fin τ.nSC} {cb : Fin τ.nSub}

/-- A load. -/
theorem tw_load {cs : CoreSpace} {s : Shape} {e : EltTy} (m : Memref sig .scVector cs s e) (r : Rect s) (hl : m.view.LoadsAt r.toLoadRect)
    {S : Finset (Idx ((m.access r).loc (V d ca cb)))} {q : PosShare TreeShare} {f : Buf (Elt F) ((m.access r).loc (V d ca cb))} (hS : (m.access r).set ⊆ S) :
    ((m.access r).loc (V d ca cb) ↦[S]{q} f : sProp (MM F)) ⊢ tw d ca cb (Prog.lift (.load m r.toLoadRect hl))
      fun v => iprop(⌜v = (m.access r).read (Elt F) f⌝ ∗ (m.access r).loc (V d ca cb) ↦[S]{q} f) := by
  unfold Prog.lift
  iintro H
  iapply (wp_load_rect (defs := defs₀ (F := F)) 𝒱₀ (V d ca cb) none Set.univ (m := m) (r := r) (q := q) (f := f) hS) $$ H
  iintro H
  iapply (le_wp_ret frame (wpE (defs₀ (F := F)) 𝒱₀ (V d ca cb) none) _ _ _)
  isplitr
  · ipureintro; rfl
  · iexact H

/-- A store. -/
theorem tw_store {cs : CoreSpace} {s : Shape} {e : EltTy} (m : Memref sig .scVector cs s e) (r : Rect s) (w : r.shape.Idx → Elt F e)
    (hx : (m.access r).Stores Finset.univ) (hm : (Finset.univ : Finset r.shape.Idx) = Finset.univ ∨ ∀ a, r.stride a = 1)
    {S : Finset (Idx ((m.access r).loc (V d ca cb)))} {f : Buf (Elt F) ((m.access r).loc (V d ca cb))} (hS : (m.access r).set ⊆ S) :
    ((m.access r).loc (V d ca cb) ↦[S]{fullShare} f : sProp (MM F)) ⊢ tw d ca cb (Prog.lift (.store m r w Finset.univ hx hm))
      fun _ => iprop((m.access r).loc (V d ca cb) ↦[S]{fullShare} (m.access r).write (Elt F) f w Finset.univ) := by
  unfold Prog.lift
  iintro H
  iapply (wp_store (defs := defs₀ (F := F)) 𝒱₀ (V d ca cb) none Set.univ (m := m) (r := r) (w := w) (Mk := Finset.univ) (f := f) hS) $$ H
  iintro H
  iapply (le_wp_ret frame (wpE (defs₀ (F := F)) 𝒱₀ (V d ca cb) none) _ _ _)
  iexact H

/-- A checked fact. -/
theorem tw_assume {p : Prop} (dec : Decidable p) (h : p) {P : sProp (MM F)} {Q : PLift p → sProp (MM F)} (hQ : P ⊢ Q ⟨h⟩) :
    P ⊢ tw d ca cb (Prog.lift (TpuEff.assume p dec)) Q := by
  unfold Prog.lift tw
  rw [wp_assume_of 𝒱₀ (V d ca cb) none Set.univ h]
  exact hQ.trans (le_wp_ret _ _ _ _ _)

/-- A gather out of a buffer. -/
theorem tw_loadIdx {s t : Shape} {e : EltTy} (base : Memref sig .scVector .vmem s e) (idxs : Fin s.rank → IVec t 32)
    (h : ∀ a x, (idxs a x).toNat < s.size a) (hl : base.view.Loads)
    {S : Finset (Idx ((base.access (.whole s)).loc (V d ca cb)))} {q : PosShare TreeShare} {f : Buf (Elt F) ((base.access (.whole s)).loc (V d ca cb))}
    (hS : (base.access (.whole s)).set ⊆ S) :
    ((base.access (.whole s)).loc (V d ca cb) ↦[S]{q} f : sProp (MM F)) ⊢ tw d ca cb (SparseCore.vectorLoadIdx base idxs h hl)
      fun v => iprop(⌜v = loadIdx ((base.access (.whole s)).read (Elt F) f) idxs h⌝ ∗ (base.access (.whole s)).loc (V d ca cb) ↦[S]{q} f) := by
  refine BIBase.Entails.trans ?_ (Entails.of_eq (congrArg (fun p => tw d ca cb p _) (bind_pure (m := Prog (Eff F ca cb)) _)))
  iintro H
  iapply (SparseCore.wp_vectorLoadIdx (defs := defs₀ (F := F)) 𝒱₀ (V d ca cb) none Set.univ (base := base) (idxs := idxs) (h := h) (hl := hl) (q := q) (f := f) hS) $$ H
  iintro H
  iapply (le_wp_ret frame (wpE (defs₀ (F := F)) 𝒱₀ (V d ca cb) none) _ _ _)
  isplitr
  · ipureintro; rfl
  · iexact H

/-- A scatter into a buffer. -/
theorem tw_storeIdx {s : Shape} {e : EltTy} {dd : Fin 1 → Nat} (base : Memref sig .scVector .vmem s e) (idxs : Fin s.rank → IVec ⟨1, dd⟩ 32) (v : Vec F ⟨1, dd⟩ e)
    (mask : IVec ⟨1, dd⟩ 1) (add : Bool) (h : ∀ a x, (idxs a x).toNat < s.size a) (hs : (base.access (.whole s)).Stores Finset.univ)
    {f : Buf (Elt F) ((base.access (.whole s)).loc (V d ca cb))} :
    ((base.access (.whole s)).loc (V d ca cb) ↦[(base.access (.whole s)).set]{fullShare} f : sProp (MM F)) ⊢ tw d ca cb (SparseCore.vectorStoreIdx base idxs v mask add h hs)
      fun _ => iprop((base.access (.whole s)).loc (V d ca cb) ↦[(base.access (.whole s)).set]{fullShare}
        (base.access (.whole s)).write (Elt F) f (storeIdx ((base.access (.whole s)).read (Elt F) f) idxs v mask add h) Finset.univ) := by
  refine BIBase.Entails.trans ?_ (Entails.of_eq (congrArg (fun p => tw d ca cb p _) (bind_pure (m := Prog (Eff F ca cb)) _)))
  iintro H
  iapply (SparseCore.wp_vectorStoreIdx (defs := defs₀ (F := F)) 𝒱₀ (V d ca cb) none Set.univ (base := base) (idxs := idxs) (v := v) (mask := mask) (add := add) (h := h) (hs := hs) (f := f)) $$ H
  iintro H
  iapply (le_wp_ret frame (wpE (defs₀ (F := F)) 𝒱₀ (V d ca cb) none) _ _ _)
  iexact H

/-- The scratch the units are sorted through. -/
abbrev tR : Memref sig .scVector .vmem S512 .i32 := Memref.whole cc0_scratch9

abbrev tLoc (d : Dev nD) (ca : Fin τ.nSC) (cb : Fin τ.nSub) : Loc nD τ sig := (V d ca cb).loc cc0_scratch9

/-- Unit `u` of the scratch's contents. -/
def unitOf (f : S512.Idx → BitVec 32) (u : Fin 32) : IVec S16 32 := fun l => f ((unitRect u).emb l)

theorem unitRect_emb_val (u : Fin 32) (l : S16.Idx) (a : Fin 1) : ((unitRect u).emb l a).val = 16 * u.val + (l 0).val := by
  have ha : a = 0 := Subsingleton.elim _ _
  subst ha
  show 16 * u.val + 1 * (l 0).val = _
  omega

theorem tw_ldUnit (u : Fin 32) (f : Buf (Elt F) (tLoc d ca cb)) :
    (tLoc d ca cb ↦{fullShare} f : sProp (MM F)) ⊢ tw d ca cb (ldUnit (F := F) tR u) fun v => iprop(⌜v = unitOf f u⌝ ∗ tLoc d ca cb ↦{fullShare} f) :=
  tw_load (d := d) (ca := ca) (cb := cb) tR (unitRect u) _ (S := Finset.univ) (Finset.subset_univ _)

/-- The scratch with unit `u` rewritten. -/
def setUnit (f : S512.Idx → BitVec 32) (u : Fin 32) (v : IVec S16 32) : S512.Idx → BitVec 32 :=
  (tR.access (unitRect u)).write (Elt F) f v Finset.univ

theorem unitOf_setUnit (f : S512.Idx → BitVec 32) (u : Fin 32) (v : IVec S16 32) (u' : Fin 32) :
    unitOf (setUnit (F := F) f u v) u' = if u' = u then v else unitOf f u' := by
  split
  · next h =>
    subst h
    exact View.read_write_univ (v := tR.access (unitRect u')) (Val := Elt F) f v
  · next h =>
    have hd : Disjoint (unitRect u').set (unitRect u).set := by
      refine Rect.unit_disjoint 0 ?_
      show 16 * u'.val + 16 ≤ 16 * u.val ∨ 16 * u.val + 16 ≤ 16 * u'.val
      have : u'.val ≠ u.val := fun e => h (Fin.ext e)
      omega
    refine View.read_slice_write_slice_of_disjoint (v := tR.view) (Val := Elt F) (unitRect u') (unitRect u) f v Finset.univ ?_
    rw [View.set_slice_whole]
    show Disjoint (unitRect u').set ((View.whole (cc0_scratch9 : Ref sig .scVector)).slice (unitRect u)).set
    rw [View.set_slice_whole]; exact hd

theorem tw_stUnit (u : Fin 32) (v : IVec S16 32) (f : Buf (Elt F) (tLoc d ca cb)) :
    (tLoc d ca cb ↦{fullShare} f : sProp (MM F)) ⊢ tw d ca cb (stUnit (F := F) tR u v) fun _ => tLoc d ca cb ↦{fullShare} setUnit (F := F) f u v := by
  refine tw_bind (tw_ldUnit u f) fun a => ?_
  refine BIBase.Entails.trans sep_elim_right ?_
  exact tw_store (d := d) (ca := ca) (cb := cb) tR (unitRect u) v _ _ (S := Finset.univ) (Finset.subset_univ _)

/-! ## Sorting a unit -/

/-- Lane `j` stands before lane `l`. -/
def Before (a : Fin 16 → BitVec 32) (j l : Fin 16) : Prop := (a j).toNat < (a l).toNat ∨ ((a j).toNat = (a l).toNat ∧ j < l)

instance (a : Fin 16 → BitVec 32) (j l : Fin 16) : Decidable (Before a j l) := by unfold Before; infer_instance

/-- How many of the first `n` lanes stand before lane `l`. -/
def rk (a : Fin 16 → BitVec 32) (n : ℕ) (l : Fin 16) : ℕ := (Finset.univ.filter fun j : Fin 16 => j.val < n ∧ Before a j l).card

theorem rk_zero (a : Fin 16 → BitVec 32) (l : Fin 16) : rk a 0 l = 0 := by simp [rk]

theorem rk_succ (a : Fin 16 → BitVec 32) (n : Fin 16) (l : Fin 16) : rk a (n.val + 1) l = rk a n.val l + if Before a n l then 1 else 0 := by
  unfold rk
  split
  · next h =>
    rw [show (Finset.univ.filter fun j : Fin 16 => j.val < n.val + 1 ∧ Before a j l) = insert n (Finset.univ.filter fun j : Fin 16 => j.val < n.val ∧ Before a j l) from ?_]
    · rw [Finset.card_insert_of_notMem (by simp)]
    · ext j
      simp only [Finset.mem_filter, Finset.mem_univ, true_and, Finset.mem_insert]
      constructor
      · rintro ⟨h1, h2⟩
        by_cases e : j = n
        · exact Or.inl e
        · have : j.val ≠ n.val := fun e' => e (Fin.ext e')
          exact Or.inr ⟨by omega, h2⟩
      · rintro (rfl | ⟨h1, h2⟩)
        · exact ⟨by omega, h⟩
        · exact ⟨by omega, h2⟩
  · next h =>
    refine (congrArg Finset.card (Finset.ext fun j => ?_)).trans (Nat.add_zero _).symm
    simp only [Finset.mem_filter, Finset.mem_univ, true_and]
    constructor
    · rintro ⟨h1, h2⟩
      have : j.val ≠ n.val := fun e' => h (Fin.ext e' ▸ h2)
      exact ⟨by omega, h2⟩
    · rintro ⟨h1, h2⟩; exact ⟨by omega, h2⟩

theorem before_irrefl (a : Fin 16 → BitVec 32) (l : Fin 16) : ¬ Before a l l := by
  rintro (h | ⟨_, h⟩) <;> exact lt_irrefl _ h

theorem before_trans (a : Fin 16 → BitVec 32) {i j l : Fin 16} (h : Before a i j) (h' : Before a j l) : Before a i l := by
  unfold Before at *
  rcases h with h | ⟨h, e⟩ <;> rcases h' with h' | ⟨h', e'⟩
  · left; omega
  · left; omega
  · left; omega
  · right; exact ⟨by omega, e.trans e'⟩

theorem before_total (a : Fin 16 → BitVec 32) {j l : Fin 16} (h : j ≠ l) : Before a j l ∨ Before a l j := by
  unfold Before
  rcases Nat.lt_trichotomy (a j).toNat (a l).toNat with e | e | e
  · exact Or.inl (Or.inl e)
  · rcases lt_or_gt_of_ne h with e' | e'
    · exact Or.inl (Or.inr ⟨e, e'⟩)
    · exact Or.inr (Or.inr ⟨e.symm, e'⟩)
  · exact Or.inr (Or.inl e)

theorem rk_lt_of_before (a : Fin 16 → BitVec 32) {j l : Fin 16} (h : Before a j l) : rk a 16 j < rk a 16 l := by
  unfold rk
  refine Finset.card_lt_card ⟨fun i hi => ?_, fun hs => ?_⟩
  · simp only [Finset.mem_filter, Finset.mem_univ, true_and] at *
    exact ⟨hi.1, before_trans a hi.2 h⟩
  · have := hs (Finset.mem_filter.mpr ⟨Finset.mem_univ j, j.isLt, h⟩)
    exact before_irrefl a j (Finset.mem_filter.mp this).2.2

theorem rk_lt (a : Fin 16 → BitVec 32) (n : ℕ) (l : Fin 16) : rk a n l < 16 := by
  unfold rk
  have : (Finset.univ.filter fun j : Fin 16 => j.val < n ∧ Before a j l) ⊂ Finset.univ :=
    ⟨Finset.subset_univ _, fun hs => before_irrefl a l (Finset.mem_filter.mp (hs (Finset.mem_univ l))).2.2⟩
  simpa using Finset.card_lt_card this

/-- The lanes' places. -/
def place (a : Fin 16 → BitVec 32) (l : Fin 16) : Fin 16 := ⟨rk a 16 l, rk_lt a 16 l⟩

theorem place_injective (a : Fin 16 → BitVec 32) : Function.Injective (place a) := by
  intro j l h
  by_contra hne
  have hv : rk a 16 j = rk a 16 l := congrArg Fin.val h
  rcases before_total a hne with h' | h' <;> have := rk_lt_of_before a h' <;> omega

theorem place_bijective (a : Fin 16 → BitVec 32) : Function.Bijective (place a) := (place_injective a).bijective_of_finite

/-- The lanes' places as a permutation. -/
def placeP (a : Fin 16 → BitVec 32) : Equiv.Perm (Fin 16) := Equiv.ofBijective (place a) (place_bijective a)

theorem placeP_apply (a : Fin 16 → BitVec 32) (l : Fin 16) : placeP a l = place a l := rfl

/-- In the order of the places the entries do not fall. -/
theorem place_mono (a : Fin 16 → BitVec 32) {p q : Fin 16} (h : p ≤ q) : (a ((placeP a).symm p)).toNat ≤ (a ((placeP a).symm q)).toNat := by
  by_contra hlt
  have hb : Before a ((placeP a).symm q) ((placeP a).symm p) := Or.inl (by omega)
  have := rk_lt_of_before a hb
  have e : ∀ x, rk a 16 ((placeP a).symm x) = x.val := fun x => by
    have : placeP a ((placeP a).symm x) = x := Equiv.apply_symm_apply _ _
    exact congrArg Fin.val this
  rw [e, e] at this
  have : p.val ≤ q.val := h
  omega

/-- A lane's index. -/
abbrev ln (l : Fin 16) : S16.Idx := Shape.ofLane (d := S16.size) l

/-- The lane of an index; a unit's number; a lane's number. -/
def lo (l : S16.Idx) : Fin 16 := ⟨(l 0).val, (l 0).isLt⟩
def tU (t : Fin k0_t3_loop.trips) : Fin 32 := ⟨t.val, t.isLt⟩
def jL (j : Fin k0_t4_loop.trips) : Fin 16 := ⟨j.val, j.isLt⟩

theorem ln_lo (x : S16.Idx) : ln (lo x) = x := by
  funext a
  have ha : a = 0 := Subsingleton.elim _ _
  subst ha; rfl

theorem lo_ln (l : Fin 16) : lo (ln l) = l := rfl

/-- A unit turned over where it is to descend. -/
def flipW (desc : Bool) : BitVec 32 := if desc then BitVec.allOnes 32 else 0#32

/-- A unit sorted. -/
def sortU (desc : Bool) (a : IVec S16 32) : IVec S16 32 := fun p =>
  a (ln ((placeP fun l => a (ln l) ^^^ flipW desc).symm (lo p)))

end Cert.KernelIdeal.Tile

end
-- ==== Proof.Unit.lean ====
/-
  Sorting the units of the scratch, one at a time, by counting.
-/
module

public import proofs.«01_k».proof.Proof.Scratch

@[expose] public section

noncomputable section

namespace Cert.KernelIdeal.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Facts₀ Facts

variable {F : FTy → Type} [FloatOps F] [Facts]
variable {d : Dev nD} {ca : Fin τ.nSC} {cb : Fin τ.nSub}

theorem foldl_none {J K X : Type} (p : K → J → Prop) [∀ k j, Decidable (p k j)] (y : K → X) (j : J) : ∀ (l : List K) (f : J → X), (∀ k ∈ l, ¬ p k j) →
    l.foldl (fun g k => fun j => if p k j then y k else g j) f j = f j
  | [], f, _ => rfl
  | k :: l, f, h => by
    rw [List.foldl_cons, foldl_none p y j l _ fun k' hk' => h k' (List.mem_cons_of_mem _ hk'), if_neg (h k List.mem_cons_self)]

theorem foldl_one {J K X : Type} (p : K → J → Prop) [∀ k j, Decidable (p k j)] (y : K → X) (j : J) (k₀ : K) (h₀ : p k₀ j) :
    ∀ (l : List K) (f : J → X), k₀ ∈ l → (∀ k ∈ l, p k j → k = k₀) → l.foldl (fun g k => fun j => if p k j then y k else g j) f j = y k₀
  | k :: l, f, hm, h => by
    rw [List.foldl_cons]
    by_cases hl : k₀ ∈ l
    · exact foldl_one p y j k₀ h₀ l _ hl fun k' hk' => h k' (List.mem_cons_of_mem _ hk')
    · have hk : k₀ = k := (List.mem_cons.mp hm).resolve_right hl
      subst hk
      rw [foldl_none p y j l _ fun k' hk' hp => hl (h k' (List.mem_cons_of_mem _ hk') hp ▸ hk'), if_pos h₀]

theorem storeIdx_eq {s : Shape} {e : EltTy} (f : Vec F s e) (idxs : Fin s.rank → IVec S16 32) (v : Vec F S16 e) (h : ∀ a x, (idxs a x).toNat < s.size a) :
    storeIdx (F := F) f idxs v (fun _ => 1#1) false h
      = (List.finRange 16).foldl (fun g k => fun j : s.Idx => if ∀ a, (j a).val = (idxs a (ln k)).toNat then v (ln k) else g j) f := by
  unfold storeIdx
  simp only [if_true, Bool.false_eq_true, if_false]
  rfl

/-- A scatter to distinct places. -/
theorem storeIdx_at {s : Shape} {e : EltTy} (f : Vec F s e) (idxs : Fin s.rank → IVec S16 32) (v : Vec F S16 e)
    (h : ∀ a x, (idxs a x).toNat < s.size a) (j : s.Idx) (k : Fin 16) (hk : ∀ a, (j a).val = (idxs a (ln k)).toNat)
    (hu : ∀ k', (∀ a, (j a).val = (idxs a (ln k')).toNat) → k' = k) : storeIdx (F := F) f idxs v (fun _ => 1#1) false h j = v (ln k) := by
  rw [storeIdx_eq]
  exact foldl_one (fun k (j : s.Idx) => ∀ a, (j a).val = (idxs a (ln k)).toNat) (fun k => v (ln k)) j k hk (List.finRange 16) f (List.mem_finRange k) fun k' _ => hu k'

theorem storeIdx_off {s : Shape} {e : EltTy} (f : Vec F s e) (idxs : Fin s.rank → IVec S16 32) (v : Vec F S16 e)
    (h : ∀ a x, (idxs a x).toNat < s.size a) (j : s.Idx) (hu : ∀ k, ¬ ∀ a, (j a).val = (idxs a (ln k)).toNat) :
    storeIdx (F := F) f idxs v (fun _ => 1#1) false h j = f j := by
  rw [storeIdx_eq]
  exact foldl_none (fun k (j : s.Idx) => ∀ a, (j a).val = (idxs a (ln k)).toNat) (fun k => v (ln k)) j (List.finRange 16) f fun k' _ => hu k'

theorem readT (f : S512.Idx → BitVec 32) : (tR.access (.whole S512)).read (Elt F) f = f := Memref.read_access_whole (Val := Elt F) (cc0_scratch9 : Ref sig .scVector) f

theorem iv3 (t : Fin k0_t3_loop.trips) : Scf.iv 0#32 1#32 t = BitVec.ofNat 32 t.val := by revert t; decide +kernel
theorem iv4 (t : Fin k0_t4_loop.trips) : Scf.iv 0#32 1#32 t = BitVec.ofNat 32 t.val := by revert t; decide +kernel

theorem before_word (x y : BitVec 32) (j l : Fin 16) :
    ((IntOp.ori (IntOp.cmpi .ult x y) (IntOp.andi (IntOp.cmpi .eq x y) (IntOp.cmpi .slt (BitVec.ofNat 32 j.val) (BitVec.ofNat 32 l.val))) : BitVec 1).setWidth 32).toNat
      = if x.toNat < y.toNat ∨ (x.toNat = y.toNat ∧ j < l) then 1 else 0 := by
  have hs : IntOp.cmpi .slt (BitVec.ofNat 32 j.val) (BitVec.ofNat 32 l.val) = BitVec.ofBool (decide (j < l)) := by revert j l; decide +kernel
  rw [hs]
  have h1 : IntOp.cmpi .ult x y = BitVec.ofBool (decide (x.toNat < y.toNat)) := rfl
  have h2 : IntOp.cmpi .eq x y = BitVec.ofBool (decide (x.toNat = y.toNat)) := by
    show BitVec.ofBool (x == y) = _
    congr 1
    rw [Bool.eq_iff_iff]; simp [BitVec.toNat_eq]
  rw [h1, h2]
  by_cases a : x.toNat < y.toNat <;> by_cases b : x.toNat = y.toNat <;> by_cases c : j < l <;> simp [a, b, c, IntOp.ori, IntOp.andi] <;> decide

theorem iota_lane (l : S16.Idx) : iota .scVector S16 32 [0] iota_S16_d0_w32_scVector l = BitVec.ofNat 32 (lo l).val := by
  rw [← ln_lo l]; generalize lo l = k; revert k; decide +kernel

/-- The lanes read so far: how many stand before each lane. -/
theorem tw_rankStep (t : Fin k0_t3_loop.trips) (w : BitVec 32) (a : IVec S16 32) (f : Buf (Elt F) (tLoc d ca cb))
    (ha : ∀ l, a l = unitOf f (tU t) l ^^^ w) (j : Fin k0_t4_loop.trips) (rank : IVec S16 32)
    (hr : ∀ l, (rank l).toNat = rk (fun l => a (ln l)) j.val (lo l)) :
    (tLoc d ca cb ↦{fullShare} f : sProp (MM F)) ⊢ tw d ca cb (rankStep (F := F) tR t (broadcast S16 w) a j rank)
      fun r => iprop(⌜∀ l, (r l).toNat = rk (fun l => a (ln l)) (j.val + 1) (lo l)⌝ ∗ tLoc d ca cb ↦{fullShare} f) := by
  have ht : t.val < 32 := t.isLt
  have hj : j.val < 16 := j.isLt
  have hat : ∀ x, ((addi (broadcast S16 0#32) (broadcast S16 (Scalar.addi (Scalar.muli (Scf.iv 0#32 1#32 t) 16#32) (Scf.iv 0#32 1#32 j))) : IVec S16 32) x).toNat = 16 * t.val + j.val := by
    intro x
    rw [iv3, iv4]
    show (0#32 + (BitVec.ofNat 32 t.val * 16#32 + BitVec.ofNat 32 j.val)).toNat = _
    simp only [BitVec.toNat_add, BitVec.toNat_mul, BitVec.toNat_ofNat]; omega
  have hchk : k0_chk1 (addi (broadcast S16 0#32) (broadcast S16 (Scalar.addi (Scalar.muli (Scf.iv 0#32 1#32 t) 16#32) (Scf.iv 0#32 1#32 j)))) := by
    intro b x
    have hb : b = 0 := Subsingleton.elim _ _
    subst hb
    refine lt_of_eq_of_lt (hat x) ?_
    show 16 * t.val + j.val < 512; omega
  unfold rankStep
  refine tw_bind (R := fun _ => (tLoc d ca cb ↦{fullShare} f)) (tw_assume _ hchk .rfl) fun hw => ?_
  refine tw_bind (tw_loadIdx (d := d) (ca := ca) (cb := cb) tR _ _ _ (S := Finset.univ) (q := fullShare) (f := f) (Finset.subset_univ _)) fun v => ?_
  iintro ⟨%hv, H⟩
  iapply (tw_pure (d := d) (ca := ca) (cb := cb) (P := tLoc d ca cb ↦{fullShare} f) (by
    iintro H
    isplitr
    · ipureintro
      intro l
      have hvl : v l = unitOf f (tU t) (ln (jL j)) := by
        rw [hv]
        refine (congrFun (readT f) _).trans (congrArg f (funext fun b => Fin.ext ?_))
        have hb : b = 0 := Subsingleton.elim _ _
        subst hb
        rw [unitRect_emb_val]
        exact hat l
      have e := rk_succ (fun l => a (ln l)) (jL j) (lo l)
      rw [show (jL j).val = j.val from rfl] at e
      rw [e, ← hr]
      show (rank l + (IntOp.ori (IntOp.cmpi .ult (v l ^^^ w) (a l)) (IntOp.andi (IntOp.cmpi .eq (v l ^^^ w) (a l))
        (IntOp.cmpi .slt (Scf.iv 0#32 1#32 j) (iota .scVector S16 32 [0] iota_S16_d0_w32_scVector l))) : BitVec 1).setWidth 32).toNat = _
      have hb := before_word (a (ln (jL j))) (a l) (jL j) (lo l)
      rw [show (jL j).val = j.val from rfl] at hb
      rw [iota_lane, hvl, ← ha, iv4, BitVec.toNat_add, hb]
      have h3 := rk_lt (fun l => a (ln l)) j.val (lo l)
      rw [← hr] at h3
      simp only [Before, ln_lo]
      rw [Nat.mod_eq_of_lt]
      split <;> omega
    · iexact H))
  iexact H

end Cert.KernelIdeal.Tile

end
-- ==== Proof.Sort.lean ====
/-
  A sort of every unit through the scratch.
-/
module

public import proofs.«01_k».proof.Proof.Unit

@[expose] public section

noncomputable section

namespace Cert.KernelIdeal.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Facts₀ Facts

variable {F : FTy → Type} [FloatOps F] [Facts]
variable {d : Dev nD} {ca : Fin τ.nSC} {cb : Fin τ.nSub}

/-- Whether unit `u` is sorted descending. -/
def descB (bit : BitVec 32) (u : ℕ) : Bool := decide (BitVec.ofNat 32 u &&& bit ≠ 0#32)

theorem flip_word (bit : BitVec 32) (t : Fin k0_t3_loop.trips) :
    (subi (broadcast S16 0#32) (broadcast S16 (Scalar.extui (Scalar.cmpi .ne (Scalar.andi (Scf.iv 0#32 1#32 t) bit) 0#32) : BitVec 32)) : IVec S16 32)
      = broadcast S16 (flipW (descB bit t.val)) := by
  funext l
  rw [iv3]
  show 0#32 - (BitVec.ofBool (BitVec.ofNat 32 t.val &&& bit != 0#32)).setWidth 32 = flipW (descB bit t.val)
  have e : (BitVec.ofNat 32 t.val &&& bit != 0#32) = descB bit t.val := by
    unfold descB; rw [Bool.eq_iff_iff]; simp
  rw [e]
  cases descB bit t.val <;> decide

theorem off40_eq (t : Fin k0_t3_loop.trips) : k0_off40 t = ![16 * t.val] := by
  have h : ∀ t : Fin k0_t3_loop.trips, k0_off40 t 0 = 16 * t.val := by decide +kernel
  funext a
  have ha : a = 0 := Subsingleton.elim _ _
  subst ha; exact h t

theorem xor_flip (x w : BitVec 32) : x ^^^ w ^^^ w = x := by
  rw [BitVec.xor_assoc, BitVec.xor_self, BitVec.xor_zero]

theorem unit_at (f : S512.Idx → BitVec 32) (u : Fin 32) (l : S16.Idx) (x : S512.Idx) (h : (x 0).val = 16 * u.val + (l 0).val) : f x = unitOf f u l := by
  refine congrArg f (funext fun a => Fin.ext ?_)
  have ha : a = 0 := Subsingleton.elim _ _
  subst ha
  rw [unitRect_emb_val]; exact h

theorem setT : (tR.access (.whole S512)).set = Finset.univ := Memref.set_access_whole (cc0_scratch9 : Ref sig .scVector)
theorem writeT (f w : S512.Idx → BitVec 32) : (tR.access (.whole S512)).write (Elt F) f w Finset.univ = w :=
  Memref.write_access_whole_univ (Val := Elt F) (cc0_scratch9 : Ref sig .scVector) f w

/-- A unit sorted in place. -/
theorem tw_unitStep (bit : BitVec 32) (t : Fin k0_t3_loop.trips) (un : Fin 32 → IVec S16 32) :
    (iprop(∃ f : Buf (Elt F) (tLoc d ca cb), (tLoc d ca cb ↦{fullShare} f) ∗ ⌜unitOf f = un⌝) : sProp (MM F)) ⊢ tw d ca cb (unitStep (F := F) bit tR t)
      fun _ => iprop(∃ f : Buf (Elt F) (tLoc d ca cb), (tLoc d ca cb ↦{fullShare} f) ∗ ⌜unitOf f = fun u => if u = tU t then sortU (descB bit t.val) (un u) else un u⌝) := by
  have ht : t.val < 32 := t.isLt
  have main : ∀ f : Buf (Elt F) (tLoc d ca cb), (tLoc d ca cb ↦{fullShare} f : sProp (MM F)) ⊢ tw d ca cb (unitStep (F := F) bit tR t)
      fun _ => iprop(∃ f' : Buf (Elt F) (tLoc d ca cb), (tLoc d ca cb ↦{fullShare} f') ∗ ⌜unitOf f' = fun u => if u = tU t then sortU (descB bit t.val) (unitOf f u) else unitOf f u⌝) := by
    intro f
    unfold unitStep
    simp only [flip_word]
    set w := flipW (descB bit t.val) with hw
    refine tw_bind (tw_load (d := d) (ca := ca) (cb := cb) tR (Rect.unit (s := S512) (k0_off40 t) S16.size (k0_off40_inb t)) _ (S := Finset.univ) (q := fullShare) (f := f) (Finset.subset_univ _)) fun a => ?_
    iintro ⟨%ha, H⟩
    have ha' : a = unitOf f (tU t) := by
      rw [ha]; funext l
      refine unit_at f (tU t) l _ ?_
      show k0_off40 t 0 + 1 * (l 0).val = _
      have e : k0_off40 t 0 = 16 * t.val := congrFun (off40_eq t) 0
      have e' : (tU t).val = t.val := rfl
      omega
    clear ha; subst ha'
    set b : IVec S16 32 := xori (unitOf f (tU t)) (broadcast S16 w) with hb
    have hbl : ∀ l, b l = unitOf f (tU t) l ^^^ w := fun l => rfl
    iapply (tw_bind (d := d) (ca := ca) (cb := cb) (P := tLoc d ca cb ↦{fullShare} f)
      (R := fun (r : IVec S16 32) => iprop(⌜∀ l, (r l).toNat = rk (fun l => b (ln l)) 16 (lo l)⌝ ∗ tLoc d ca cb ↦{fullShare} f)) ?_ fun rank => ?_) $$ H
    · refine BIBase.Entails.trans ?_ (tw_for (d := d) (ca := ca) (cb := cb) k0_t4_loop k0_t4_ok _ _
        (fun n (r : IVec S16 32) => iprop(⌜∀ l, (r l).toNat = rk (fun l => b (ln l)) n (lo l)⌝ ∗ tLoc d ca cb ↦{fullShare} f)) fun j r => ?_)
      · iintro H
        isplitr
        · ipureintro; intro l; rw [rk_zero]; rfl
        · iexact H
      · iintro ⟨%hr, H⟩
        iapply (tw_rankStep t w b f hbl j r hr) $$ H
    · iintro ⟨%hr, H⟩
      have hto : ∀ l, ((addi rank (broadcast S16 (Scalar.muli (Scf.iv 0#32 1#32 t) 16#32)) : IVec S16 32) l).toNat = 16 * t.val + (place (fun l => b (ln l)) (lo l)).val := by
        intro l
        rw [iv3]
        show (rank l + BitVec.ofNat 32 t.val * 16#32).toNat = 16 * t.val + rk (fun l => b (ln l)) 16 (lo l)
        have h3 := rk_lt (fun l => b (ln l)) 16 (lo l)
        rw [← hr] at h3 ⊢
        simp only [BitVec.toNat_add, BitVec.toNat_mul, BitVec.toNat_ofNat]; omega
      have hchk : k0_chk2 (addi rank (broadcast S16 (Scalar.muli (Scf.iv 0#32 1#32 t) 16#32))) := by
        intro c x
        have hc : c = 0 := Subsingleton.elim _ _
        subst hc
        refine lt_of_eq_of_lt (hto x) ?_
        have := (place (fun l => b (ln l)) (lo x)).isLt
        show 16 * t.val + _ < 512; omega
      iapply (tw_bind (d := d) (ca := ca) (cb := cb) (P := tLoc d ca cb ↦{fullShare} f) (R := fun _ => (tLoc d ca cb ↦{fullShare} f)) (tw_assume _ hchk .rfl) fun hw' => ?_) $$ H
      refine BIBase.Entails.trans ?_ (tw_bind (tw_storeIdx (d := d) (ca := ca) (cb := cb) tR _ _ _ _ _ _ (f := f)) fun _ => tw_pure ?_)
      · rw [setT]
      · rw [setT]
        iintro H
        iexists _
        isplitl [H]
        · iexact H
        · ipureintro
          refine funext fun u => ?_
          rw [writeT, readT]
          split
          · next hu =>
            subst hu
            funext l
            have hpl : place (fun l => b (ln l)) ((placeP fun l => b (ln l)).symm (lo l)) = lo l := (placeP fun l => b (ln l)).apply_symm_apply _
            refine (storeIdx_at _ _ _ _ _ ((placeP fun l => b (ln l)).symm (lo l)) (fun c => ?_) fun k' hk' => ?_).trans ?_
            · have hc : c = 0 := Subsingleton.elim _ _
              subst hc
              rw [unitRect_emb_val]
              refine Eq.trans ?_ (hto (ln _)).symm
              rw [lo_ln, hpl]; rfl
            · have h0 := hk' 0
              rw [unitRect_emb_val] at h0
              have h1 := h0.trans (hto (ln k'))
              rw [lo_ln] at h1
              have h2 : placeP (fun l => b (ln l)) k' = lo l := Fin.ext (by
                show (place (fun l => b (ln l)) k').val = (l 0).val
                have : (tU t).val = t.val := rfl
                omega)
              rw [← h2, Equiv.symm_apply_apply]
            · exact xor_flip _ _
          · next hu =>
            funext l
            refine storeIdx_off _ _ _ _ _ fun k hk => hu (Fin.ext ?_)
            have h0 := hk 0
            rw [unitRect_emb_val] at h0
            have h1 := h0.trans (hto (ln k))
            have h2 := (place (fun l => b (ln l)) (lo (ln k))).isLt
            have h3 : (l 0).val < 16 := (l 0).isLt
            show u.val = t.val
            omega
  iintro ⟨%f, H, %hf⟩
  subst hf
  iapply (main f) $$ H

/-- Every unit sorted in place. -/
theorem tw_unitLoop (bit : BitVec 32) (un : Fin 32 → IVec S16 32) :
    (iprop(∃ f : Buf (Elt F) (tLoc d ca cb), (tLoc d ca cb ↦{fullShare} f) ∗ ⌜unitOf f = un⌝) : sProp (MM F)) ⊢ tw d ca cb (unitLoop (F := F) bit tR)
      fun _ => iprop(∃ f : Buf (Elt F) (tLoc d ca cb), (tLoc d ca cb ↦{fullShare} f) ∗ ⌜unitOf f = fun u => sortU (descB bit u.val) (un u)⌝) := by
  unfold unitLoop
  refine BIBase.Entails.trans ?_ ((tw_for (d := d) (ca := ca) (cb := cb) k0_t3_loop k0_t3_ok PUnit.unit _
    (fun n _ => iprop(∃ f : Buf (Elt F) (tLoc d ca cb), (tLoc d ca cb ↦{fullShare} f) ∗ ⌜unitOf f = fun u : Fin 32 => if u.val < n then sortU (descB bit u.val) (un u) else un u⌝)) fun t _ => ?_).trans
    (wp_mono _ _ _ fun _ => ?_))
  · rw [show (fun u : Fin 32 => if u.val < 0 then sortU (descB bit u.val) (un u) else un u) = un from funext fun u => if_neg (Nat.not_lt_zero _)]
  · refine (tw_unitStep bit t _).trans (wp_mono _ _ _ fun _ => ?_)
    rw [show (fun u : Fin 32 => if u = tU t then sortU (descB bit t.val) (if u.val < t.val then sortU (descB bit u.val) (un u) else un u) else if u.val < t.val then sortU (descB bit u.val) (un u) else un u)
      = (fun u : Fin 32 => if u.val < t.val + 1 then sortU (descB bit u.val) (un u) else un u) from funext fun u => ?_]
    by_cases hu : u = tU t
    · subst hu
      rw [if_pos rfl, if_neg (show ¬ (tU t).val < t.val from lt_irrefl _), if_pos (show (tU t).val < t.val + 1 from Nat.lt_succ_self _)]; rfl
    · have : u.val ≠ t.val := fun e => hu (Fin.ext e)
      rw [if_neg hu]
      by_cases h : u.val < t.val
      · rw [if_pos h, if_pos (by omega)]
      · rw [if_neg h, if_neg (by omega)]
  · rw [show (fun u : Fin 32 => if u.val < k0_t3_loop.trips then sortU (descB bit u.val) (un u) else un u) = (fun u => sortU (descB bit u.val) (un u)) from funext fun u => if_pos u.isLt]

/-- A pass of unit sorts. -/
theorem tw_sortPass (bit : BitVec 32) (un : Fin 32 → IVec S16 32) :
    (iprop(∃ f : Buf (Elt F) (tLoc d ca cb), tLoc d ca cb ↦{fullShare} f) : sProp (MM F)) ⊢ tw d ca cb (sortPass (F := F) bit tR un)
      fun r => iprop(⌜r = fun u => sortU (descB bit u.val) (un u)⌝ ∗ ∃ f : Buf (Elt F) (tLoc d ca cb), tLoc d ca cb ↦{fullShare} f) := by
  unfold sortPass
  refine tw_bind (R := fun _ => iprop(∃ f : Buf (Elt F) (tLoc d ca cb), (tLoc d ca cb ↦{fullShare} f) ∗ ⌜unitOf f = un⌝)) ?_ fun _ => ?_
  · refine BIBase.Entails.trans ?_ ((tw_forFin (d := d) (ca := ca) (cb := cb) 32 _
      (fun n => iprop(∃ f : Buf (Elt F) (tLoc d ca cb), (tLoc d ca cb ↦{fullShare} f) ∗ ⌜∀ u : Fin 32, u.val < n → unitOf f u = un u⌝)) fun u => ?_).trans (wp_mono _ _ _ fun _ => ?_))
    · iintro ⟨%f, H⟩
      iexists f
      isplitl [H]
      · iexact H
      · ipureintro; intro u hu; exact absurd hu (Nat.not_lt_zero _)
    · iintro ⟨%f, H, %hf⟩
      iapply (tw_mono (tw_stUnit (d := d) (ca := ca) (cb := cb) u (un u) f) fun _ => ?_) $$ H
      iintro H
      iexists _
      isplitl [H]
      · iexact H
      · ipureintro
        intro u' hu'
        rw [unitOf_setUnit]
        split
        · next h => rw [h]
        · next h =>
          have : u'.val ≠ u.val := fun e => h (Fin.ext e)
          exact hf u' (by omega)
    · iintro ⟨%f, H, %hf⟩
      iexists f
      isplitl [H]
      · iexact H
      · ipureintro; exact funext fun u => hf u u.isLt
  · refine tw_bind (tw_unitLoop bit un) fun _ => ?_
    iintro ⟨%f, H, %hf⟩
    iapply (tw_mono (tw_seqFin (d := d) (ca := ca) (cb := cb) (R := tLoc d ca cb ↦{fullShare} f) 32 _ (unitOf f) fun u => tw_ldUnit u f) fun r => ?_) $$ H
    iintro ⟨%hr, H⟩
    isplitr
    · ipureintro; rw [hr, hf]
    · iexists f; iexact H

end Cert.KernelIdeal.Tile

end
-- ==== Proof.Row.lean ====
/-
  What one trip of the pair loop leaves in the output buffer.
-/
module

public import proofs.«01_k».proof.Proof.Sort
public import Idealize.ShloMosaic.Lib.Pipeline.Value

@[expose] public section

noncomputable section

namespace Cert.KernelIdeal.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Facts₀ Facts

variable {F : FTy → Type} [FloatOps F] [Facts]
variable {d : Dev nD} {ca : Fin τ.nSC} {cb : Fin τ.nSub}

abbrev xR : Memref sig .scVector .vmem S2x32x512 .f32 := Memref.whole cc0_scratch0
abbrev oR : Memref sig .scVector .vmem S2x32x512 .f32 := Memref.whole cc0_scratch1
abbrev kR : Memref sig .scVector .vmem S2x32x256 .i32 := Memref.whole cc0_scratch2
abbrev xbL (d : Dev nD) (ca : Fin τ.nSC) (cb : Fin τ.nSub) : Loc nD τ sig := (V d ca cb).loc cc0_scratch0
abbrev obL (d : Dev nD) (ca : Fin τ.nSC) (cb : Fin τ.nSub) : Loc nD τ sig := (V d ca cb).loc cc0_scratch1
abbrev kbL (d : Dev nD) (ca : Fin τ.nSC) (cb : Fin τ.nSub) : Loc nD τ sig := (V d ca cb).loc cc0_scratch2

/-- Half `b` of a double buffer. -/
def hX (b : Fin 2) : Finset S2x32x512.Idx := Finset.univ.filter fun j => (j 0).val = b.val
def hK (b : Fin 2) : Finset S2x32x256.Idx := Finset.univ.filter fun j => (j 0).val = b.val

theorem mem_hX {b : Fin 2} {j : S2x32x512.Idx} : j ∈ hX b ↔ (j 0).val = b.val := by simp [hX]
theorem mem_hK {b : Fin 2} {j : S2x32x256.Idx} : j ∈ hK b ↔ (j 0).val = b.val := by simp [hK]

/-- The sorted units of two rows. -/
def net (un : Fin 32 → IVec S16 32) : Fin 32 → IVec S16 32 :=
  let p := fun (bit : BitVec 32) (un : Fin 32 → IVec S16 32) (u : Fin 32) => sortU (descB bit u.val) (un u)
  p 0#32 (stage 16 4 (p 8#32 (stage 8 3 (p 4#32 (stage 4 2 (p 2#32 (stage 2 1 (p 1#32 un))))))))

/-- The units of the rows `2 t` and `2 t + 1` of a chunk's keys. -/
def keysU (K : ℕ → ℕ → BitVec 32) (t : ℕ) : Fin 32 → IVec S16 32 := fun u l => K (2 * t + u.val / 16) (16 * (u.val % 16) + (l 0).val)

/-- A chunk's result, at a row and a column, of the chunk's rows and keys. -/
def outV (X : ℕ → ℕ → F .f32) (K : ℕ → ℕ → BitVec 32) (r c : ℕ) : F .f32 :=
  if c < 256 then X r c
  else X r ((net (keysU K (r / 2)) ⟨(16 * (r % 2) + (c - 256) / 16) % 32, Nat.mod_lt _ (by decide)⟩ (ln ⟨(c - 256) % 16, Nat.mod_lt _ (by decide)⟩) &&& 255#32).toNat + 256)

section
variable (b h : Fin 2) (t : Fin k0_t2_loop.trips)

theorem row_emb {w : ℕ} (n : ℕ) (hn : ∀ a, rowOff b h t n a + S1x1x16.size a ≤ (⟨3, ![2, 32, w]⟩ : Shape).size a) (x : S1x1x16.Idx) :
    ((Rect.unit (s := ⟨3, ![2, 32, w]⟩) (rowOff b h t n) S1x1x16.size hn).emb x 0).val = b.val
    ∧ ((Rect.unit (s := ⟨3, ![2, 32, w]⟩) (rowOff b h t n) S1x1x16.size hn).emb x 1).val = 2 * t.val + h.val
    ∧ ((Rect.unit (s := ⟨3, ![2, 32, w]⟩) (rowOff b h t n) S1x1x16.size hn).emb x 2).val = n + (x 2).val := by
  have h0 : (x 0).val < 1 := (x 0).isLt
  have h1 : (x 1).val < 1 := (x 1).isLt
  have e0 : rowOff b h t n 0 = b.val := by rw [rowOff_eq]; rfl
  have e1 : rowOff b h t n 1 = 2 * t.val + h.val := by rw [rowOff_eq]; rfl
  have e2 : rowOff b h t n 2 = n := by rw [rowOff_eq]; rfl
  refine ⟨?_, ?_, ?_⟩
  · show rowOff b h t n 0 + 1 * (x 0).val = _; omega
  · show rowOff b h t n 1 + 1 * (x 1).val = _; omega
  · show rowOff b h t n 2 + 1 * (x 2).val = _; omega

/-- A vector of a unit's shape, as the buffers hold it. -/
def x3 (l : S16.Idx) : S1x1x16.Idx := fun a => match a with
  | ⟨0, _⟩ => ⟨0, Nat.one_pos⟩
  | ⟨1, _⟩ => ⟨0, Nat.one_pos⟩
  | ⟨2, _⟩ => ⟨(l 0).val, (l 0).isLt⟩

theorem cast_in {α : Type} (v : S1x1x16.Idx → α) (l : S16.Idx) : shapeCast S16 v shapeCasts_S1x1x16_S16 l = v (x3 l) := by
  refine shapeCast_apply v _ l _ ?_
  rw [Shape.rowMajor_val_one, Shape.rowMajor_val_three]
  show (0 * 1 + 0) * 16 + (l 0).val = (l 0).val; omega

theorem cast_out {α : Type} (v : S16.Idx → α) (x : S1x1x16.Idx) : shapeCast S1x1x16 v shapeCasts_S16_S1x1x16 x = v (ln ⟨(x 2).val, (x 2).isLt⟩) := by
  refine shapeCast_apply v _ x _ ?_
  have h0 : (x 0).val < 1 := (x 0).isLt
  have h1 : (x 1).val < 1 := (x 1).isLt
  rw [Shape.rowMajor_val_one, Shape.rowMajor_val_three]
  show (x 2).val = ((x 0).val * 1 + (x 1).val) * 16 + (x 2).val; omega

variable (X : ℕ → ℕ → F .f32) (Kf : ℕ → ℕ → BitVec 32)

/-- The keys' half. -/
abbrev ownK (b : Fin 2) (Kf : ℕ → ℕ → BitVec 32) : sProp (MM F) :=
  iprop(∃ f : Buf (Elt F) (kbL d ca cb), (kbL d ca cb ↦[hK b]{fullShare} f) ∗ ⌜∀ j : S2x32x256.Idx, (j 0).val = b.val → f j = Kf (j 1).val (j 2).val⌝)
/-- The rows' half. -/
abbrev ownX (b : Fin 2) (X : ℕ → ℕ → F .f32) : sProp (MM F) :=
  iprop(∃ f : Buf (Elt F) (xbL d ca cb), (xbL d ca cb ↦[hX b]{fullShare} f) ∗ ⌜∀ j : S2x32x512.Idx, (j 0).val = b.val → f j = X (j 1).val (j 2).val⌝)
/-- The results' half, its first `m` entries written. -/
abbrev ownO (b : Fin 2) (O : ℕ → ℕ → F .f32) (m : ℕ) : sProp (MM F) :=
  iprop(∃ f : Buf (Elt F) (obL d ca cb), (obL d ca cb ↦[hX b]{fullShare} f) ∗ ⌜∀ j : S2x32x512.Idx, (j 0).val = b.val → 512 * (j 1).val + (j 2).val < m → f j = O (j 1).val (j 2).val⌝)

theorem tw_ldKey (u : Fin 32) :
    (ownK (d := d) (ca := ca) (cb := cb) b Kf : sProp (MM F)) ⊢ tw d ca cb (ldKey (F := F) b t kR u)
      fun v => iprop(⌜v = keysU Kf t.val u⌝ ∗ ownK (d := d) (ca := ca) (cb := cb) b Kf) := by
  iintro ⟨%f, H, %hf⟩
  unfold ldKey
  have hsub : (kR.access (Rect.unit (s := S2x32x256) (rowOff b (uRow u) t (16 * uCol u)) S1x1x16.size (inb_key b t u))).set ⊆ hK b := by
    intro j hj
    obtain ⟨x, -, rfl⟩ := Finset.mem_map.mp hj
    exact mem_hK.2 (row_emb b (uRow u) t (w := 256) _ (inb_key b t u) x).1
  iapply (tw_bind (tw_load (d := d) (ca := ca) (cb := cb) kR (Rect.unit (s := S2x32x256) (rowOff b (uRow u) t (16 * uCol u)) S1x1x16.size (inb_key b t u)) _ (S := hK b) (q := fullShare) (f := f) hsub) fun v => ?_) $$ H
  iintro ⟨%hv, H⟩
  iapply (tw_pure (d := d) (ca := ca) (cb := cb) (P := kbL d ca cb ↦[hK b]{fullShare} f) (by
    iintro H
    isplitr
    · ipureintro
      funext l
      rw [cast_in, hv]
      obtain ⟨e0, e1, e2⟩ := row_emb b (uRow u) t (w := 256) _ (inb_key b t u) (x3 l)
      refine (hf _ e0).trans ?_
      show Kf _ _ = _
      rw [e1, e2]; rfl
    · iexists f
      isplitl [H]
      · iexact H
      · ipureintro; exact hf)) $$ H

variable (O : ℕ → ℕ → F .f32)

theorem tw_stOut (n : ℕ) (hn : ∀ a, rowOff b h t n a + S1x1x16.size a ≤ S2x32x512.size a) (hn' : n + 16 ≤ 512) (v : Vec F S16 .f32)
    (hv : ∀ l : S16.Idx, v l = O (2 * t.val + h.val) (n + (l 0).val)) :
    (ownO (d := d) (ca := ca) (cb := cb) b O (512 * (2 * t.val + h.val) + n) : sProp (MM F)) ⊢ tw d ca cb (stOut (F := F) oR (rowOff b h t n) hn v)
      fun _ => ownO (d := d) (ca := ca) (cb := cb) b O (512 * (2 * t.val + h.val) + n + 16) := by
  iintro ⟨%f, H, %hf⟩
  unfold stOut
  have hsub : (oR.access (Rect.unit (s := S2x32x512) (rowOff b h t n) S1x1x16.size hn)).set ⊆ hX b := by
    intro j hj
    obtain ⟨x, -, rfl⟩ := Finset.mem_map.mp hj
    exact mem_hX.2 (row_emb b h t (w := 512) n hn x).1
  iapply (tw_bind (tw_load (d := d) (ca := ca) (cb := cb) oR (Rect.unit (s := S2x32x512) (rowOff b h t n) S1x1x16.size hn) _ (S := hX b) (q := fullShare) (f := f) hsub) fun _ => ?_) $$ H
  iintro ⟨-, H⟩
  iapply (tw_mono (tw_store (d := d) (ca := ca) (cb := cb) oR (Rect.unit (s := S2x32x512) (rowOff b h t n) S1x1x16.size hn) (shapeCast S1x1x16 v shapeCasts_S16_S1x1x16) _ _ (S := hX b) (f := f) hsub) fun _ => ?_) $$ H
  iintro H
  iexists _
  isplitl [H]
  · iexact H
  · ipureintro
    intro j h0 hm
    by_cases hj : j ∈ (oR.access (Rect.unit (s := S2x32x512) (rowOff b h t n) S1x1x16.size hn)).set
    · obtain ⟨x, -, rfl⟩ := Finset.mem_map.mp hj
      obtain ⟨e0, e1, e2⟩ := row_emb b h t (w := 512) n hn x
      refine (View.write_emb_of_mem (v := oR.access (Rect.unit (s := S2x32x512) (rowOff b h t n) S1x1x16.size hn)) (Val := Elt F) f _ (Finset.mem_univ x)).trans ?_
      refine Eq.trans (b := v (ln ⟨(x 2).val, (x 2).isLt⟩)) (cast_out v x) ?_
      rw [hv]
      show O _ (n + (x 2).val) = O _ _
      rw [← e2, ← e1]; rfl
    · refine (View.write_of_not_mem (v := oR.access (Rect.unit (s := S2x32x512) (rowOff b h t n) S1x1x16.size hn)) (Val := Elt F) f _ Finset.univ hj).trans (hf j h0 ?_)
      by_contra hlt
      have h1 : (j 1).val < 32 := (j 1).isLt
      have h2 : (j 2).val < 512 := (j 2).isLt
      have hr : 2 * t.val + h.val = (j 1).val := by omega
      refine hj (Finset.mem_map.mpr ⟨x3 (ln ⟨(j 2).val - n, by show _ < 16; omega⟩), Finset.mem_univ _, ?_⟩)
      obtain ⟨e0, e1, e2⟩ := row_emb b h t (w := 512) n hn (x3 (ln ⟨(j 2).val - n, by show _ < 16; omega⟩))
      have e2' : ((x3 (ln ⟨(j 2).val - n, by show _ < 16; omega⟩)) 2).val = (j 2).val - n := rfl
      funext a
      apply Fin.ext
      match a with
      | ⟨0, _⟩ => exact e0.trans h0.symm
      | ⟨1, _⟩ => exact e1.trans hr
      | ⟨2, _⟩ => exact (e2.trans (by rw [e2']; omega : _ = (j 2).val))

theorem tw_copyUnit (i : Fin 16) (hO : ∀ c, c < 256 → O (2 * t.val + h.val) c = X (2 * t.val + h.val) c) :
    (iprop(ownX (d := d) (ca := ca) (cb := cb) b X ∗ ownO (d := d) (ca := ca) (cb := cb) b O (512 * (2 * t.val + h.val) + 16 * i.val)) : sProp (MM F)) ⊢ tw d ca cb (copyUnit (F := F) b h t xR oR i)
      fun _ => iprop(ownX (d := d) (ca := ca) (cb := cb) b X ∗ ownO (d := d) (ca := ca) (cb := cb) b O (512 * (2 * t.val + h.val) + 16 * (i.val + 1))) := by
  have hi := i.isLt
  iintro ⟨⟨%f, H, %hf⟩, HO⟩
  unfold copyUnit
  have hsub : (xR.access (Rect.unit (s := S2x32x512) (rowOff b h t (16 * i.val)) S1x1x16.size (inb_lo b h t i))).set ⊆ hX b := by
    intro j hj
    obtain ⟨x, -, rfl⟩ := Finset.mem_map.mp hj
    exact mem_hX.2 (row_emb b h t (w := 512) _ (inb_lo b h t i) x).1
  icombine H HO as H
  iapply (tw_bind (tw_frame (tw_load (d := d) (ca := ca) (cb := cb) xR (Rect.unit (s := S2x32x512) (rowOff b h t (16 * i.val)) S1x1x16.size (inb_lo b h t i)) _ (S := hX b) (q := fullShare) (f := f) hsub)) fun v => ?_) $$ H
  iintro ⟨⟨%hv, H⟩, HO⟩
  have hval : ∀ l : S16.Idx, (shapeCast S16 v shapeCasts_S1x1x16_S16 : Vec F S16 .f32) l = O (2 * t.val + h.val) (16 * i.val + (l 0).val) := by
    intro l
    have hl : (l 0).val < 16 := (l 0).isLt
    rw [cast_in, hv, hO _ (by omega)]
    obtain ⟨e0, e1, e2⟩ := row_emb b h t (w := 512) _ (inb_lo b h t i) (x3 l)
    refine (hf _ e0).trans ?_
    show X _ _ = _
    rw [e1, e2]; rfl
  icombine HO H as H
  iapply (tw_mono (tw_frame (tw_stOut (d := d) (ca := ca) (cb := cb) b h t O (16 * i.val) (inb_lo b h t i) (by omega) _ hval)) fun _ => ?_) $$ H
  iintro ⟨HO, H⟩
  isplitl [H]
  · iexists f
    isplitl [H]
    · iexact H
    · ipureintro; exact hf
  · iexact HO

end

end Cert.KernelIdeal.Tile

end
-- ==== Proof.Pair.lean ====
/-
  One trip of the pair loop.
-/
module

public import proofs.«01_k».proof.Proof.Row

@[expose] public section

noncomputable section

namespace Cert.KernelIdeal.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Facts₀ Facts

variable {F : FTy → Type} [FloatOps F] [Facts]
variable {d : Dev nD} {ca : Fin τ.nSC} {cb : Fin τ.nSub}

section
variable (b h : Fin 2) (t : Fin k0_t2_loop.trips)

theorem reshape_half {w : ℕ} (hn : (⟨2, ![32, w]⟩ : Shape).numel = (⟨3, ![1, 32, w]⟩ : Shape).numel) (x : (⟨2, ![32, w]⟩ : Shape).Idx) :
    (Shape.reshapeEquiv hn x 0).val = 0 ∧ (Shape.reshapeEquiv hn x 1).val = (x 0).val ∧ (Shape.reshapeEquiv hn x 2).val = (x 1).val := by
  set y : (⟨3, ![1, 32, w]⟩ : Shape).Idx := fun a => match a with
    | ⟨0, _⟩ => ⟨0, Nat.one_pos⟩
    | ⟨1, _⟩ => ⟨(x 0).val, (x 0).isLt⟩
    | ⟨2, _⟩ => ⟨(x 1).val, (x 1).isLt⟩ with hy
  have e : Shape.reshapeEquiv hn x = y := by
    refine Shape.reshapeEquiv_eq_of_rowMajor hn ?_
    rw [Shape.rowMajor_val_two, Shape.rowMajor_val_three]
    show (0 * 32 + (x 0).val) * w + (x 1).val = (x 0).val * w + (x 1).val
    rw [Nat.zero_mul, Nat.zero_add]
  rw [e]
  exact ⟨rfl, rfl, rfl⟩

theorem xHalf_emb (x : S32x512.Idx) :
    ((halfX b xR).view.emb x 0).val = b.val ∧ ((halfX b xR).view.emb x 1).val = (x 0).val ∧ ((halfX b xR).view.emb x 2).val = (x 1).val := by
  obtain ⟨e0, e1, e2⟩ := reshape_half (w := 512) squeezes_S1x32x512_S32x512.numel_eq x
  refine ⟨?_, ?_, ?_⟩
  · show b.val + 1 * (Shape.reshapeEquiv _ x 0).val = _; rw [e0]; rfl
  · show 0 + 1 * (Shape.reshapeEquiv _ x 1).val = _; rw [e1]; omega
  · show 0 + 1 * (Shape.reshapeEquiv _ x 2).val = _; rw [e2]; omega

theorem oHalf_emb (x : S32x512.Idx) :
    ((halfX b oR).view.emb x 0).val = b.val ∧ ((halfX b oR).view.emb x 1).val = (x 0).val ∧ ((halfX b oR).view.emb x 2).val = (x 1).val := by
  obtain ⟨e0, e1, e2⟩ := reshape_half (w := 512) squeezes_S1x32x512_S32x512.numel_eq x
  refine ⟨?_, ?_, ?_⟩
  · show b.val + 1 * (Shape.reshapeEquiv _ x 0).val = _; rw [e0]; rfl
  · show 0 + 1 * (Shape.reshapeEquiv _ x 1).val = _; rw [e1]; omega
  · show 0 + 1 * (Shape.reshapeEquiv _ x 2).val = _; rw [e2]; omega

theorem kHalf_emb (x : S32x256.Idx) :
    ((halfK b kR).view.emb x 0).val = b.val ∧ ((halfK b kR).view.emb x 1).val = (x 0).val ∧ ((halfK b kR).view.emb x 2).val = (x 1).val := by
  obtain ⟨e0, e1, e2⟩ := reshape_half (w := 256) squeezes_S1x32x256_S32x256.numel_eq x
  refine ⟨?_, ?_, ?_⟩
  · show b.val + 1 * (Shape.reshapeEquiv _ x 0).val = _; rw [e0]; rfl
  · show 0 + 1 * (Shape.reshapeEquiv _ x 1).val = _; rw [e1]; omega
  · show 0 + 1 * (Shape.reshapeEquiv _ x 2).val = _; rw [e2]; omega

/-- A place in a half. -/
def i2 (r c : ℕ) : S32x512.Idx := fun a => match a with
  | ⟨0, _⟩ => ⟨r % 32, Nat.mod_lt _ (by decide)⟩
  | ⟨1, _⟩ => ⟨c % 512, Nat.mod_lt _ (by decide)⟩
def i2k (r c : ℕ) : S32x256.Idx := fun a => match a with
  | ⟨0, _⟩ => ⟨r % 32, Nat.mod_lt _ (by decide)⟩
  | ⟨1, _⟩ => ⟨c % 256, Nat.mod_lt _ (by decide)⟩

theorem xHalf_set : (halfX b xR).view.set = hX b := by
  ext j
  rw [mem_hX]
  constructor
  · intro hj
    obtain ⟨x, -, rfl⟩ := Finset.mem_map.mp hj
    exact (xHalf_emb b x).1
  · intro hj
    obtain ⟨e0, e1, e2⟩ := xHalf_emb b (i2 (j 1).val (j 2).val)
    have h1 : (j 1).val < 32 := (j 1).isLt
    have h2 : (j 2).val < 512 := (j 2).isLt
    refine Finset.mem_map.mpr ⟨i2 (j 1).val (j 2).val, Finset.mem_univ _, funext fun a => Fin.ext ?_⟩
    match a with
    | ⟨0, _⟩ => exact e0.trans hj.symm
    | ⟨1, _⟩ => exact e1.trans (Nat.mod_eq_of_lt h1)
    | ⟨2, _⟩ => exact e2.trans (Nat.mod_eq_of_lt h2)

theorem oHalf_set : (halfX b oR).view.set = hX b := by
  ext j
  rw [mem_hX]
  constructor
  · intro hj
    obtain ⟨x, -, rfl⟩ := Finset.mem_map.mp hj
    exact (oHalf_emb b x).1
  · intro hj
    obtain ⟨e0, e1, e2⟩ := oHalf_emb b (i2 (j 1).val (j 2).val)
    have h1 : (j 1).val < 32 := (j 1).isLt
    have h2 : (j 2).val < 512 := (j 2).isLt
    refine Finset.mem_map.mpr ⟨i2 (j 1).val (j 2).val, Finset.mem_univ _, funext fun a => Fin.ext ?_⟩
    match a with
    | ⟨0, _⟩ => exact e0.trans hj.symm
    | ⟨1, _⟩ => exact e1.trans (Nat.mod_eq_of_lt h1)
    | ⟨2, _⟩ => exact e2.trans (Nat.mod_eq_of_lt h2)

theorem kHalf_set : (halfK b kR).view.set = hK b := by
  ext j
  rw [mem_hK]
  constructor
  · intro hj
    obtain ⟨x, -, rfl⟩ := Finset.mem_map.mp hj
    exact (kHalf_emb b x).1
  · intro hj
    obtain ⟨e0, e1, e2⟩ := kHalf_emb b (i2k (j 1).val (j 2).val)
    have h1 : (j 1).val < 32 := (j 1).isLt
    have h2 : (j 2).val < 256 := (j 2).isLt
    refine Finset.mem_map.mpr ⟨i2k (j 1).val (j 2).val, Finset.mem_univ _, funext fun a => Fin.ext ?_⟩
    match a with
    | ⟨0, _⟩ => exact e0.trans hj.symm
    | ⟨1, _⟩ => exact e1.trans (Nat.mod_eq_of_lt h1)
    | ⟨2, _⟩ => exact e2.trans (Nat.mod_eq_of_lt h2)

variable (X : ℕ → ℕ → F .f32) (Kf : ℕ → ℕ → BitVec 32) (O : ℕ → ℕ → F .f32)

theorem tw_gatherUnit (i : Fin 16) (un : IVec S16 32)
    (hO : ∀ l : S16.Idx, O (2 * t.val + h.val) (256 + 16 * i.val + (l 0).val) = X (2 * t.val + h.val) ((un l &&& 255#32).toNat + 256)) :
    (iprop(ownX (d := d) (ca := ca) (cb := cb) b X ∗ ownO (d := d) (ca := ca) (cb := cb) b O (512 * (2 * t.val + h.val) + (256 + 16 * i.val))) : sProp (MM F)) ⊢ tw d ca cb (gatherUnit (F := F) b h t xR oR i un)
      fun _ => iprop(ownX (d := d) (ca := ca) (cb := cb) b X ∗ ownO (d := d) (ca := ca) (cb := cb) b O (512 * (2 * t.val + h.val) + (256 + 16 * (i.val + 1)))) := by
  have hi := i.isLt
  have ht := t2_lt t
  have hh := h.isLt
  iintro ⟨⟨%f, H, %hf⟩, HO⟩
  unfold gatherUnit
  have hrv : ∀ x, ((addi (broadcast S16 0#32) (broadcast S16 (rowW h t)) : IVec S16 32) x).toNat = 2 * t.val + h.val := by
    intro x
    show (0#32 + rowW h t).toNat = _
    rw [BitVec.zero_add, rowW_toNat]
  have hix : ∀ x, ((addi (andi un (broadcast S16 255#32)) (broadcast S16 256#32) : IVec S16 32) x).toNat = (un x &&& 255#32).toNat + 256 := by
    intro x
    show ((un x &&& 255#32) + 256#32).toNat = _
    have : (un x &&& 255#32).toNat ≤ 255 := by
      rw [BitVec.toNat_and]; exact Nat.and_le_right
    rw [BitVec.toNat_add]
    show ((un x &&& 255#32).toNat + 256) % 2 ^ 32 = _
    omega
  have hlt : ∀ x, (un x &&& 255#32).toNat + 256 < 512 := by
    intro x
    have : (un x &&& 255#32).toNat ≤ 255 := by
      rw [BitVec.toNat_and]; exact Nat.and_le_right
    omega
  have hchk : k0_chk11 (addi (broadcast S16 0#32) (broadcast S16 (rowW h t))) (addi (andi un (broadcast S16 255#32)) (broadcast S16 256#32)) := by
    intro a x
    match a with
    | ⟨0, _⟩ => exact lt_of_eq_of_lt (hrv x) (show 2 * t.val + h.val < 32 by omega)
    | ⟨1, _⟩ => exact lt_of_eq_of_lt (hix x) (hlt x)
  have hsub : ((halfX b xR).access (.whole S32x512)).set ⊆ hX b := by
    intro j hj
    obtain ⟨x, -, rfl⟩ := Finset.mem_map.mp hj
    exact mem_hX.2 (xHalf_emb b ((Rect.whole S32x512).emb x)).1
  icombine H HO as H
  iapply (tw_bind (d := d) (ca := ca) (cb := cb) (P := iprop((xbL d ca cb ↦[hX b]{fullShare} f) ∗ ownO (d := d) (ca := ca) (cb := cb) b O (512 * (2 * t.val + h.val) + (256 + 16 * i.val))))
    (R := fun _ => iprop((xbL d ca cb ↦[hX b]{fullShare} f) ∗ ownO (d := d) (ca := ca) (cb := cb) b O (512 * (2 * t.val + h.val) + (256 + 16 * i.val)))) (tw_assume _ hchk .rfl) fun hw => ?_) $$ H
  refine tw_bind (tw_frame (tw_loadIdx (d := d) (ca := ca) (cb := cb) (halfX b xR) _ _ _ (S := hX b) (q := fullShare) (f := f) hsub)) fun v => ?_
  iintro ⟨⟨%hv, H⟩, HO⟩
  have hval : ∀ l : S16.Idx, v l = O (2 * t.val + h.val) (256 + 16 * i.val + (l 0).val) := by
    intro l
    rw [hO, hv]
    obtain ⟨e0, e1, e2⟩ := xHalf_emb b (idxAt ![addi (broadcast S16 0#32) (broadcast S16 (rowW h t)), addi (andi un (broadcast S16 255#32)) (broadcast S16 256#32)] (k0_idx11_inb _ _ hw.down) l)
    have e1' := e1.trans (hrv l)
    have e2' := e2.trans (hix l)
    rw [← e1', ← e2']
    refine Eq.trans (b := f ((halfX b xR).view.emb (idxAt ![addi (broadcast S16 0#32) (broadcast S16 (rowW h t)), addi (andi un (broadcast S16 255#32)) (broadcast S16 256#32)] (k0_idx11_inb _ _ hw.down) l))) ?_ (hf _ e0)
    refine congrArg (fun y => f ((halfX b xR).view.emb y)) ?_
    exact Rect.emb_whole_apply _ _
  icombine HO H as H
  iapply (tw_mono (tw_frame (tw_stOut (d := d) (ca := ca) (cb := cb) b h t O (256 + 16 * i.val) (inb_hi b h t i) (by omega) v hval)) fun _ => ?_) $$ H
  iintro ⟨HO, H⟩
  isplitl [H]
  · iexists f
    isplitl [H]
    · iexact H
    · ipureintro; exact hf
  · rw [show 512 * (2 * t.val + h.val) + (256 + 16 * (i.val + 1)) = 512 * (2 * t.val + h.val) + (256 + 16 * i.val) + 16 by omega]
    iexact HO

theorem tw_outRow (un : Fin 16 → IVec S16 32) (hO1 : ∀ c, c < 256 → O (2 * t.val + h.val) c = X (2 * t.val + h.val) c)
    (hO2 : ∀ (i : Fin 16) (l : S16.Idx), O (2 * t.val + h.val) (256 + 16 * i.val + (l 0).val) = X (2 * t.val + h.val) ((un i l &&& 255#32).toNat + 256)) :
    (iprop(ownX (d := d) (ca := ca) (cb := cb) b X ∗ ownO (d := d) (ca := ca) (cb := cb) b O (512 * (2 * t.val + h.val))) : sProp (MM F)) ⊢ tw d ca cb (outRow (F := F) b h t xR oR un)
      fun _ => iprop(ownX (d := d) (ca := ca) (cb := cb) b X ∗ ownO (d := d) (ca := ca) (cb := cb) b O (512 * (2 * t.val + h.val + 1))) := by
  unfold outRow
  refine tw_bind (tw_forFin (d := d) (ca := ca) (cb := cb) 16 _ (fun n => iprop(ownX (d := d) (ca := ca) (cb := cb) b X ∗ ownO (d := d) (ca := ca) (cb := cb) b O (512 * (2 * t.val + h.val) + 16 * n)))
    fun i => tw_copyUnit b h t X O i hO1) fun _ => ?_
  refine (tw_forFin (d := d) (ca := ca) (cb := cb) 16 _ (fun n => iprop(ownX (d := d) (ca := ca) (cb := cb) b X ∗ ownO (d := d) (ca := ca) (cb := cb) b O (512 * (2 * t.val + h.val) + (256 + 16 * n))))
    fun i => tw_gatherUnit b h t X O i (un i) (hO2 i))

theorem tw_pass (bit : BitVec 32) (un : Fin 32 → IVec S16 32) (k : (Fin 32 → IVec S16 32) → Prog (Eff F ca cb) PUnit) (R : sProp (MM F)) (Q : PUnit → sProp (MM F))
    (hk : iprop((∃ f, tLoc d ca cb ↦{fullShare} f) ∗ R) ⊢ tw d ca cb (k fun u => sortU (descB bit u.val) (un u)) Q) :
    iprop((∃ f, tLoc d ca cb ↦{fullShare} f) ∗ R) ⊢ tw d ca cb (sortPass (F := F) bit tR un >>= k) Q := by
  refine tw_bind (tw_frame (tw_sortPass bit un)) fun r => ?_
  iintro ⟨⟨%hr, HT⟩, HR⟩
  subst hr
  icombine HT HR as H
  iapply hk $$ H

theorem tw_keys (k : (Fin 32 → IVec S16 32) → Prog (Eff F ca cb) PUnit) (R : sProp (MM F)) (Q : PUnit → sProp (MM F))
    (hk : iprop((∃ f, tLoc d ca cb ↦{fullShare} f) ∗ (ownK (d := d) (ca := ca) (cb := cb) b Kf ∗ R)) ⊢ tw d ca cb (k (keysU Kf t.val)) Q) :
    iprop((ownK (d := d) (ca := ca) (cb := cb) b Kf ∗ ∃ f, tLoc d ca cb ↦{fullShare} f) ∗ R) ⊢ tw d ca cb ((seqFin 32 fun u => ldKey (F := F) b t kR u) >>= k) Q := by
  refine tw_bind (tw_frame (R := R)
    (tw_frame (R := iprop(∃ f, tLoc d ca cb ↦{fullShare} f)) (tw_seqFin (d := d) (ca := ca) (cb := cb) 32 (fun u => ldKey (F := F) b t kR u) (keysU Kf t.val) fun u => tw_ldKey b t Kf u))) fun un => ?_
  iintro ⟨⟨⟨%hun, HK⟩, HT⟩, HR⟩
  subst hun
  icombine HK HR as HR
  icombine HT HR as H
  iapply hk $$ H

/-- One trip of the pair loop writes two rows. -/
theorem tw_pairBody :
    (iprop((ownK (d := d) (ca := ca) (cb := cb) b Kf ∗ ∃ f, tLoc d ca cb ↦{fullShare} f) ∗ (ownX (d := d) (ca := ca) (cb := cb) b X ∗ ownO (d := d) (ca := ca) (cb := cb) b (outV X Kf) (1024 * t.val))) : sProp (MM F))
      ⊢ tw d ca cb (pairBody (F := F) b xR oR kR tR t)
      fun _ => iprop((ownK (d := d) (ca := ca) (cb := cb) b Kf ∗ ∃ f, tLoc d ca cb ↦{fullShare} f) ∗ (ownX (d := d) (ca := ca) (cb := cb) b X ∗ ownO (d := d) (ca := ca) (cb := cb) b (outV X Kf) (1024 * (t.val + 1)))) := by
  have ht := t2_lt t
  have h1 : ∀ h : Fin 2, ∀ c, c < 256 → outV X Kf (2 * t.val + h.val) c = X (2 * t.val + h.val) c := fun h c hc => if_pos hc
  have h2 : ∀ (h : Fin 2) (i : Fin 16) (l : S16.Idx) (u : Fin 32) (_ : u.val = 16 * h.val + i.val), outV X Kf (2 * t.val + h.val) (256 + 16 * i.val + (l 0).val)
      = X (2 * t.val + h.val) ((net (keysU Kf t.val) u l &&& 255#32).toNat + 256) := by
    intro h i l u hu
    have hh := h.isLt
    have hi := i.isLt
    have hl : (l 0).val < 16 := (l 0).isLt
    unfold outV
    rw [if_neg (by omega)]
    have a1 : (2 * t.val + h.val) / 2 = t.val := by omega
    have a2 : (2 * t.val + h.val) % 2 = h.val := by omega
    have a3 : (256 + 16 * i.val + (l 0).val - 256) / 16 = i.val := by omega
    have a4 : (256 + 16 * i.val + (l 0).val - 256) % 16 = (l 0).val := by omega
    have a5 : (16 * h.val + i.val) % 32 = 16 * h.val + i.val := by omega
    have e1 : (⟨(16 * ((2 * t.val + h.val) % 2) + (256 + 16 * i.val + (l 0).val - 256) / 16) % 32, Nat.mod_lt _ (by decide)⟩ : Fin 32) = u :=
      Fin.ext (by show _ % 32 = _; rw [a2, a3, a5, hu])
    have e2 : ln ⟨(256 + 16 * i.val + (l 0).val - 256) % 16, Nat.mod_lt _ (by decide)⟩ = l := by
      rw [← ln_lo l]; exact congrArg ln (Fin.ext a4)
    rw [e1, e2, a1]
  have rows : ∀ un : Fin 32 → IVec S16 32, un = net (keysU Kf t.val) →
      (iprop((∃ f, tLoc d ca cb ↦{fullShare} f) ∗ (ownK (d := d) (ca := ca) (cb := cb) b Kf ∗ (ownX (d := d) (ca := ca) (cb := cb) b X ∗ ownO (d := d) (ca := ca) (cb := cb) b (outV X Kf) (1024 * t.val)))) : sProp (MM F))
      ⊢ tw d ca cb (outRow (F := F) b 0 t xR oR (fun i => un ⟨i.val, by omega⟩) >>= fun _ => outRow (F := F) b 1 t xR oR (fun i => un ⟨16 + i.val, by omega⟩))
      fun _ => iprop((ownK (d := d) (ca := ca) (cb := cb) b Kf ∗ ∃ f, tLoc d ca cb ↦{fullShare} f) ∗ (ownX (d := d) (ca := ca) (cb := cb) b X ∗ ownO (d := d) (ca := ca) (cb := cb) b (outV X Kf) (1024 * (t.val + 1)))) := by
    intro un hun
    subst hun
    iintro ⟨HT, HK, HR⟩
    icombine HK HT as HF
    icombine HR HF as H
    have e0 : 1024 * t.val = 512 * (2 * t.val + (0 : Fin 2).val) := by show _ = 512 * (2 * t.val + 0); omega
    have e1 : 512 * (2 * t.val + (0 : Fin 2).val + 1) = 512 * (2 * t.val + (1 : Fin 2).val) := rfl
    have e2 : 512 * (2 * t.val + (1 : Fin 2).val + 1) = 1024 * (t.val + 1) := by show 512 * (2 * t.val + 1 + 1) = _; omega
    rw [e0]
    iapply (tw_bind (tw_frame (tw_outRow b 0 t X (outV X Kf) (fun i => net (keysU Kf t.val) ⟨i.val, by omega⟩) (h1 0) fun i l => ?_)) fun _ => ?_) $$ H
    · exact h2 0 i l ⟨i.val, by have := i.isLt; omega⟩ (by show i.val = 16 * 0 + i.val; omega)
    rw [e1]
    refine (tw_frame (tw_outRow b 1 t X (outV X Kf) (fun i => net (keysU Kf t.val) ⟨16 + i.val, by omega⟩) (h1 1) fun i l => ?_)).trans (wp_mono _ _ _ fun _ => ?_)
    · exact h2 1 i l ⟨16 + i.val, by have := i.isLt; omega⟩ (by show 16 + i.val = 16 * 1 + i.val; omega)
    rw [e2]
    iintro ⟨HR, HF⟩
    isplitl [HF]
    · iexact HF
    · iexact HR
  unfold pairBody
  refine tw_keys b t Kf _ _ _ ?_
  generalize hP : (fun _ : PUnit => (iprop((ownK (d := d) (ca := ca) (cb := cb) b Kf ∗ ∃ f, tLoc d ca cb ↦{fullShare} f) ∗ (ownX (d := d) (ca := ca) (cb := cb) b X ∗ ownO (d := d) (ca := ca) (cb := cb) b (outV X Kf) (1024 * (t.val + 1)))) : sProp (MM F))) = Q at rows ⊢
  generalize hR : (iprop(ownK (d := d) (ca := ca) (cb := cb) b Kf ∗ (ownX (d := d) (ca := ca) (cb := cb) b X ∗ ownO (d := d) (ca := ca) (cb := cb) b (outV X Kf) (1024 * t.val))) : sProp (MM F)) = R at rows ⊢
  generalize hk : (keysU Kf t.val) = un at rows ⊢
  have fin := rows _ rfl
  unfold net at fin
  exact (tw_pass 1#32 un _ R Q (tw_pass 2#32 _ _ R Q (tw_pass 4#32 _ _ R Q (tw_pass 8#32 _ _ R Q (tw_pass 0#32 _ _ R Q fin)))))

end

end Cert.KernelIdeal.Tile

end
-- ==== Proof.Dma.lean ====
/-
  The transfers of a tile: what is in flight, and the triples of the starts and the waits.
-/
module

public import proofs.«01_k».proof.Proof.Pair

@[expose] public section

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] [Facts]
variable {d : Dev nD} {ca : Fin τ.nSC} {cb : Fin τ.nSub}

abbrev xM : Memref sig .scVector .hbm S131072x512 .f32 := Memref.whole main_arg0_scv
abbrev kM : Memref sig .scVector .hbm S131072x256 .i32 := Memref.whole main_arg1_scv
abbrev oM : Memref sig .scVector .hbm S131072x512 .f32 := Memref.whole main_v0_scv
abbrev xL (d : Dev nD) : Loc nD τ sig := (SparseCore.T d).loc main_arg0
abbrev kL (d : Dev nD) : Loc nD τ sig := (SparseCore.T d).loc main_arg1
abbrev oL (d : Dev nD) : Loc nD τ sig := (SparseCore.T d).loc main_v0

/-- Rows `a` to `b` of an array. -/
def rX (a b : ℕ) : Finset S131072x512.Idx := Finset.univ.filter fun j => a ≤ (j 0).val ∧ (j 0).val < b
def rK (a b : ℕ) : Finset S131072x256.Idx := Finset.univ.filter fun j => a ≤ (j 0).val ∧ (j 0).val < b

theorem mem_rX {a b : ℕ} {j : S131072x512.Idx} : j ∈ rX a b ↔ a ≤ (j 0).val ∧ (j 0).val < b := by simp [rX]
theorem mem_rK {a b : ℕ} {j : S131072x256.Idx} : j ∈ rK a b ↔ a ≤ (j 0).val ∧ (j 0).val < b := by simp [rK]

theorem rX_sdiff {a m b : ℕ} (h1 : a ≤ m) (h2 : m ≤ b) : rX a b \ rX a m = rX m b := by
  ext j; rw [Finset.mem_sdiff, mem_rX, mem_rX, mem_rX]; omega
theorem rK_sdiff {a m b : ℕ} (h1 : a ≤ m) (h2 : m ≤ b) : rK a b \ rK a m = rK m b := by
  ext j; rw [Finset.mem_sdiff, mem_rK, mem_rK, mem_rK]; omega
theorem rX_sub {a m b : ℕ} (h2 : m ≤ b) : rX a m ⊆ rX a b := fun j hj => by rw [mem_rX] at hj ⊢; omega
theorem rK_sub {a m b : ℕ} (h2 : m ≤ b) : rK a m ⊆ rK a b := fun j hj => by rw [mem_rK] at hj ⊢; omega

theorem split_x (f : Buf (Elt F) (xL d)) {a m b : ℕ} (h1 : a ≤ m) (h2 : m ≤ b) :
    (xL d ↦[rX a b]{fullShare} f : sProp (MM F)) ⊣⊢ iprop((xL d ↦[rX a m]{fullShare} f) ∗ xL d ↦[rX m b]{fullShare} f) := by
  have h := pointsTo_split_subset (Name := ℕ) (U := UU) (Ix := HIx 1) (Lvl := ℕ) (ℓ := xL d) (q := fullShare) (f := f) (rX_sub (a := a) h2)
  rw [rX_sdiff h1 h2] at h; exact h
theorem split_o (f : Buf (Elt F) (oL d)) {a m b : ℕ} (h1 : a ≤ m) (h2 : m ≤ b) :
    (oL d ↦[rX a b]{fullShare} f : sProp (MM F)) ⊣⊢ iprop((oL d ↦[rX a m]{fullShare} f) ∗ oL d ↦[rX m b]{fullShare} f) := by
  have h := pointsTo_split_subset (Name := ℕ) (U := UU) (Ix := HIx 1) (Lvl := ℕ) (ℓ := oL d) (q := fullShare) (f := f) (rX_sub (a := a) h2)
  rw [rX_sdiff h1 h2] at h; exact h
theorem split_k (f : Buf (Elt F) (kL d)) {a m b : ℕ} (h1 : a ≤ m) (h2 : m ≤ b) :
    (kL d ↦[rK a b]{fullShare} f : sProp (MM F)) ⊣⊢ iprop((kL d ↦[rK a m]{fullShare} f) ∗ kL d ↦[rK m b]{fullShare} f) := by
  have h := pointsTo_split_subset (Name := ℕ) (U := UU) (Ix := HIx 1) (Lvl := ℕ) (ℓ := kL d) (q := fullShare) (f := f) (rK_sub (a := a) h2)
  rw [rK_sdiff h1 h2] at h; exact h

/-! ## The chunks' places -/

section
variable (i : grid0.Coords) (e : BitVec 32) (he : e.toNat + 32 ≤ 4096)

theorem xSlice_emb (x : S32x512.Idx) :
    ((xSlice i xM e he).view.emb x 0).val = 4096 * wid i + e.toNat + (x 0).val ∧ ((xSlice i xM e he).view.emb x 1).val = (x 1).val := by
  have e0 : offK i e 0 = 4096 * wid i + e.toNat := by rw [offK_eq i he]; rfl
  have e1 : offK i e 1 = 0 := by rw [offK_eq i he]; rfl
  refine ⟨?_, ?_⟩
  · show offK i e 0 + 1 * (x 0).val = _; omega
  · show offK i e 1 + 1 * (x 1).val = _; omega
theorem oSlice_emb (x : S32x512.Idx) :
    ((oSlice i oM e he).view.emb x 0).val = 4096 * wid i + e.toNat + (x 0).val ∧ ((oSlice i oM e he).view.emb x 1).val = (x 1).val := by
  have e0 : offK i e 0 = 4096 * wid i + e.toNat := by rw [offK_eq i he]; rfl
  have e1 : offK i e 1 = 0 := by rw [offK_eq i he]; rfl
  refine ⟨?_, ?_⟩
  · show offK i e 0 + 1 * (x 0).val = _; omega
  · show offK i e 1 + 1 * (x 1).val = _; omega
theorem kSlice_emb (x : S32x256.Idx) :
    ((kSlice i kM e he).view.emb x 0).val = 4096 * wid i + e.toNat + (x 0).val ∧ ((kSlice i kM e he).view.emb x 1).val = (x 1).val := by
  have e0 : offK i e 0 = 4096 * wid i + e.toNat := by rw [offK_eq i he]; rfl
  have e1 : offK i e 1 = 0 := by rw [offK_eq i he]; rfl
  refine ⟨?_, ?_⟩
  · show offK i e 0 + 1 * (x 0).val = _; omega
  · show offK i e 1 + 1 * (x 1).val = _; omega

theorem xSlice_set : (xSlice i xM e he).view.set = rX (4096 * wid i + e.toNat) (4096 * wid i + e.toNat + 32) := by
  ext j
  rw [mem_rX]
  constructor
  · intro hj
    obtain ⟨x, -, rfl⟩ := Finset.mem_map.mp hj
    have h0 : (x 0).val < 32 := (x 0).isLt
    have := (xSlice_emb i e he x).1
    exact ⟨by rw [this]; omega, by rw [this]; omega⟩
  · intro ⟨ha, hb⟩
    obtain ⟨e0, e1⟩ := xSlice_emb i e he (i2 ((j 0).val - (4096 * wid i + e.toNat)) (j 1).val)
    have h1 : (j 1).val < 512 := (j 1).isLt
    refine Finset.mem_map.mpr ⟨i2 ((j 0).val - (4096 * wid i + e.toNat)) (j 1).val, Finset.mem_univ _, funext fun a => Fin.ext ?_⟩
    match a with
    | ⟨0, _⟩ => refine e0.trans ?_; show _ + ((j 0).val - (4096 * wid i + e.toNat)) % 32 = (j 0).val; omega
    | ⟨1, _⟩ => exact e1.trans (Nat.mod_eq_of_lt h1)
theorem oSlice_set : (oSlice i oM e he).view.set = rX (4096 * wid i + e.toNat) (4096 * wid i + e.toNat + 32) := by
  ext j
  rw [mem_rX]
  constructor
  · intro hj
    obtain ⟨x, -, rfl⟩ := Finset.mem_map.mp hj
    have h0 : (x 0).val < 32 := (x 0).isLt
    have := (oSlice_emb i e he x).1
    exact ⟨by rw [this]; omega, by rw [this]; omega⟩
  · intro ⟨ha, hb⟩
    obtain ⟨e0, e1⟩ := oSlice_emb i e he (i2 ((j 0).val - (4096 * wid i + e.toNat)) (j 1).val)
    have h1 : (j 1).val < 512 := (j 1).isLt
    refine Finset.mem_map.mpr ⟨i2 ((j 0).val - (4096 * wid i + e.toNat)) (j 1).val, Finset.mem_univ _, funext fun a => Fin.ext ?_⟩
    match a with
    | ⟨0, _⟩ => refine e0.trans ?_; show _ + ((j 0).val - (4096 * wid i + e.toNat)) % 32 = (j 0).val; omega
    | ⟨1, _⟩ => exact e1.trans (Nat.mod_eq_of_lt h1)
theorem kSlice_set : (kSlice i kM e he).view.set = rK (4096 * wid i + e.toNat) (4096 * wid i + e.toNat + 32) := by
  ext j
  rw [mem_rK]
  constructor
  · intro hj
    obtain ⟨x, -, rfl⟩ := Finset.mem_map.mp hj
    have h0 : (x 0).val < 32 := (x 0).isLt
    have := (kSlice_emb i e he x).1
    exact ⟨by rw [this]; omega, by rw [this]; omega⟩
  · intro ⟨ha, hb⟩
    obtain ⟨e0, e1⟩ := kSlice_emb i e he (i2k ((j 0).val - (4096 * wid i + e.toNat)) (j 1).val)
    have h1 : (j 1).val < 256 := (j 1).isLt
    refine Finset.mem_map.mpr ⟨i2k ((j 0).val - (4096 * wid i + e.toNat)) (j 1).val, Finset.mem_univ _, funext fun a => Fin.ext ?_⟩
    match a with
    | ⟨0, _⟩ => refine e0.trans ?_; show _ + ((j 0).val - (4096 * wid i + e.toNat)) % 32 = (j 0).val; omega
    | ⟨1, _⟩ => exact e1.trans (Nat.mod_eq_of_lt h1)
end

/-! ## The transfers -/

def sX (b : Fin 2) : DmaSems sig S_ := pick b cc0_scratch3 cc0_scratch4
def sK (b : Fin 2) : DmaSems sig S_ := pick b cc0_scratch5 cc0_scratch6
def sO (b : Fin 2) : DmaSems sig S_ := pick b cc0_scratch7 cc0_scratch8

abbrev NX : ℕ := (halfX 0 xR).view.dmaCredit
abbrev NK : ℕ := (halfK 0 kR).view.dmaCredit

theorem NX_pos : 0 < NX := by unfold NX; revert ‹Facts›; intro _; show 0 < S32x512.numel * _; decide
theorem NK_pos : 0 < NK := by show 0 < S32x256.numel * _; decide

/-- The tile may wait, and what it has waited for. -/
abbrev OW (d : Dev nD) (ca : Fin τ.nSC) (cb : Fin τ.nSub) (O : CellTallies nD τ sig (HIx 1)) (W : Waits sig (HIx 1)) : sProp (MM F) :=
  iprop(∃ W', ⌜∀ p ∈ W', p ∈ W ∨ p.2 = none⌝ ∗ owes (V d ca cb) O W')
abbrev MW (d : Dev nD) (ca : Fin τ.nSC) (cb : Fin τ.nSub) (O : CellTallies nD τ sig (HIx 1)) : sProp (MM F) :=
  Transfers.MayWaits (V d ca cb) (default : HIx 1) O

/-- A semaphore's counter at zero. -/
abbrev z (d : Dev nD) (ca : Fin τ.nSC) (cb : Fin τ.nSub) (s : DmaSems sig S_) : sProp (MM F) := semVal (V d ca cb, SemLoc.dma s.sem) 0

/-- A transfer in flight. -/
abbrev Fl (d : Dev nD) (ca : Fin τ.nSC) (cb : Fin τ.nSub) (s : DmaSems sig S_) (N : ℕ) (R : sProp (MM F)) : sProp (MM F) :=
  Transfers.Flight countersEmb (V d ca cb) (SemLoc.dma s.sem) (default : HIx 1) N R

theorem tw_wait {sp sp' : Space} {s s' : Shape} {e e' : EltTy} {κ' : Kind} (sem : DmaSems sig S_) {srcw : Memref sig .scVector sp' s' e'} {dstw : Memref sig κ' sp s e}
    {hsrc : srcw.view.WordExact} {hdst : dstw.view.WordExact} {N : ℕ} (hN : dstw.view.dmaCredit = N) {R : sProp (MM F)}
    {O : CellTallies nD τ sig (HIx 1)} {W : Waits sig (HIx 1)} :
    iprop(MW d ca cb O ∗ Fl d ca cb sem N R ∗ OW d ca cb O W)
      ⊢ tw d ca cb (Prog.lift (.waitDma2 sem.sem srcw dstw hsrc hdst)) fun _ => iprop(R ∗ z d ca cb sem ∗ OW d ca cb O W) := by
  iintro ⟨#Hm, HF, %W', %hW, HO⟩
  iapply (Transfers.wp_waitLocalO countersEmb 𝒱₀ (V d ca cb) none (default : HIx 1) hN) $$ [HF HO]
  · isplitl [HF]; · iexact HF
    isplitl [HO]; · iexact HO
    iapply (Transfers.MayWaits.elim (SemLoc.dma sem.sem)) $$ Hm
  iintro ⟨HR, Hz, HO⟩
  iapply (tw_pure (d := d) (ca := ca) (cb := cb) .rfl)
  isplitl [HR]; · iexact HR
  isplitl [Hz]; · iexact Hz
  iexists _; isplitr
  swap; · iexact HO
  ipureintro; intro p hp
  rcases Finset.mem_insert.mp hp with hp | hp; · exact .inr (hp ▸ rfl)
  exact hW p hp

section
variable (b : Fin 2) (Xg : ℕ → ℕ → F .f32) (Kg : ℕ → ℕ → BitVec 32) (mx : Buf (Elt F) (xL d)) (mk : Buf (Elt F) (kL d))

/-- Chunk `N`'s rows on their way to half `b`. -/
def FX (N : ℕ) : sProp (MM F) :=
  iprop(∃ f : Buf (Elt F) (xbL d ca cb), ⌜∀ j : S2x32x512.Idx, (j 0).val = b.val → f j = Xg (32 * N + (j 1).val) (j 2).val⌝
    ∗ Fl d ca cb (sX b) NX iprop((xbL d ca cb ↦[hX b]{fullShare} f) ∗ xL d ↦[rX (32 * N) (32 * N + 32)]{fullShare} mx))
def FK (N : ℕ) : sProp (MM F) :=
  iprop(∃ f : Buf (Elt F) (kbL d ca cb), ⌜∀ j : S2x32x256.Idx, (j 0).val = b.val → f j = Kg (32 * N + (j 1).val) (j 2).val⌝
    ∗ Fl d ca cb (sK b) NK iprop((kbL d ca cb ↦[hK b]{fullShare} f) ∗ kL d ↦[rK (32 * N) (32 * N + 32)]{fullShare} mk))

variable (i : grid0.Coords) (e : BitVec 32) (he : e.toNat + 32 ≤ 4096) (N : ℕ) (hN : 32 * N = 4096 * wid i + e.toNat)

include hN in
theorem tw_startX (hmx : ∀ j : S131072x512.Idx, mx j = Xg (j 0).val (j 1).val) :
    iprop((∃ f, xbL d ca cb ↦[hX b]{fullShare} f) ∗ (xL d ↦[rX (32 * N) (32 * N + 32)]{fullShare} mx) ∗ z d ca cb (sX b))
      ⊢ tw d ca cb (Prog.lift (.enqueueDma (xSlice i xM e he) (.here (halfX b xR)) (.dma (sX b).sem) (View.wordExact_bits rfl) ((View.wordExact_bits rfl).reshape _ _) ⟨Or.inl rfl, trivial⟩))
        fun _ => FX (d := d) (ca := ca) (cb := cb) b Xg mx N := by
  iintro ⟨⟨%f, Hb⟩, Hx, Hz⟩
  rw [hN, ← xSlice_set i e he]
  iapply (Transfers.wp_dmaLocal countersEmb 𝒱₀ (V d ca cb) none (src := xSlice i xM e he) (dst := halfX b xR) (fs := mx) (fd := f) (Sd := hX b) (default : HIx 1) NX rfl NX_pos (xHalf_set b).le) $$ [Hb Hx Hz]
  · isplitl [Hx]; · iexact Hx
    isplitl [Hb]; · iexact Hb
    iexact Hz
  iintro HF
  iapply (tw_pure (d := d) (ca := ca) (cb := cb) .rfl)
  unfold FX
  rw [hN, ← xSlice_set i e he]
  iexists _; isplitr
  swap; · iexact HF
  ipureintro
  intro j hj
  obtain ⟨y, -, rfl⟩ := Finset.mem_map.mp (show j ∈ (halfX b xR).view.set by rw [xHalf_set]; exact mem_hX.2 hj)
  obtain ⟨e0, e1, e2⟩ := xHalf_emb b y
  obtain ⟨g0, g1⟩ := xSlice_emb i e he y
  refine (View.write_emb_of_mem (v := (halfX b xR).view) (Val := Elt F) _ _ (Finset.mem_univ _)).trans ?_
  refine (show _ = mx ((xSlice i xM e he).view.emb y) from rfl).trans ?_
  rw [hmx, g0, g1, e1, e2]

include hN in
theorem tw_startK (hmk : ∀ j : S131072x256.Idx, mk j = Kg (j 0).val (j 1).val) :
    iprop((∃ f, kbL d ca cb ↦[hK b]{fullShare} f) ∗ (kL d ↦[rK (32 * N) (32 * N + 32)]{fullShare} mk) ∗ z d ca cb (sK b))
      ⊢ tw d ca cb (Prog.lift (.enqueueDma (kSlice i kM e he) (.here (halfK b kR)) (.dma (sK b).sem) (View.wordExact_bits rfl) ((View.wordExact_bits rfl).reshape _ _) ⟨Or.inl rfl, trivial⟩))
        fun _ => FK (F := F) (d := d) (ca := ca) (cb := cb) b Kg mk N := by
  iintro ⟨⟨%f, Hb⟩, Hx, Hz⟩
  rw [hN, ← kSlice_set i e he]
  iapply (Transfers.wp_dmaLocal countersEmb 𝒱₀ (V d ca cb) none (src := kSlice i kM e he) (dst := halfK b kR) (fs := mk) (fd := f) (Sd := hK b) (default : HIx 1) NK rfl NK_pos (kHalf_set b).le) $$ [Hb Hx Hz]
  · isplitl [Hx]; · iexact Hx
    isplitl [Hb]; · iexact Hb
    iexact Hz
  iintro HF
  iapply (tw_pure (d := d) (ca := ca) (cb := cb) .rfl)
  unfold FK
  rw [hN, ← kSlice_set i e he]
  iexists _; isplitr
  swap; · iexact HF
  ipureintro
  intro j hj
  obtain ⟨y, -, rfl⟩ := Finset.mem_map.mp (show j ∈ (halfK b kR).view.set by rw [kHalf_set]; exact mem_hK.2 hj)
  obtain ⟨e0, e1, e2⟩ := kHalf_emb b y
  obtain ⟨g0, g1⟩ := kSlice_emb i e he y
  refine (View.write_emb_of_mem (v := (halfK b kR).view) (Val := Elt F) _ _ (Finset.mem_univ _)).trans ?_
  refine (show _ = mk ((kSlice i kM e he).view.emb y) from rfl).trans ?_
  rw [hmk, g0, g1, e1, e2]

/-- Chunk `N`'s results on their way out of half `b`. -/
def FO (G : ℕ → ℕ → F .f32) (N : ℕ) : sProp (MM F) :=
  iprop(∃ (f : Buf (Elt F) (oL d)) (g : Buf (Elt F) (obL d ca cb)), ⌜∀ j : S131072x512.Idx, j ∈ rX (32 * N) (32 * N + 32) → f j = G (j 0).val (j 1).val⌝
    ∗ Fl d ca cb (sO b) NX iprop((oL d ↦[rX (32 * N) (32 * N + 32)]{fullShare} f) ∗ obL d ca cb ↦[hX b]{fullShare} g))

include hN in
theorem tw_startO (G : ℕ → ℕ → F .f32) (Oc : ℕ → ℕ → F .f32) (hG : ∀ r c, r < 32 → Oc r c = G (32 * N + r) c) :
    iprop(ownO (d := d) (ca := ca) (cb := cb) b Oc (1024 * 16) ∗ (∃ f, oL d ↦[rX (32 * N) (32 * N + 32)]{fullShare} f) ∗ z d ca cb (sO b))
      ⊢ tw d ca cb (Prog.lift (.enqueueDma (halfX b oR) (.here (oSlice i oM e he)) (.dma (sO b).sem) ((View.wordExact_bits rfl).reshape _ _) (View.wordExact_bits rfl) ⟨Or.inl rfl, trivial⟩))
        fun _ => FO (d := d) (ca := ca) (cb := cb) b G N := by
  iintro ⟨⟨%g, Hb, %hg⟩, ⟨%f, Hx⟩, Hz⟩
  rw [hN, ← oSlice_set i e he, ← oHalf_set b]
  iapply (Transfers.wp_dmaLocal countersEmb 𝒱₀ (V d ca cb) none (src := halfX b oR) (dst := oSlice i oM e he) (fs := g) (fd := f) (Sd := (oSlice i oM e he).view.set) (default : HIx 1) NX rfl NX_pos (Finset.Subset.refl _)) $$ [Hb Hx Hz]
  · isplitl [Hb]; · iexact Hb
    isplitl [Hx]; · iexact Hx
    iexact Hz
  iintro HF
  iapply (tw_pure (d := d) (ca := ca) (cb := cb) .rfl)
  unfold FO
  rw [hN, ← oSlice_set i e he, ← oHalf_set b]
  iexists _, _; isplitr
  swap; · iexact HF
  ipureintro
  intro j hj
  obtain ⟨y, -, rfl⟩ := Finset.mem_map.mp hj
  obtain ⟨e0, e1, e2⟩ := oHalf_emb b y
  obtain ⟨g0, g1⟩ := oSlice_emb i e he y
  have hy0 : (y 0).val < 32 := (y 0).isLt
  have hy1 : (y 1).val < 512 := (y 1).isLt
  refine (View.write_emb_of_mem (v := (oSlice i oM e he).view) (Val := Elt F) _ _ (Finset.mem_univ _)).trans ?_
  refine (show _ = g ((halfX b oR).view.emb y) from rfl).trans ?_
  rw [hg _ e0 (by rw [e1, e2]; omega), e1, e2, g0, g1, hG _ _ hy0, hN]
end

end Cert.KernelIdeal.Tile

end
-- ==== Proof.Chunk.lean ====
/-
  A tile's program: the transfers and the pair loops of its 128 chunks.
-/
module

public import proofs.«01_k».proof.Proof.Dma

@[expose] public section

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] [Facts]
variable {d : Dev nD} {ca : Fin τ.nSC} {cb : Fin τ.nSub}

/-- The result at a row and a column of the whole array. -/
def outG (Xg : ℕ → ℕ → F .f32) (Kg : ℕ → ℕ → BitVec 32) (R C : ℕ) : F .f32 :=
  outV (fun r c => Xg (32 * (R / 32) + r) c) (fun r c => Kg (32 * (R / 32) + r) c) (R % 32) C

theorem outG_chunk (Xg : ℕ → ℕ → F .f32) (Kg : ℕ → ℕ → BitVec 32) (N r c : ℕ) (hr : r < 32) :
    outV (fun r c => Xg (32 * N + r) c) (fun r c => Kg (32 * N + r) c) r c = outG Xg Kg (32 * N + r) c := by
  unfold outG
  rw [show (32 * N + r) / 32 = N by omega, show (32 * N + r) % 32 = r by omega]

section
variable (Xg : ℕ → ℕ → F .f32) (Kg : ℕ → ℕ → BitVec 32) (mx : Buf (Elt F) (xL d)) (mk : Buf (Elt F) (kL d)) (G : Buf (Elt F) (oL d))
variable (O : CellTallies nD τ sig (HIx 1)) (W : Waits sig (HIx 1))

abbrev OWM (d : Dev nD) (ca : Fin τ.nSC) (cb : Fin τ.nSub) (O : CellTallies nD τ sig (HIx 1)) (W : Waits sig (HIx 1)) : sProp (MM F) :=
  iprop(MW d ca cb O ∗ OW d ca cb O W)

/-- Half `b` of the input buffers, idle. -/
abbrev idle (d : Dev nD) (ca : Fin τ.nSC) (cb : Fin τ.nSub) (b : Fin 2) : sProp (MM F) :=
  iprop(((∃ f, xbL d ca cb ↦[hX b]{fullShare} f) ∗ z d ca cb (sX b)) ∗ ((∃ f, kbL d ca cb ↦[hK b]{fullShare} f) ∗ z d ca cb (sK b)))

variable (i : grid0.Coords)

theorem tw_ldWait (b : Fin 2) (e : BitVec 32) (he : e.toNat + 32 ≤ 4096) (N : ℕ) :
    iprop((FX (d := d) (ca := ca) (cb := cb) b Xg mx N ∗ FK (F := F) (d := d) (ca := ca) (cb := cb) b Kg mk N) ∗ OWM d ca cb O W)
      ⊢ tw d ca cb (ldWait (F := F) i xM kM xR kR cc0_scratch3 cc0_scratch4 cc0_scratch5 cc0_scratch6 b e he)
        fun _ => iprop(((ownX (d := d) (ca := ca) (cb := cb) b (fun r c => Xg (32 * N + r) c) ∗ z d ca cb (sX b)) ∗ (ownK (d := d) (ca := ca) (cb := cb) b (fun r c => Kg (32 * N + r) c) ∗ z d ca cb (sK b)))
          ∗ ((xL d ↦[rX (32 * N) (32 * N + 32)]{fullShare} mx) ∗ (kL d ↦[rK (32 * N) (32 * N + 32)]{fullShare} mk)) ∗ OWM d ca cb O W) := by
  unfold FX FK ldWait
  iintro ⟨⟨⟨%f, %hf, HX⟩, ⟨%g, %hg, HK⟩⟩, #HM, HO⟩
  icombine HM HX HO as H
  icombine H HK HM as H
  iapply (tw_bind (tw_frame (R := iprop(Fl d ca cb (sK b) NK iprop((kbL d ca cb ↦[hK b]{fullShare} g) ∗ kL d ↦[rK (32 * N) (32 * N + 32)]{fullShare} mk) ∗ MW d ca cb O))
    (tw_wait (sX b) (srcw := xSlice i xM e he) (dstw := halfX b xR) (N := NX) (R := iprop((xbL d ca cb ↦[hX b]{fullShare} f) ∗ xL d ↦[rX (32 * N) (32 * N + 32)]{fullShare} mx)) (O := O) (W := W) rfl)) fun _ => ?_) $$ H
  iintro ⟨⟨⟨HX, Hx⟩, Hz, HO⟩, HK, #HM⟩
  icombine HM HK HO as H
  icombine HX Hx as Hx
  icombine Hx Hz HM as R
  icombine H R as H
  iapply ((tw_frame (tw_wait (sK b) (srcw := kSlice i kM e he) (dstw := halfK b kR) (N := NK) (R := iprop((kbL d ca cb ↦[hK b]{fullShare} g) ∗ kL d ↦[rK (32 * N) (32 * N + 32)]{fullShare} mk)) (O := O) (W := W) rfl)).trans (wp_mono _ _ _ fun _ => ?_)) $$ H
  iintro ⟨⟨⟨HK, Hk⟩, Hzk, HO⟩, ⟨HX, Hx⟩, Hzx, HM⟩
  isplitl [HK Hzk HX Hzx]
  · isplitl [HX Hzx]
    · isplitl [HX]
      · iexists f; isplitl [HX]
        · iexact HX
        · ipureintro; exact hf
      · iexact Hzx
    · isplitl [HK]
      · iexists g; isplitl [HK]
        · iexact HK
        · ipureintro; exact hg
      · iexact Hzk
  isplitl [Hx Hk]
  · isplitl [Hx]
    · iexact Hx
    · iexact Hk
  isplitl [HM]
  · iexact HM
  · iexact HO

theorem tw_ldStart (b : Fin 2) (e : BitVec 32) (he : e.toNat + 32 ≤ 4096) (N : ℕ) (hN : 32 * N = 4096 * wid i + e.toNat)
    (hmx : ∀ j : S131072x512.Idx, mx j = Xg (j 0).val (j 1).val) (hmk : ∀ j : S131072x256.Idx, mk j = Kg (j 0).val (j 1).val) :
    iprop(idle d ca cb b ∗ ((xL d ↦[rX (32 * N) (32 * N + 32)]{fullShare} mx) ∗ (kL d ↦[rK (32 * N) (32 * N + 32)]{fullShare} mk)))
      ⊢ tw d ca cb (ldStart (F := F) i xM kM xR kR cc0_scratch3 cc0_scratch4 cc0_scratch5 cc0_scratch6 b e he)
        fun _ => iprop(FX (d := d) (ca := ca) (cb := cb) b Xg mx N ∗ FK (F := F) (d := d) (ca := ca) (cb := cb) b Kg mk N) := by
  unfold ldStart
  iintro ⟨⟨⟨HX, Hzx⟩, HK, Hzk⟩, Hx, Hk⟩
  icombine HX Hx Hzx as H
  icombine HK Hk Hzk as R
  icombine H R as H
  iapply (tw_bind (tw_frame (tw_startX b Xg mx i e he N hN hmx)) fun _ => ?_) $$ H
  iintro ⟨HX, H⟩
  icombine H HX as H
  iapply ((tw_frame (tw_startK b Kg mk i e he N hN hmk)).trans (wp_mono _ _ _ fun _ => ?_)) $$ H
  iintro ⟨HK, HX⟩
  isplitl [HX]
  · iexact HX
  · iexact HK

/-- The half before chunk `n`, its fetch started where there is a chunk. -/
def FI (n : ℕ) (b : Fin 2) : sProp (MM F) :=
  if n < 128 then
    iprop((FX (d := d) (ca := ca) (cb := cb) b Xg mx (128 * wid i + n) ∗ FK (F := F) (d := d) (ca := ca) (cb := cb) b Kg mk (128 * wid i + n))
      ∗ ((xL d ↦[rX (4096 * wid i) (4096 * wid i + 32 * n)]{fullShare} mx) ∗ (xL d ↦[rX (4096 * wid i + 32 * n + 32) (4096 * wid i + 4096)]{fullShare} mx))
      ∗ ((kL d ↦[rK (4096 * wid i) (4096 * wid i + 32 * n)]{fullShare} mk) ∗ (kL d ↦[rK (4096 * wid i + 32 * n + 32) (4096 * wid i + 4096)]{fullShare} mk)))
  else
    iprop(idle d ca cb b ∗ ((xL d ↦[rX (4096 * wid i) (4096 * wid i + 4096)]{fullShare} mx) ∗ (kL d ↦[rK (4096 * wid i) (4096 * wid i + 4096)]{fullShare} mk)))

/-- All the tile's rows and keys. -/
abbrev whole : sProp (MM F) :=
  iprop((xL d ↦[rX (4096 * wid i) (4096 * wid i + 4096)]{fullShare} mx) ∗ (kL d ↦[rK (4096 * wid i) (4096 * wid i + 4096)]{fullShare} mk))

theorem fetch_start (b : Fin 2) (n : ℕ) (hn : n < 128) (e : BitVec 32) (he : e.toNat + 32 ≤ 4096) (hN : e.toNat = 32 * n)
    (hmx : ∀ j : S131072x512.Idx, mx j = Xg (j 0).val (j 1).val) (hmk : ∀ j : S131072x256.Idx, mk j = Kg (j 0).val (j 1).val) :
    iprop(idle d ca cb b ∗ whole mx mk i)
      ⊢ tw d ca cb (ldStart (F := F) i xM kM xR kR cc0_scratch3 cc0_scratch4 cc0_scratch5 cc0_scratch6 b e he)
        fun _ => FI (d := d) (ca := ca) (cb := cb) Xg Kg mx mk i n b := by
  unfold FI
  rw [if_pos hn]
  iintro ⟨HI, HX, HK⟩
  ihave HX := (split_x mx (a := 4096 * wid i) (m := 4096 * wid i + 32 * n) (b := 4096 * wid i + 4096) (by omega) (by omega)).1 $$ HX
  icases HX with ⟨X0, HX⟩
  ihave HX := (split_x mx (a := 4096 * wid i + 32 * n) (m := 4096 * wid i + 32 * n + 32) (b := 4096 * wid i + 4096) (by omega) (by omega)).1 $$ HX
  icases HX with ⟨X1, X2⟩
  ihave HK := (split_k mk (a := 4096 * wid i) (m := 4096 * wid i + 32 * n) (b := 4096 * wid i + 4096) (by omega) (by omega)).1 $$ HK
  icases HK with ⟨K0, HK⟩
  ihave HK := (split_k mk (a := 4096 * wid i + 32 * n) (m := 4096 * wid i + 32 * n + 32) (b := 4096 * wid i + 4096) (by omega) (by omega)).1 $$ HK
  icases HK with ⟨K1, K2⟩
  have hw : 4096 * wid i + 32 * n = 32 * (128 * wid i + n) := by omega
  icombine X1 K1 as C
  icombine HI C as C
  icombine X0 X2 as X
  icombine K0 K2 as K'
  icombine X K' as R
  icombine C R as H
  rw [hw]
  iapply ((tw_frame (tw_ldStart Xg Kg mx mk i b e he (128 * wid i + n) (by omega) hmx hmk)).trans (wp_mono _ _ _ fun _ => ?_)) $$ H
  iintro ⟨H, R⟩
  isplitl [H]
  · iexact H
  · iexact R

theorem fetch_wait (b : Fin 2) (n : ℕ) (hn : n < 128) (e : BitVec 32) (he : e.toNat + 32 ≤ 4096) :
    iprop(FI (d := d) (ca := ca) (cb := cb) Xg Kg mx mk i n b ∗ OWM d ca cb O W)
      ⊢ tw d ca cb (ldWait (F := F) i xM kM xR kR cc0_scratch3 cc0_scratch4 cc0_scratch5 cc0_scratch6 b e he)
        fun _ => iprop(((ownX (d := d) (ca := ca) (cb := cb) b (fun r c => Xg (32 * (128 * wid i + n) + r) c) ∗ z d ca cb (sX b)) ∗ (ownK (d := d) (ca := ca) (cb := cb) b (fun r c => Kg (32 * (128 * wid i + n) + r) c) ∗ z d ca cb (sK b)))
          ∗ whole mx mk i ∗ OWM d ca cb O W) := by
  unfold FI
  rw [if_pos hn]
  iintro ⟨⟨H, ⟨X0, X2⟩, K0, K2⟩, HO⟩
  icombine H HO as H
  icombine X0 X2 as X
  icombine K0 K2 as K'
  icombine X K' as R
  icombine H R as H
  iapply ((tw_frame (tw_ldWait Xg Kg mx mk O W i b e he (128 * wid i + n))).trans (wp_mono _ _ _ fun _ => ?_)) $$ H
  have hw : 32 * (128 * wid i + n) = 4096 * wid i + 32 * n := by omega
  iintro ⟨⟨HB, ⟨X1, K1⟩, HO⟩, ⟨X0, X2⟩, K0, K2⟩
  isplitl [HB]
  · iexact HB
  isplitl [X0 X1 X2 K0 K1 K2]
  · isplitl [X0 X1 X2]
    · iapply (split_x mx (a := 4096 * wid i) (m := 4096 * wid i + 32 * n) (b := 4096 * wid i + 4096) (by omega) (by omega)).2
      isplitl [X0]
      · iexact X0
      iapply (split_x mx (a := 4096 * wid i + 32 * n) (m := 4096 * wid i + 32 * n + 32) (b := 4096 * wid i + 4096) (by omega) (by omega)).2
      isplitl [X1]
      · rw [hw]; iexact X1
      · iexact X2
    · iapply (split_k mk (a := 4096 * wid i) (m := 4096 * wid i + 32 * n) (b := 4096 * wid i + 4096) (by omega) (by omega)).2
      isplitl [K0]
      · iexact K0
      iapply (split_k mk (a := 4096 * wid i + 32 * n) (m := 4096 * wid i + 32 * n + 32) (b := 4096 * wid i + 4096) (by omega) (by omega)).2
      isplitl [K1]
      · rw [hw]; iexact K1
      · iexact K2
  · iexact HO

/-! ## The results' way out -/

/-- Half `b` of the results' buffer: the chunk `k` before chunk `n` on its way out, or idle. -/
def SB (n k : ℕ) (b : Fin 2) : sProp (MM F) :=
  if k ≤ n then FO (d := d) (ca := ca) (cb := cb) b (outG Xg Kg) (128 * wid i + n - k)
  else iprop((∃ g, obL d ca cb ↦[hX b]{fullShare} g) ∗ z d ca cb (sO b))

/-- The tile's first `n` chunks of the result. -/
abbrev DO (n : ℕ) : sProp (MM F) := oL d ↦[rX (4096 * wid i) (4096 * wid i + 32 * n)]{fullShare} G
/-- The tile's result after its first `n` chunks. -/
abbrev TD (d : Dev nD) (i : grid0.Coords) (n : ℕ) : sProp (MM F) :=
  iprop(∃ f : Buf (Elt F) (oL d), oL d ↦[rX (4096 * wid i + 32 * n) (4096 * wid i + 4096)]{fullShare} f)

theorem out_wait (b : Fin 2) (n c : ℕ) (hc : c < 128) (e : BitVec 32) (he : e.toNat + 32 ≤ 4096)
    (hG : ∀ j : S131072x512.Idx, G j = outG Xg Kg (j 0).val (j 1).val) :
    iprop((FO (d := d) (ca := ca) (cb := cb) b (outG Xg Kg) (128 * wid i + c) ∗ DO G i c) ∗ OWM d ca cb O W)
      ⊢ tw d ca cb (stWait (F := F) i oM oR cc0_scratch7 cc0_scratch8 b e he)
        fun _ => iprop((((∃ g, obL d ca cb ↦[hX b]{fullShare} g) ∗ z d ca cb (sO b)) ∗ DO G i (c + 1)) ∗ OWM d ca cb O W) := by
  unfold FO stWait
  iintro ⟨⟨⟨%f, %g, %hf, HF⟩, HD⟩, #HM, HO⟩
  icombine HM HF HO as H
  icombine H HD HM as H
  iapply ((tw_frame (R := iprop(DO G i c ∗ MW d ca cb O))
    (tw_wait (sO b) (srcw := halfX b oR) (dstw := oSlice i oM e he) (N := NX) (R := iprop((oL d ↦[rX (32 * (128 * wid i + c)) (32 * (128 * wid i + c) + 32)]{fullShare} f) ∗ obL d ca cb ↦[hX b]{fullShare} g)) (O := O) (W := W) rfl)).trans (wp_mono _ _ _ fun _ => ?_)) $$ H
  iintro ⟨⟨⟨Ho, Hb⟩, Hz, HO⟩, HD, HM⟩
  have hw : 32 * (128 * wid i + c) = 4096 * wid i + 32 * c := by omega
  have e1 := pointsTo_congr (Name := ℕ) (U := UU) (Ix := HIx 1) (Lvl := ℕ) (ℓ := oL d) (q := fullShare) (I := rX (32 * (128 * wid i + c)) (32 * (128 * wid i + c) + 32)) (f := f) (g := G)
    (fun j hj => (hf j hj).trans (hG j).symm)
  isplitl [Ho Hb Hz HD]
  · isplitl [Hb Hz]
    · isplitl [Hb]
      · iexists g; iexact Hb
      · iexact Hz
    · iapply (split_o G (a := 4096 * wid i) (m := 4096 * wid i + 32 * c) (b := 4096 * wid i + 32 * (c + 1)) (by omega) (by omega)).2
      isplitl [HD]
      · iexact HD
      · iapply (show (oL d ↦[rX (32 * (128 * wid i + c)) (32 * (128 * wid i + c) + 32)]{fullShare} f : sProp (MM F)) ⊢ oL d ↦[rX (4096 * wid i + 32 * c) (4096 * wid i + 32 * (c + 1))]{fullShare} G from
          Entails.of_eq (by rw [e1, hw, show 4096 * wid i + 32 * (c + 1) = 4096 * wid i + 32 * c + 32 by omega]))
        iexact Ho
  isplitl [HM]
  · iexact HM
  · iexact HO

theorem out_start (b : Fin 2) (n : ℕ) (hn : n < 128) (e : BitVec 32) (he : e.toNat + 32 ≤ 4096) (hN : e.toNat = 32 * n) :
    iprop(ownO (d := d) (ca := ca) (cb := cb) b (outV (fun r c => Xg (32 * (128 * wid i + n) + r) c) (fun r c => Kg (32 * (128 * wid i + n) + r) c)) (1024 * 16) ∗ z d ca cb (sO b) ∗ TD (F := F) d i n)
      ⊢ tw d ca cb (stStart (F := F) i oM oR cc0_scratch7 cc0_scratch8 b e he)
        fun _ => iprop(FO (d := d) (ca := ca) (cb := cb) b (outG Xg Kg) (128 * wid i + n) ∗ TD (F := F) d i (n + 1)) := by
  unfold stStart
  iintro ⟨HB, Hz, %f, HT⟩
  ihave HT := (split_o f (a := 4096 * wid i + 32 * n) (m := 4096 * wid i + 32 * n + 32) (b := 4096 * wid i + 4096) (by omega) (by omega)).1 $$ HT
  icases HT with ⟨T1, T2⟩
  have hw : 4096 * wid i + 32 * n = 32 * (128 * wid i + n) := by omega
  ihave T1 := (show (oL d ↦[rX (4096 * wid i + 32 * n) (4096 * wid i + 32 * n + 32)]{fullShare} f : sProp (MM F)) ⊢ iprop(∃ f : Buf (Elt F) (oL d), oL d ↦[rX (32 * (128 * wid i + n)) (32 * (128 * wid i + n) + 32)]{fullShare} f) from by
    rw [hw]; iintro H; iexists f; iexact H) $$ T1
  icombine HB T1 Hz as H
  icombine H T2 as H
  iapply ((tw_frame (tw_startO b i e he (128 * wid i + n) (by omega) (outG Xg Kg) (outV (fun r c => Xg (32 * (128 * wid i + n) + r) c) (fun r c => Kg (32 * (128 * wid i + n) + r) c)) (fun r c hr => outG_chunk Xg Kg _ r c hr))).trans (wp_mono _ _ _ fun _ => ?_)) $$ H
  iintro ⟨H, T2⟩
  isplitl [H]
  · iexact H
  · iexists f
    rw [show 4096 * wid i + 32 * (n + 1) = 4096 * wid i + 32 * n + 32 by omega]
    iexact T2
end

end Cert.KernelIdeal.Tile

end
-- ==== Proof.Prog.lean ====
/-
  A tile's program fetches its rows and keys, works on them and sends the results out.
-/
module

public import proofs.«01_k».proof.Proof.Chunk
public import proofs.«01_k».proof.Proof.Steps

@[expose] public section

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] [Facts]
variable {d : Dev nD} {ca : Fin τ.nSC} {cb : Fin τ.nSub}

theorem oth_oth (b : Fin 2) : oth (oth b) = b := by revert b; decide

section
variable (i : grid0.Coords) (t : Fin k0_t1_loop.trips) (b : Fin 2)
@[irreducible] def nextP : Prog (Eff F ca cb) PUnit :=
  if h : hasNext t b = 1#1 then ldStart (F := F) i xM kM xR kR cc0_scratch3 cc0_scratch4 cc0_scratch5 cc0_scratch6 (oth b) (dNext t b) (dNext_le t b h) else pure ⟨⟩
@[irreducible] def prevP : Prog (Eff F ca cb) PUnit :=
  if h : hasPrev t b = 1#1 then stWait (F := F) i oM oR cc0_scratch7 cc0_scratch8 b (dPrev t b) (dPrev_le t b h) else pure ⟨⟩
@[irreducible] def pairsP : Prog (Eff F ca cb) PUnit :=
  Scf.Loop.for k0_t2_loop k0_t2_ok ⟨⟩ fun r _ => pairBody (F := F) b xR oR kR tR r

theorem halfBody_eq :
    halfBody (F := F) (ca := ca) (cb := cb) i xM kM oM xR oR kR cc0_scratch3 cc0_scratch4 cc0_scratch5 cc0_scratch6 cc0_scratch7 cc0_scratch8 tR t b
      = (ldWait (F := F) i xM kM xR kR cc0_scratch3 cc0_scratch4 cc0_scratch5 cc0_scratch6 b (dCur t b) (dCur_le t b) >>= fun _ =>
        nextP i t b >>= fun _ => prevP i t b >>= fun _ => pairsP b >>= fun _ => stStart (F := F) i oM oR cc0_scratch7 cc0_scratch8 b (dCur t b) (dCur_le t b)) := by
  unfold halfBody nextP prevP pairsP
  refine bind_congr' rfl fun _ => ?_
  by_cases h : hasNext t b = 1#1 <;> by_cases h' : hasPrev t b = 1#1 <;> simp only [h, h', ↓reduceDIte, pure_bind]
end

section
variable (Xg : ℕ → ℕ → F .f32) (Kg : ℕ → ℕ → BitVec 32) (mx : Buf (Elt F) (xL d)) (mk : Buf (Elt F) (kL d)) (G : Buf (Elt F) (oL d))
variable (O : CellTallies nD τ sig (HIx 1)) (W : Waits sig (HIx 1)) (i : grid0.Coords)

/-- Before chunk `n`, at half `b`. -/
def J (ca : Fin τ.nSC) (cb : Fin τ.nSub) (n : ℕ) (b : Fin 2) : sProp (MM F) :=
  iprop((FI (d := d) (ca := ca) (cb := cb) Xg Kg mx mk i n b ∗ OWM d ca cb O W)
    ∗ idle (F := F) d ca cb (oth b)
    ∗ (SB (d := d) (ca := ca) (cb := cb) Xg Kg i n 2 b ∗ DO G i (n - 2))
    ∗ SB (d := d) (ca := ca) (cb := cb) Xg Kg i n 1 (oth b)
    ∗ TD (F := F) d i n ∗ ∃ f, tLoc d ca cb ↦{fullShare} f)

/-- Chunk `n`'s pair loop. -/
theorem tw_pairs (b : Fin 2) (X : ℕ → ℕ → F .f32) (Kf : ℕ → ℕ → BitVec 32) :
    (iprop((ownK (d := d) (ca := ca) (cb := cb) b Kf ∗ ∃ f, tLoc d ca cb ↦{fullShare} f) ∗ (ownX (d := d) (ca := ca) (cb := cb) b X ∗ ∃ g, obL d ca cb ↦[hX b]{fullShare} g)) : sProp (MM F))
      ⊢ tw d ca cb (pairsP (F := F) b)
      fun _ => iprop((ownK (d := d) (ca := ca) (cb := cb) b Kf ∗ ∃ f, tLoc d ca cb ↦{fullShare} f) ∗ (ownX (d := d) (ca := ca) (cb := cb) b X ∗ ownO (d := d) (ca := ca) (cb := cb) b (outV X Kf) (1024 * 16))) := by
  unfold pairsP
  have h := tw_for (d := d) (ca := ca) (cb := cb) k0_t2_loop k0_t2_ok (⟨⟩ : PUnit) (fun r _ => pairBody (F := F) b xR oR kR tR r)
    (fun n (_ : PUnit) => (iprop((ownK (d := d) (ca := ca) (cb := cb) b Kf ∗ ∃ f, tLoc d ca cb ↦{fullShare} f) ∗ (ownX (d := d) (ca := ca) (cb := cb) b X ∗ ownO (d := d) (ca := ca) (cb := cb) b (outV X Kf) (1024 * n))) : sProp (MM F)))
    (fun r _ => tw_pairBody b r X Kf)
  refine BIBase.Entails.trans ?_ h
  iintro ⟨H, HX, %g, HO⟩
  isplitl [H]
  · iexact H
  isplitl [HX]
  · iexact HX
  iexists g
  isplitl [HO]
  · iexact HO
  · ipureintro
    intro j _ hlt
    omega

/-- The next chunk's fetch, where there is one. -/
theorem tw_next (t : Fin k0_t1_loop.trips) (b : Fin 2) (n : ℕ) (hn : n = 2 * t.val + b.val)
    (hmx : ∀ j : S131072x512.Idx, mx j = Xg (j 0).val (j 1).val) (hmk : ∀ j : S131072x256.Idx, mk j = Kg (j 0).val (j 1).val) :
    iprop(idle d ca cb (oth b) ∗ whole mx mk i)
      ⊢ tw d ca cb (nextP (F := F) i t b)
        fun _ => FI (d := d) (ca := ca) (cb := cb) Xg Kg mx mk i (n + 1) (oth b) := by
  unfold nextP
  by_cases h : hasNext t b = 1#1
  · rw [dif_pos h]
    have h' := (hasNext_iff t b).1 h
    exact fetch_start Xg Kg mx mk i (oth b) (n + 1) (by omega) _ _ (by rw [dNext_toNat, hn]) hmx hmk
  · rw [dif_neg h]
    have h' : ¬ 2 * t.val + b.val + 1 < 128 := fun e => h ((hasNext_iff t b).2 e)
    refine tw_pure ?_
    unfold FI
    rw [if_neg (by omega)]

/-- The results of the chunk before last, where there is one. -/
theorem tw_prev (t : Fin k0_t1_loop.trips) (b : Fin 2) (n : ℕ) (hn : n = 2 * t.val + b.val)
    (hG : ∀ j : S131072x512.Idx, G j = outG Xg Kg (j 0).val (j 1).val) :
    iprop((SB (d := d) (ca := ca) (cb := cb) Xg Kg i n 2 b ∗ DO G i (n - 2)) ∗ OWM d ca cb O W)
      ⊢ tw d ca cb (prevP (F := F) i t b)
        fun _ => iprop((((∃ g, obL d ca cb ↦[hX b]{fullShare} g) ∗ z d ca cb (sO b)) ∗ DO G i (n - 1)) ∗ OWM d ca cb O W) := by
  have ht : t.val < 64 := t.isLt
  have hb := b.isLt
  unfold prevP
  by_cases h : hasPrev t b = 1#1
  · rw [dif_pos h]
    have h' := (hasPrev_iff t b).1 h
    unfold SB
    rw [if_pos (by omega), show 128 * wid i + n - 2 = 128 * wid i + (n - 2) by omega, show n - 1 = (n - 2) + 1 by omega]
    exact out_wait Xg Kg G O W i b n (n - 2) (by omega) _ _ hG
  · rw [dif_neg h]
    have h' : ¬ 2 ≤ 2 * t.val + b.val := fun e => h ((hasPrev_iff t b).2 e)
    refine tw_pure ?_
    unfold SB
    rw [if_neg (by omega), show n - 2 = 0 by omega, show n - 1 = 0 by omega]

theorem tw_half (t : Fin k0_t1_loop.trips) (b : Fin 2) (n : ℕ) (hn : n = 2 * t.val + b.val)
    (hmx : ∀ j : S131072x512.Idx, mx j = Xg (j 0).val (j 1).val) (hmk : ∀ j : S131072x256.Idx, mk j = Kg (j 0).val (j 1).val)
    (hG : ∀ j : S131072x512.Idx, G j = outG Xg Kg (j 0).val (j 1).val) :
    J Xg Kg mx mk G O W i ca cb n b
      ⊢ tw d ca cb (halfBody (F := F) i xM kM oM xR oR kR cc0_scratch3 cc0_scratch4 cc0_scratch5 cc0_scratch6 cc0_scratch7 cc0_scratch8 tR t b)
        fun _ => J Xg Kg mx mk G O W i ca cb (n + 1) (oth b) := by
  have ht : t.val < 64 := t.isLt
  have hb := b.isLt
  have hn' : n < 128 := by omega
  rw [halfBody_eq]
  unfold J
  refine tw_bind (tw_frame (fetch_wait Xg Kg mx mk O W i b n hn' (dCur t b) (dCur_le t b))) fun _ => ?_
  iintro ⟨⟨HB, Hw, HO⟩, HI, HS, HS1, HT, Hf⟩
  icombine HI Hw as H
  icombine HS HO as HS
  icombine HB HS as R
  icombine HS1 HT as R'
  icombine R' Hf as R'
  icombine R R' as R
  icombine H R as H
  iapply (tw_bind (tw_frame (tw_next Xg Kg mx mk i t b n hn hmx hmk)) fun _ => ?_) $$ H
  iintro ⟨HF, ⟨HB, HS⟩, ⟨HS1, HT⟩, Hf⟩
  icombine HF HB as R
  icombine HS1 HT as R'
  icombine R' Hf as R'
  icombine R R' as R
  icombine HS R as H
  iapply (tw_bind (tw_frame (tw_prev Xg Kg G O W i t b n hn hG)) fun _ => ?_) $$ H
  iintro ⟨⟨⟨⟨Hob, Hzo⟩, HD⟩, HO⟩, ⟨HF, ⟨HX, Hzx⟩, HK, Hzk⟩, ⟨HS1, HT⟩, Hf⟩
  icombine HK Hf as H
  icombine HX Hob as H'
  icombine H H' as H
  icombine HF HO as R
  icombine Hzx Hzk as R1
  icombine HD HS1 as R2
  icombine Hzo HT as R3
  icombine R2 R3 as R2
  icombine R1 R2 as R1
  icombine R R1 as R
  icombine H R as H
  iapply (tw_bind (tw_frame (tw_pairs b (fun r c => Xg (32 * (128 * wid i + n) + r) c) (fun r c => Kg (32 * (128 * wid i + n) + r) c))) fun _ => ?_) $$ H
  iintro ⟨⟨⟨HK, Hf⟩, HX, HOut⟩, ⟨HF, HO⟩, ⟨Hzx, Hzk⟩, ⟨HD, HS1⟩, Hzo, HT⟩
  icombine Hzo HT as H
  icombine HOut H as H
  icombine HF HO as R
  icombine HX Hzx as R1
  icombine HK Hzk as R2
  icombine R1 R2 as R1
  icombine HD HS1 as R2
  icombine R2 Hf as R2
  icombine R1 R2 as R1
  icombine R R1 as R
  icombine H R as H
  iapply ((tw_frame (out_start Xg Kg i b n hn' (dCur t b) (dCur_le t b) (by rw [dCur_toNat, hn]))).trans (wp_mono _ _ _ fun _ => ?_)) $$ H
  iintro ⟨⟨HFO, HT⟩, HR, ⟨⟨⟨%f, HX, -⟩, Hzx⟩, ⟨%g, HK, -⟩, Hzk⟩, ⟨HD, HS1⟩, Hf⟩
  rw [oth_oth]
  isplitl [HR]
  · iexact HR
  isplitl [HX Hzx HK Hzk]
  · isplitl [HX Hzx]
    · isplitl [HX]
      · iexists f; iexact HX
      · iexact Hzx
    · isplitl [HK]
      · iexists g; iexact HK
      · iexact Hzk
  isplitl [HD HS1]
  · isplitl [HS1]
    · iapply (show SB (d := d) (ca := ca) (cb := cb) Xg Kg i n 1 (oth b) ⊢ SB (d := d) (ca := ca) (cb := cb) Xg Kg i (n + 1) 2 (oth b) from Entails.of_eq (by
        unfold SB
        by_cases h : 1 ≤ n
        · rw [if_pos h, if_pos (by omega), show 128 * wid i + (n + 1) - 2 = 128 * wid i + n - 1 by omega]
        · rw [if_neg h, if_neg (by omega)]))
      iexact HS1
    · rw [show n + 1 - 2 = n - 1 by omega]
      iexact HD
  isplitl [HFO]
  · unfold SB
    rw [if_pos (by omega), show 128 * wid i + (n + 1) - 1 = 128 * wid i + n by omega]
    iexact HFO
  isplitl [HT]
  · iexact HT
  · iexact Hf

/-- What a tile holds at the start. -/
abbrev tIn (ca : Fin τ.nSC) (cb : Fin τ.nSub) : sProp (MM F) :=
  iprop((idle d ca cb 0 ∗ whole mx mk i) ∗ idle d ca cb 1 ∗ ((((∃ g, obL d ca cb ↦[hX 0]{fullShare} g) ∗ z d ca cb (sO 0))) ∗ ((∃ g, obL d ca cb ↦[hX 1]{fullShare} g) ∗ z d ca cb (sO 1)))
    ∗ (TD (F := F) d i 0 ∗ ∃ f, tLoc d ca cb ↦{fullShare} f) ∗ OWM d ca cb O W)
/-- What it holds at the end. -/
abbrev tOut (ca : Fin τ.nSC) (cb : Fin τ.nSub) : sProp (MM F) :=
  iprop((idle d ca cb 0 ∗ whole mx mk i) ∗ idle d ca cb 1 ∗ ((((∃ g, obL d ca cb ↦[hX 0]{fullShare} g) ∗ z d ca cb (sO 0))) ∗ ((∃ g, obL d ca cb ↦[hX 1]{fullShare} g) ∗ z d ca cb (sO 1)))
    ∗ (DO G i 128 ∗ ∃ f, tLoc d ca cb ↦{fullShare} f) ∗ OWM d ca cb O W)

theorem DO_zero : (iprop(emp) : sProp (MM F)) ⊢ DO (F := F) G i 0 := by
  have : rX (4096 * wid i) (4096 * wid i + 32 * 0) = ∅ := by
    ext j; rw [mem_rX]; constructor
    · intro h; omega
    · intro h; exact absurd h (Finset.notMem_empty j)
  unfold DO
  rw [this]
  exact Entails.of_eq pointsTo_empty.symm

theorem tw_trip (t : Fin k0_t1_loop.trips)
    (hmx : ∀ j : S131072x512.Idx, mx j = Xg (j 0).val (j 1).val) (hmk : ∀ j : S131072x256.Idx, mk j = Kg (j 0).val (j 1).val)
    (hG : ∀ j : S131072x512.Idx, G j = outG Xg Kg (j 0).val (j 1).val) :
    J Xg Kg mx mk G O W i ca cb (2 * t.val) 0
      ⊢ tw d ca cb (do
          halfBody (F := F) i xM kM oM xR oR kR cc0_scratch3 cc0_scratch4 cc0_scratch5 cc0_scratch6 cc0_scratch7 cc0_scratch8 tR t 0
          halfBody (F := F) i xM kM oM xR oR kR cc0_scratch3 cc0_scratch4 cc0_scratch5 cc0_scratch6 cc0_scratch7 cc0_scratch8 tR t 1)
        fun _ => J Xg Kg mx mk G O W i ca cb (2 * (t.val + 1)) 0 := by
  have h0 := tw_half (ca := ca) (cb := cb) Xg Kg mx mk G O W i t 0 (2 * t.val) rfl hmx hmk hG
  have h1 := tw_half (ca := ca) (cb := cb) Xg Kg mx mk G O W i t 1 (2 * t.val + 1) rfl hmx hmk hG
  rw [show oth 0 = 1 from rfl] at h0
  rw [show oth 1 = 0 from rfl, show 2 * t.val + 1 + 1 = 2 * (t.val + 1) by omega] at h1
  exact tw_bind h0 fun _ => h1

theorem tw_ends (hG : ∀ j : S131072x512.Idx, G j = outG Xg Kg (j 0).val (j 1).val) :
    J Xg Kg mx mk G O W i ca cb 128 0
      ⊢ tw d ca cb (stWait (F := F) i oM oR cc0_scratch7 cc0_scratch8 0 4032#32 le_4032 >>= fun _ => stWait (F := F) i oM oR cc0_scratch7 cc0_scratch8 1 4064#32 le_4064)
        fun _ => tOut mx mk G O W i ca cb := by
  unfold J
  have e2 : (SB (d := d) (ca := ca) (cb := cb) Xg Kg i 128 2 0 : sProp (MM F)) = FO (d := d) (ca := ca) (cb := cb) 0 (outG Xg Kg) (128 * wid i + 126) := by
    unfold SB; rw [if_pos (by omega)]; rfl
  have e1 : (SB (d := d) (ca := ca) (cb := cb) Xg Kg i 128 1 1 : sProp (MM F)) = FO (d := d) (ca := ca) (cb := cb) 1 (outG Xg Kg) (128 * wid i + 127) := by
    unfold SB; rw [if_pos (by omega)]; rfl
  have e3 : (FI (d := d) (ca := ca) (cb := cb) Xg Kg mx mk i 128 0 : sProp (MM F)) = iprop(idle d ca cb 0 ∗ whole mx mk i) := by
    unfold FI; rw [if_neg (by omega)]
  rw [show oth 0 = 1 from rfl, e1, e2, e3]
  iintro ⟨⟨HF, HO⟩, HI, HS, HS1, HT, Hf⟩
  icombine HS HO as H
  icombine HF HI as R
  icombine HS1 Hf as R'
  icombine R R' as R
  icombine H R as H
  iapply (tw_bind (tw_frame (out_wait Xg Kg G O W i 0 128 126 (by omega) 4032#32 le_4032 hG)) fun _ => ?_) $$ H
  iintro ⟨⟨⟨HS0, HD⟩, HO⟩, ⟨HF, HI⟩, HS1, Hf⟩
  icombine HS1 HD as H
  icombine H HO as H
  icombine HF HI as R
  icombine HS0 Hf as R'
  icombine R R' as R
  icombine H R as H
  iapply ((tw_frame (out_wait Xg Kg G O W i 1 128 127 (by omega) 4064#32 le_4064 hG)).trans (wp_mono _ _ _ fun _ => ?_)) $$ H
  iintro ⟨⟨⟨HS1, HD⟩, HO⟩, ⟨HF, HI⟩, HS0, Hf⟩
  isplitl [HF]
  · iexact HF
  isplitl [HI]
  · iexact HI
  isplitl [HS0 HS1]
  · isplitl [HS0]
    · iexact HS0
    · iexact HS1
  isplitl [HD Hf]
  · isplitl [HD]
    · iexact HD
    · iexact Hf
  · iexact HO

set_option maxHeartbeats 1000000 in
theorem tw_tile
    (hmx : ∀ j : S131072x512.Idx, mx j = Xg (j 0).val (j 1).val) (hmk : ∀ j : S131072x256.Idx, mk j = Kg (j 0).val (j 1).val)
    (hG : ∀ j : S131072x512.Idx, G j = outG Xg Kg (j 0).val (j 1).val) :
    tIn mx mk O W i ca cb
      ⊢ tw d ca cb (tileProg (F := F) i xM kM oM xR oR kR cc0_scratch3 cc0_scratch4 cc0_scratch5 cc0_scratch6 cc0_scratch7 cc0_scratch8 tR)
        fun _ => tOut mx mk G O W i ca cb := by
  unfold tileProg
  refine tw_bind (tw_frame (fetch_start Xg Kg mx mk i 0 0 (by omega) _ _ rfl hmx hmk)) fun _ => ?_
  refine tw_bind (R := fun _ => J Xg Kg mx mk G O W i ca cb 128 0) ?_ fun _ => ?_
  · refine BIBase.Entails.trans ?_ (tw_for (d := d) (ca := ca) (cb := cb) k0_t1_loop k0_t1_ok (⟨⟩ : PUnit) _ (fun n (_ : PUnit) => J Xg Kg mx mk G O W i ca cb (2 * n) 0) fun t _ => ?_)
    · show _ ⊢ J Xg Kg mx mk G O W i ca cb 0 0
      unfold J SB
      rw [if_neg (by omega), if_neg (by omega)]
      iintro ⟨HF, HI, ⟨HS0, HS1⟩, ⟨HT, Hf⟩, HO⟩
      isplitl [HF HO]
      · isplitl [HF]
        · iexact HF
        · iexact HO
      isplitl [HI]
      · iexact HI
      isplitl [HS0]
      · isplitl [HS0]
        · iexact HS0
        · iapply (DO_zero G i)
          iempintro
      isplitl [HS1]
      · iexact HS1
      isplitl [HT]
      · iexact HT
      · iexact Hf
    · exact tw_trip Xg Kg mx mk G O W i t hmx hmk hG
  exact tw_ends Xg Kg mx mk G O W i hG
end

end Cert.KernelIdeal.Tile

end
-- ==== Proof.Launch.lean ====
/-
  The launch: every tile's rows of the three arrays out of the whole arrays and back, a tile's scratch, and the run of
  the whole program with the result's value.
-/
module

public import proofs.«01_k».proof.Proof.Prog

@[expose] public section

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] [Facts]

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MM F) := embL

theorem nSub_zero : (K (F := F)).nSub 0 = 16 := rfl
theorem nCore_zero : (K (F := F)).nCore 0 = 2 := rfl

/-! ## The arrays' rows, tile by tile -/

/-- A row and a column, as a place of an array. -/
def ixX (R C : ℕ) : S131072x512.Idx := fun
  | 0 => (⟨R % 131072, Nat.mod_lt _ (by decide)⟩ : Fin 131072)
  | 1 => (⟨C % 512, Nat.mod_lt _ (by decide)⟩ : Fin 512)
  | ⟨_ + 2, h⟩ => absurd h (Nat.not_lt.2 (Nat.le_add_left _ _))
def ixK (R C : ℕ) : S131072x256.Idx := fun
  | 0 => (⟨R % 131072, Nat.mod_lt _ (by decide)⟩ : Fin 131072)
  | 1 => (⟨C % 256, Nat.mod_lt _ (by decide)⟩ : Fin 256)
  | ⟨_ + 2, h⟩ => absurd h (Nat.not_lt.2 (Nat.le_add_left _ _))

theorem ixX_self (j : S131072x512.Idx) : ixX (j 0).val (j 1).val = j := by
  funext a
  match a with
  | 0 => exact Fin.ext (Nat.mod_eq_of_lt (j 0).isLt)
  | 1 => exact Fin.ext (Nat.mod_eq_of_lt (j 1).isLt)
theorem ixK_self (j : S131072x256.Idx) : ixK (j 0).val (j 1).val = j := by
  funext a
  match a with
  | 0 => exact Fin.ext (Nat.mod_eq_of_lt (j 0).isLt)
  | 1 => exact Fin.ext (Nat.mod_eq_of_lt (j 1).isLt)

variable (m : (ℓ : Loc nD τ sig) → Buf (Elt F) ℓ) (ρ : Dev nD → PrngReg)

/-- The arguments, by row and column. -/
def Xf (d : Dev nD) (R C : ℕ) : F .f32 := (show S131072x512.Idx → F .f32 from m (xL d)) (ixX R C)
def Kf (d : Dev nD) (R C : ℕ) : BitVec 32 := (show S131072x256.Idx → BitVec 32 from m (kL d)) (ixK R C)
/-- The result. -/
def Gf (d : Dev nD) : Buf (Elt F) (oL d) := (fun j : S131072x512.Idx => outG (Xf m d) (Kf m d) (j 0).val (j 1).val)

theorem hmx (d : Dev nD) (j : S131072x512.Idx) : m (xL d) j = Xf m d (j 0).val (j 1).val := by
  unfold Xf; rw [ixX_self]
theorem hmk (d : Dev nD) (j : S131072x256.Idx) : m (kL d) j = Kf m d (j 0).val (j 1).val := by
  unfold Kf; rw [ixK_self]

abbrev pX (w : ℕ) : Finset S131072x512.Idx := rX (4096 * w) (4096 * w + 4096)
abbrev pK (w : ℕ) : Finset S131072x256.Idx := rK (4096 * w) (4096 * w + 4096)

/-- Tile `w`'s rows, at the result `g`. -/
def piece (g : (d : Dev nD) → Buf (Elt F) (oL d)) (d : Dev nD) (w : ℕ) : sProp (MM F) :=
  iprop((xL d ↦[pX w]{fullShare} m (xL d)) ∗ (kL d ↦[pK w]{fullShare} m (kL d)) ∗ (oL d ↦[pX w]{fullShare} g d))

instance piece_storable (g : (d : Dev nD) → Buf (Elt F) (oL d)) (d : Dev nD) (w : ℕ) : BI.Storable (upEmb : UEmb _ (MM F)) (piece m g d w) := by
  unfold piece; infer_instance

/-- The number of a tile. -/
def tn (c : Fin 2) (s : Fin 16) : ℕ := 2 * s.val + c.val

theorem tn_disj {p q : Fin 2 × Fin 16} (h : p ≠ q) : tn p.1 p.2 ≠ tn q.1 q.2 := by
  intro e
  apply h
  unfold tn at e
  have h1 := p.1.isLt
  have h2 := q.1.isLt
  exact Prod.ext (Fin.ext (by omega)) (Fin.ext (by omega))

theorem pX_disj : ∀ p ∈ (Finset.univ : Finset (Fin 2 × Fin 16)), ∀ q ∈ (Finset.univ : Finset (Fin 2 × Fin 16)), p ≠ q → Disjoint (pX (tn p.1 p.2)) (pX (tn q.1 q.2)) := by
  intro p _ q _ h
  have := tn_disj h
  rw [Finset.disjoint_left]
  intro j hj hj'
  rw [mem_rX] at hj hj'
  omega
theorem pK_disj : ∀ p ∈ (Finset.univ : Finset (Fin 2 × Fin 16)), ∀ q ∈ (Finset.univ : Finset (Fin 2 × Fin 16)), p ≠ q → Disjoint (pK (tn p.1 p.2)) (pK (tn q.1 q.2)) := by
  intro p _ q _ h
  have := tn_disj h
  rw [Finset.disjoint_left]
  intro j hj hj'
  rw [mem_rK] at hj hj'
  omega
theorem pX_cover : (Finset.univ : Finset (Fin 2 × Fin 16)).biUnion (fun p => pX (tn p.1 p.2)) = Finset.univ := by
  refine Finset.eq_univ_of_forall fun j => Finset.mem_biUnion.2 ?_
  have hj : (j 0).val < 131072 := (j 0).isLt
  refine ⟨(⟨(j 0).val / 4096 % 2, by omega⟩, ⟨(j 0).val / 4096 / 2, by omega⟩), Finset.mem_univ _, ?_⟩
  refine mem_rX.2 (show 4096 * (2 * ((j 0).val / 4096 / 2) + (j 0).val / 4096 % 2) ≤ (j 0).val ∧ (j 0).val < 4096 * (2 * ((j 0).val / 4096 / 2) + (j 0).val / 4096 % 2) + 4096 from ?_)
  omega
theorem pK_cover : (Finset.univ : Finset (Fin 2 × Fin 16)).biUnion (fun p => pK (tn p.1 p.2)) = Finset.univ := by
  refine Finset.eq_univ_of_forall fun j => Finset.mem_biUnion.2 ?_
  have hj : (j 0).val < 131072 := (j 0).isLt
  refine ⟨(⟨(j 0).val / 4096 % 2, by omega⟩, ⟨(j 0).val / 4096 / 2, by omega⟩), Finset.mem_univ _, ?_⟩
  refine mem_rK.2 (show 4096 * (2 * ((j 0).val / 4096 / 2) + (j 0).val / 4096 % 2) ≤ (j 0).val ∧ (j 0).val < 4096 * (2 * ((j 0).val / 4096 / 2) + (j 0).val / 4096 % 2) + 4096 from ?_)
  omega

theorem univ_prod : (Finset.univ : Finset (Fin 2 × Fin 16)) = Finset.univ ×ˢ Finset.univ := rfl

/-- The whole arrays are the tiles' rows. -/
theorem pieces (g : (d : Dev nD) → Buf (Elt F) (oL d)) (d : Dev nD) :
    (iprop((xL d ↦{fullShare} m (xL d)) ∗ (kL d ↦{fullShare} m (kL d)) ∗ (oL d ↦{fullShare} g d)) : sProp (MM F))
      = bigSep Finset.univ fun c : Fin 2 => bigSep Finset.univ fun s : Fin 16 => piece m g d (tn c s) := by
  have ex := pointsTo_biUnion (Name := ℕ) (U := UU) (Ix := HIx 1) (Lvl := ℕ) (ℓ := xL d) (q := fullShare) (f := m (xL d)) (Finset.univ : Finset (Fin 2 × Fin 16)) (fun p => pX (tn p.1 p.2)) pX_disj
  have ek := pointsTo_biUnion (Name := ℕ) (U := UU) (Ix := HIx 1) (Lvl := ℕ) (ℓ := kL d) (q := fullShare) (f := m (kL d)) (Finset.univ : Finset (Fin 2 × Fin 16)) (fun p => pK (tn p.1 p.2)) pK_disj
  have eo := pointsTo_biUnion (Name := ℕ) (U := UU) (Ix := HIx 1) (Lvl := ℕ) (ℓ := oL d) (q := fullShare) (f := g d) (Finset.univ : Finset (Fin 2 × Fin 16)) (fun p => pX (tn p.1 p.2)) pX_disj
  rw [pX_cover] at ex eo
  rw [pK_cover] at ek
  have h := SparseCore.bigSep_product (M := MM F) (Finset.univ : Finset (Fin 2)) (Finset.univ : Finset (Fin 16)) fun p => piece m g d (tn p.1 p.2)
  refine Eq.trans ?_ h
  rw [← univ_prod]
  unfold piece
  rw [bigSep_sep', bigSep_sep']
  rw [ex, ek, eo]

/-- What is passed at the launch. -/
def Pm : (K (F := F)).Pay (nD := nD) (Val := Elt F) (Name := ℕ) (U := UU) where
  st q d c := match q with
    | 0 => bigSep Finset.univ fun s : Fin 16 => piece m (fun d => m (oL d)) d (tn (Fin.cast nCore_zero c) s)
  dn q d c := match q with
    | 0 => bigSep Finset.univ fun s : Fin 16 => piece m (Gf m) d (tn (Fin.cast nCore_zero c) s)
  go q d c s := match q with
    | 0 => piece m (fun d => m (oL d)) d (tn (Fin.cast nCore_zero c) (Fin.cast nSub_zero s))
  td q d c s := match q with
    | 0 => piece m (Gf m) d (tn (Fin.cast nCore_zero c) (Fin.cast nSub_zero s))
  x := fun _ _ => iprop(emp)

instance Pm_storable : (Pm m).IsStorable where
  st q d c := match q with
    | 0 => (inferInstance : BI.Storable (upEmb : UEmb _ (MM F)) (bigSep Finset.univ fun s : Fin 16 => piece m (fun d => m (oL d)) d (tn (Fin.cast nCore_zero c) s)))
  dn q d c := match q with
    | 0 => (inferInstance : BI.Storable (upEmb : UEmb _ (MM F)) (bigSep Finset.univ fun s : Fin 16 => piece m (Gf m) d (tn (Fin.cast nCore_zero c) s)))
  go q d c s := match q with
    | 0 => piece_storable m (fun d => m (oL d)) d (tn (Fin.cast nCore_zero c) (Fin.cast nSub_zero s))
  td q d c s := match q with
    | 0 => piece_storable m (Gf m) d (tn (Fin.cast nCore_zero c) (Fin.cast nSub_zero s))

theorem vecSplit : (K (F := F)).VecSplit' (Pm m) 0 := by
  intro d c
  show (bigSep Finset.univ fun s : Fin 16 => piece m (fun d => m (oL d)) d (tn (Fin.cast nCore_zero c) s)) ⊢ |={Set.univ}=> iprop(
      (bigSep Finset.univ fun s : Fin 16 => piece m (fun d => m (oL d)) d (tn (Fin.cast nCore_zero c) s))
      ∗ ((bigSep Finset.univ fun s : Fin 16 => piece m (Gf m) d (tn (Fin.cast nCore_zero c) s))
          -∗ (bigSep Finset.univ fun s : Fin 16 => piece m (Gf m) d (tn (Fin.cast nCore_zero c) s))))
  iintro H
  imodintro
  isplitl [H]
  · iexact H
  · iintro H
    iexact H

/-! ## A tile's scratch -/

section
variable (d : Dev nD) (ca : Fin τ.nSC) (cb : Fin τ.nSub)

abbrev cl (k : Fin 6) : GSem nD τ sig := (V d ca cb, SemLoc.dma k)
theorem cl_ne {a b : Fin 6} (h : a ≠ b) : cl d ca cb a ≠ cl d ca cb b := fun e => h (SemLoc.dma.inj (Prod.ext_iff.1 e).2)
theorem mem_cl (k : Fin 6) : cl d ca cb k ∈ ownCells (V d ca cb) := (mem_ownCells (g := cl d ca cb k)).mpr ⟨rfl, by
  show (SemLoc.dma k : SemLoc sig).isScoped .scVector = true; revert k; decide⟩

abbrev semRest : sProp (MM F) :=
  bigSep (((((((ownCells (V d ca cb)).erase (cl d ca cb 0)).erase (cl d ca cb 1)).erase (cl d ca cb 2)).erase (cl d ca cb 3)).erase (cl d ca cb 4)).erase (cl d ca cb 5)) fun g => semVal g 0

theorem ownSems0_V :
    (ownSems0 (V d ca cb) : sProp (MM F))
      = iprop(semVal (cl d ca cb 0) 0 ∗ semVal (cl d ca cb 1) 0 ∗ semVal (cl d ca cb 2) 0 ∗ semVal (cl d ca cb 3) 0 ∗ semVal (cl d ca cb 4) 0 ∗ semVal (cl d ca cb 5) 0
          ∗ semRest d ca cb) := by
  unfold SparseCore.Cfg.ownSems0
  rw [SparseCore.bigSep_erase' (mem_cl d ca cb 0),
    SparseCore.bigSep_erase' (Finset.mem_erase.mpr ⟨cl_ne d ca cb (a := 1) (b := 0) (by decide), mem_cl d ca cb 1⟩),
    SparseCore.bigSep_erase' (Finset.mem_erase.mpr ⟨cl_ne d ca cb (a := 2) (b := 1) (by decide), Finset.mem_erase.mpr ⟨cl_ne d ca cb (b := 0) (by decide), mem_cl d ca cb 2⟩⟩),
    SparseCore.bigSep_erase' (Finset.mem_erase.mpr ⟨cl_ne d ca cb (a := 3) (b := 2) (by decide), Finset.mem_erase.mpr ⟨cl_ne d ca cb (b := 1) (by decide), Finset.mem_erase.mpr ⟨cl_ne d ca cb (b := 0) (by decide), mem_cl d ca cb 3⟩⟩⟩),
    SparseCore.bigSep_erase' (Finset.mem_erase.mpr ⟨cl_ne d ca cb (a := 4) (b := 3) (by decide), Finset.mem_erase.mpr ⟨cl_ne d ca cb (b := 2) (by decide), Finset.mem_erase.mpr ⟨cl_ne d ca cb (b := 1) (by decide), Finset.mem_erase.mpr ⟨cl_ne d ca cb (b := 0) (by decide), mem_cl d ca cb 4⟩⟩⟩⟩),
    SparseCore.bigSep_erase' (Finset.mem_erase.mpr ⟨cl_ne d ca cb (a := 5) (b := 4) (by decide), Finset.mem_erase.mpr ⟨cl_ne d ca cb (b := 3) (by decide), Finset.mem_erase.mpr ⟨cl_ne d ca cb (b := 2) (by decide), Finset.mem_erase.mpr ⟨cl_ne d ca cb (b := 1) (by decide), Finset.mem_erase.mpr ⟨cl_ne d ca cb (b := 0) (by decide), mem_cl d ca cb 5⟩⟩⟩⟩⟩)]

abbrev rf (r : Ref sig .scVector) : DevRef τ sig := (Proc.scVector ca cb).devRef r
theorem rf_ne {a b : Ref sig .scVector} (h : a ≠ b) : rf ca cb a ≠ rf ca cb b := fun e => h (Proc.devRef_injective _ e)

abbrev bufRest : sProp (MM F) :=
  bigSep (((((ownRefs (τ := τ) (sig := sig) (.scVector ca cb)).erase (rf ca cb cc0_scratch0)).erase (rf ca cb cc0_scratch1)).erase (rf ca cb cc0_scratch2)).erase (rf ca cb cc0_scratch9))
    fun b => iprop(∃ f, ((d, b) : Loc nD τ sig) ↦{fullShare} f)

theorem ownBufs_V :
    (ownBufs (V d ca cb) : sProp (MM F))
      = iprop((∃ f, xbL d ca cb ↦{fullShare} f) ∗ (∃ f, obL d ca cb ↦{fullShare} f) ∗ (∃ f, kbL d ca cb ↦{fullShare} f) ∗ (∃ f, tLoc d ca cb ↦{fullShare} f)
          ∗ bufRest d ca cb) := by
  have m0 := SparseCore.Cfg.mem_ownRefs_of_owner (p := Proc.scVector ca cb) (b := rf ca cb cc0_scratch0) rfl
  have m1 := SparseCore.Cfg.mem_ownRefs_of_owner (p := Proc.scVector ca cb) (b := rf ca cb cc0_scratch1) rfl
  have m2 := SparseCore.Cfg.mem_ownRefs_of_owner (p := Proc.scVector ca cb) (b := rf ca cb cc0_scratch2) rfl
  have m9 := SparseCore.Cfg.mem_ownRefs_of_owner (p := Proc.scVector ca cb) (b := rf ca cb cc0_scratch9) rfl
  unfold SparseCore.Cfg.ownBufs
  refine (SparseCore.bigSep_erase' m0).trans ?_
  rw [SparseCore.bigSep_erase' (Finset.mem_erase.mpr ⟨rf_ne ca cb (a := cc0_scratch1) (b := cc0_scratch0) (by decide), m1⟩),
    SparseCore.bigSep_erase' (Finset.mem_erase.mpr ⟨rf_ne ca cb (a := cc0_scratch2) (b := cc0_scratch1) (by decide), Finset.mem_erase.mpr ⟨rf_ne ca cb (b := cc0_scratch0) (by decide), m2⟩⟩),
    SparseCore.bigSep_erase' (Finset.mem_erase.mpr ⟨rf_ne ca cb (a := cc0_scratch9) (b := cc0_scratch2) (by decide), Finset.mem_erase.mpr ⟨rf_ne ca cb (b := cc0_scratch1) (by decide), Finset.mem_erase.mpr ⟨rf_ne ca cb (b := cc0_scratch0) (by decide), m9⟩⟩⟩)]

theorem hX_rest : (Finset.univ : Finset S2x32x512.Idx) \ hX 0 = hX 1 := by
  ext j
  have : (j 0).val < 2 := (j 0).isLt
  rw [Finset.mem_sdiff, mem_hX, mem_hX]
  simp only [Finset.mem_univ, true_and]
  show ¬ (j 0).val = 0 ↔ (j 0).val = 1
  omega
theorem hK_rest : (Finset.univ : Finset S2x32x256.Idx) \ hK 0 = hK 1 := by
  ext j
  have : (j 0).val < 2 := (j 0).isLt
  rw [Finset.mem_sdiff, mem_hK, mem_hK]
  simp only [Finset.mem_univ, true_and]
  show ¬ (j 0).val = 0 ↔ (j 0).val = 1
  omega

theorem halves (ℓ : Loc nD τ sig) (I : Finset (Idx ℓ)) :
    (iprop(∃ f, ℓ ↦{fullShare} f) : sProp (MM F)) ⊢ iprop((∃ f, ℓ ↦[I]{fullShare} f) ∗ ∃ f, ℓ ↦[Finset.univ \ I]{fullShare} f) := by
  iintro ⟨%f, H⟩
  ihave H' := ((pointsTo_split_subset (Name := ℕ) (U := UU) (Ix := HIx 1) (Lvl := ℕ) (ℓ := ℓ) (q := fullShare) (f := f) (Finset.subset_univ I)).1) $$ H
  icases H' with ⟨H1, H2⟩
  isplitl [H1]
  · iexists f; iexact H1
  · iexists f; iexact H2
theorem unhalves (ℓ : Loc nD τ sig) (I : Finset (Idx ℓ)) :
    iprop((∃ f, ℓ ↦[I]{fullShare} f) ∗ ∃ f, ℓ ↦[Finset.univ \ I]{fullShare} f) ⊢ (iprop(∃ f, ℓ ↦{fullShare} f) : sProp (MM F)) := by
  iintro ⟨⟨%f, H1⟩, ⟨%g, H2⟩⟩
  icombine H1 H2 as H
  ihave H' := (pointsTo_join_subset (Name := ℕ) (U := UU) (Ix := HIx 1) (Lvl := ℕ) (ℓ := ℓ) (q := fullShare) (g := f) (f := g) (Finset.subset_univ I)) $$ H
  iexists _; iexact H'

theorem halves_x : (iprop(∃ f, xbL d ca cb ↦{fullShare} f) : sProp (MM F)) ⊢ iprop((∃ f, xbL d ca cb ↦[hX 0]{fullShare} f) ∗ ∃ f, xbL d ca cb ↦[hX 1]{fullShare} f) := by
  have h := halves (F := F) (xbL d ca cb) (hX 0); rw [hX_rest] at h; exact h
theorem halves_o : (iprop(∃ f, obL d ca cb ↦{fullShare} f) : sProp (MM F)) ⊢ iprop((∃ f, obL d ca cb ↦[hX 0]{fullShare} f) ∗ ∃ f, obL d ca cb ↦[hX 1]{fullShare} f) := by
  have h := halves (F := F) (obL d ca cb) (hX 0); rw [hX_rest] at h; exact h
theorem halves_k : (iprop(∃ f, kbL d ca cb ↦{fullShare} f) : sProp (MM F)) ⊢ iprop((∃ f, kbL d ca cb ↦[hK 0]{fullShare} f) ∗ ∃ f, kbL d ca cb ↦[hK 1]{fullShare} f) := by
  have h := halves (F := F) (kbL d ca cb) (hK 0); rw [hK_rest] at h; exact h
theorem unhalves_x : iprop((∃ f, xbL d ca cb ↦[hX 0]{fullShare} f) ∗ ∃ f, xbL d ca cb ↦[hX 1]{fullShare} f) ⊢ (iprop(∃ f, xbL d ca cb ↦{fullShare} f) : sProp (MM F)) := by
  have h := unhalves (F := F) (xbL d ca cb) (hX 0); rw [hX_rest] at h; exact h
theorem unhalves_o : iprop((∃ f, obL d ca cb ↦[hX 0]{fullShare} f) ∗ ∃ f, obL d ca cb ↦[hX 1]{fullShare} f) ⊢ (iprop(∃ f, obL d ca cb ↦{fullShare} f) : sProp (MM F)) := by
  have h := unhalves (F := F) (obL d ca cb) (hX 0); rw [hX_rest] at h; exact h
theorem unhalves_k : iprop((∃ f, kbL d ca cb ↦[hK 0]{fullShare} f) ∗ ∃ f, kbL d ca cb ↦[hK 1]{fullShare} f) ⊢ (iprop(∃ f, kbL d ca cb ↦{fullShare} f) : sProp (MM F)) := by
  have h := unhalves (F := F) (kbL d ca cb) (hK 0); rw [hK_rest] at h; exact h
end

end Cert.KernelIdeal.Tile

end
-- ==== Proof.Main.lean ====
/-
  The run of the whole program, with the result's value.
-/
module

public import proofs.«01_k».proof.Proof.Launch

@[expose] public section

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] [Facts]

/-- A tile's kernel on its arguments. -/
abbrev tileKernel (i : grid0.Coords) : Prog (Eff F ((i 0).castLE hcore0) ((i 1).castLE hsub0)) PUnit :=
  cc0__sc_permute (F := F) i xM (Memref.isWhole_whole _) kM (Memref.isWhole_whole _) oM (Memref.isWhole_whole _) xR (Memref.isWhole_whole _) oR (Memref.isWhole_whole _)
    kR (Memref.isWhole_whole _) cc0_scratch3 cc0_scratch4 cc0_scratch5 cc0_scratch6 cc0_scratch7 cc0_scratch8 tR (Memref.isWhole_whole _)

/-- The kernel is the tile's program. -/
def TileEq (F : FTy → Type) [FloatOps F] : Prop := ∀ i : grid0.Coords,
  tileKernel (F := F) i = tileProg i xM kM oM xR oR kR cc0_scratch3 cc0_scratch4 cc0_scratch5 cc0_scratch6 cc0_scratch7 cc0_scratch8 tR

variable (m : (ℓ : Loc nD τ sig) → Buf (Elt F) ℓ) (ρ : Dev nD → PrngReg)

section
variable (d : Dev nD) (ca : Fin τ.nSC) (cb : Fin τ.nSub) (i : grid0.Coords)
variable (O : CellTallies nD τ sig (HIx 1)) (W : Waits sig (HIx 1))

theorem bufs_in : (ownBufs (V d ca cb) : sProp (MM F)) ⊢
    iprop((((∃ f, xbL d ca cb ↦[hX 0]{fullShare} f) ∗ ∃ f, xbL d ca cb ↦[hX 1]{fullShare} f) ∗ ((∃ f, obL d ca cb ↦[hX 0]{fullShare} f) ∗ ∃ f, obL d ca cb ↦[hX 1]{fullShare} f)
      ∗ ((∃ f, kbL d ca cb ↦[hK 0]{fullShare} f) ∗ ∃ f, kbL d ca cb ↦[hK 1]{fullShare} f) ∗ ∃ f, tLoc d ca cb ↦{fullShare} f) ∗ bufRest d ca cb) := by
  rw [ownBufs_V]
  iintro ⟨Hx, Ho, Hk, Ht, Hr⟩
  ihave Hx := (halves_x d ca cb) $$ Hx
  ihave Ho := (halves_o d ca cb) $$ Ho
  ihave Hk := (halves_k d ca cb) $$ Hk
  isplitl [Hx Ho Hk Ht]
  · isplitl [Hx]
    · iexact Hx
    isplitl [Ho]
    · iexact Ho
    isplitl [Hk]
    · iexact Hk
    · iexact Ht
  · iexact Hr

theorem bufs_out :
    iprop((((∃ f, xbL d ca cb ↦[hX 0]{fullShare} f) ∗ ∃ f, xbL d ca cb ↦[hX 1]{fullShare} f) ∗ ((∃ f, obL d ca cb ↦[hX 0]{fullShare} f) ∗ ∃ f, obL d ca cb ↦[hX 1]{fullShare} f)
      ∗ ((∃ f, kbL d ca cb ↦[hK 0]{fullShare} f) ∗ ∃ f, kbL d ca cb ↦[hK 1]{fullShare} f) ∗ ∃ f, tLoc d ca cb ↦{fullShare} f) ∗ bufRest d ca cb)
    ⊢ (ownBufs (V d ca cb) : sProp (MM F)) := by
  rw [ownBufs_V]
  iintro ⟨⟨Hx, Ho, Hk, Ht⟩, Hr⟩
  ihave Hx := (unhalves_x d ca cb) $$ Hx
  ihave Ho := (unhalves_o d ca cb) $$ Ho
  ihave Hk := (unhalves_k d ca cb) $$ Hk
  isplitl [Hx]
  · iexact Hx
  isplitl [Ho]
  · iexact Ho
  isplitl [Hk]
  · iexact Hk
  isplitl [Ht]
  · iexact Ht
  · iexact Hr

theorem piece_in : piece m (fun d => m (oL d)) d (wid i) ⊢ (iprop(whole (m (xL d)) (m (kL d)) i ∗ TD (F := F) d i 0) : sProp (MM F)) := by
  unfold piece
  iintro ⟨Hx, Hk, Ho⟩
  isplitl [Hx Hk]
  · isplitl [Hx]
    · iexact Hx
    · iexact Hk
  · iexists _; iexact Ho
theorem piece_out : (iprop(whole (m (xL d)) (m (kL d)) i ∗ DO (d := d) (Gf m d) i 128) : sProp (MM F)) ⊢ piece m (Gf m) d (wid i) := by
  unfold piece
  iintro ⟨⟨Hx, Hk⟩, Ho⟩
  isplitl [Hx]
  · iexact Hx
  isplitl [Hk]
  · iexact Hk
  · iexact Ho

theorem toIn :
    iprop(MW d ca cb O ∗ piece m (fun d => m (oL d)) d (wid i) ∗ ownBufs (V d ca cb) ∗ ownSems0 (V d ca cb) ∗ owes (V d ca cb) O W)
      ⊢ iprop(tIn (m (xL d)) (m (kL d)) O W i ca cb ∗ (bufRest d ca cb ∗ semRest d ca cb)) := by
  rw [ownSems0_V]
  iintro ⟨HM, HP, HB, ⟨S0, S1, S2, S3, S4, S5, SR⟩, HO⟩
  ihave HP := (piece_in m d i) $$ HP
  ihave HB := (bufs_in d ca cb) $$ HB
  icases HP with ⟨HW, HT⟩
  icases HB with ⟨⟨⟨X0, X1⟩, ⟨O0, O1⟩, ⟨K0, K1⟩, Ht⟩, BR⟩
  isplitr [BR SR]
  · isplitl [HW X0 S0 K0 S2]
    · isplitl [X0 S0 K0 S2]
      · isplitl [X0 S0]
        · isplitl [X0]
          · iexact X0
          · iexact S0
        · isplitl [K0]
          · iexact K0
          · iexact S2
      · iexact HW
    isplitl [X1 S1 K1 S3]
    · isplitl [X1 S1]
      · isplitl [X1]
        · iexact X1
        · iexact S1
      · isplitl [K1]
        · iexact K1
        · iexact S3
    isplitl [O0 S4 O1 S5]
    · isplitl [O0 S4]
      · isplitl [O0]
        · iexact O0
        · iexact S4
      · isplitl [O1]
        · iexact O1
        · iexact S5
    isplitl [HT Ht]
    · isplitl [HT]
      · iexact HT
      · iexact Ht
    isplitl [HM]
    · iexact HM
    · iexists W
      isplitr
      · ipureintro; exact fun p hp => .inl hp
      · iexact HO
  · isplitl [BR]
    · iexact BR
    · iexact SR

theorem ofOut :
    iprop(tOut (m (xL d)) (m (kL d)) (Gf m d) O W i ca cb ∗ (bufRest d ca cb ∗ semRest d ca cb))
      ⊢ iprop(piece m (Gf m) d (wid i) ∗ ownBufs (V d ca cb) ∗ ownSems0 (V d ca cb) ∗ OW d ca cb O W) := by
  rw [ownSems0_V]
  iintro ⟨⟨⟨⟨⟨X0, S0⟩, ⟨K0, S2⟩⟩, HW⟩, ⟨⟨X1, S1⟩, ⟨K1, S3⟩⟩, ⟨⟨O0, S4⟩, ⟨O1, S5⟩⟩, ⟨HT, Ht⟩, HM, HO⟩, BR, SR⟩
  isplitl [HW HT]
  · iapply (piece_out m d i)
    isplitl [HW]
    · iexact HW
    · iexact HT
  isplitl [X0 X1 O0 O1 K0 K1 Ht BR]
  · iapply (bufs_out d ca cb)
    isplitr [BR]
    · isplitl [X0 X1]
      · isplitl [X0]
        · iexact X0
        · iexact X1
      isplitl [O0 O1]
      · isplitl [O0]
        · iexact O0
        · iexact O1
      isplitl [K0 K1]
      · isplitl [K0]
        · iexact K0
        · iexact K1
      · iexact Ht
    · iexact BR
  isplitl [S0 S1 S2 S3 S4 S5 SR]
  · isplitl [S0]
    · iexact S0
    isplitl [S1]
    · iexact S1
    isplitl [S2]
    · iexact S2
    isplitl [S3]
    · iexact S3
    isplitl [S4]
    · iexact S4
    isplitl [S5]
    · iexact S5
    · iexact SR
  · iexact HO

theorem tile_body (hte : TileEq F) (hF : (K (F := F)).Facts) (hO : ∀ g, O g none = 0) :
    iprop(levAts (K (F := F)).L (K (F := F)).lev ∗ emp ∗ piece m (fun d => m (oL d)) d (wid i)
        ∗ scopedBufs (V d ((i 0).castLE hcore0) ((i 1).castLE hsub0)) ∗ scopedSems0 (V d ((i 0).castLE hcore0) ((i 1).castLE hsub0)) ∗ owes (V d ((i 0).castLE hcore0) ((i 1).castLE hsub0)) O W)
      ⊢ tw d ((i 0).castLE hcore0) ((i 1).castLE hsub0) (tileKernel (F := F) i)
          fun _ => iprop(piece m (Gf m) d (wid i) ∗ scopedBufs (V d ((i 0).castLE hcore0) ((i 1).castLE hsub0)) ∗ scopedSems0 (V d ((i 0).castLE hcore0) ((i 1).castLE hsub0)) ∗ OW d ((i 0).castLE hcore0) ((i 1).castLE hsub0) O W) := by
  rw [hte, (K (F := F)).scopedBufs_V hF d ((i 0).castLE hcore0) ((i 1).castLE hsub0), SparseCore.Cfg.scopedSems0_V (Val := Elt F) d ((i 0).castLE hcore0) ((i 1).castLE hsub0)]
  refine BIBase.Entails.trans ?_ (tw_mono (tw_frame (R := iprop(bufRest d ((i 0).castLE hcore0) ((i 1).castLE hsub0) ∗ semRest d ((i 0).castLE hcore0) ((i 1).castLE hsub0))) (tw_tile (Xf m d) (Kf m d) (m (xL d)) (m (kL d)) (Gf m d) O W i (hmx m d) (hmk m d) fun j => rfl)) fun _ => ofOut m d ((i 0).castLE hcore0) ((i 1).castLE hsub0) i O W)
  refine BIBase.Entails.trans ?_ (toIn m d ((i 0).castLE hcore0) ((i 1).castLE hsub0) i O W)
  iintro ⟨Hlv, -, HP, HB, HS, HO⟩
  isplitl [Hlv]
  · iapply (show levAts (K (F := F)).L (K (F := F)).lev ⊢ Transfers.MayWaits (V d ((i 0).castLE hcore0) ((i 1).castLE hsub0)) (default : HIx 1) O from (K (F := F)).mayWaits_none (thr := V d ((i 0).castLE hcore0) ((i 1).castLE hsub0)) hO)
    iexact Hlv
  isplitl [HP]
  · iexact HP
  isplitl [HB]
  · iexact HB
  isplitl [HS]
  · iexact HS
  · iexact HO
end

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileKernel (coordsV c s)) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

set_option maxRecDepth 16384 in
theorem tileObl (hte : TileEq F) : (K (F := F)).TileObl (D (F := F)) 𝒱 (Pm m) v₀ 0 := by
  intro d c s O W hO _ _
  simp only [show (Pm m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m d (coordsV ⟨_, hci.1⟩ ⟨_, hci.2⟩) O W hte scFacts hO).trans (wp_mono frame _ _ fun _ => obl_post)

/-! ## The launch -/

def u₀ : UU := (initOf (K (F := F)).hsCells (K (F := F)).hsToks, 1)

theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  isplitr
  · rw [bigSep_emp']; iempintro
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

theorem unscopedBufs_eq (d : Dev nD) (B : (b : Ref sig .tc) → Buf (Elt F) ((d.tc : Thread nD τ).loc b)) :
    (unscopedBufs d B : sProp (MM F)) = iprop((xL d ↦{fullShare} B main_arg0) ∗ (kL d ↦{fullShare} B main_arg1) ∗ oL d ↦{fullShare} B main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp (MM F) :=
  iprop((xL d ↦{fullShare} m (xL d)) ∗ (kL d ↦{fullShare} m (kL d)) ∗ (oL d ↦{fullShare} Gf m d))

theorem st0_eq (d : Dev nD) : (bigSep Finset.univ fun c : Fin ((K (F := F)).nCore 0) => (Pm m).st 0 d c)
    = iprop((xL d ↦{fullShare} m (xL d)) ∗ (kL d ↦{fullShare} m (kL d)) ∗ (oL d ↦{fullShare} m (oL d))) :=
  (pieces m (fun d => m (oL d)) d).symm
theorem dn0_eq (d : Dev nD) : (bigSep Finset.univ fun c : Fin ((K (F := F)).nCore 0) => (Pm m).dn 0 d c) = FIN m d :=
  (pieces m (Gf m) d).symm

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := Pm m) κ d 0) $$ [Hst H Hb Hts]
  isplitr
  · iexact Hctx
  isplitl [Hst]
  · iexact Hst
  isplitl [H]
  · rw [st0_eq]; iexact H
  iintro ⟨Hst, Hdn⟩
  ihave Hdn' := (Entails.of_eq (dn0_eq m d)) $$ Hdn
  imodintro
  isplitl [Hst]
  · iexact Hst
  isplitr [Hb Hts]
  · iexact Hdn'
  isplitl [Hb]
  · iexact Hb
  · iexact Hts

def fq (d : Dev nD) (s' : Phys nD τ sig (Elt F)) : Prop :=
  s'.mem.mem (oL d) = Gf m d ∧ s'.mem.mem (xL d) = m (xL d) ∧ s'.mem.mem (kL d) = m (kL d)

set_option maxRecDepth 16384 in
theorem hfin (d : Dev nD) (s' : Phys nD τ sig (Elt F)) : iprop(FIN m d ∗ SI s') ⊢ (⌜fq m d s'⌝ : sProp (MM F)) := by
  iintro ⟨⟨Hx, Hk, Ho⟩, HSI⟩
  ihave H := (persistent_entails_right (SI_pointsTo_agree (st := s') (ℓ := xL d) (I := Finset.univ) (q := fullShare) (f := m (xL d)))) $$ [HSI Hx]
  · isplitl [HSI] <;> iassumption
  icases H with ⟨%h1, HSI, -⟩
  ihave H := (persistent_entails_right (SI_pointsTo_agree (st := s') (ℓ := kL d) (I := Finset.univ) (q := fullShare) (f := m (kL d)))) $$ [HSI Hk]
  · isplitl [HSI] <;> iassumption
  icases H with ⟨%h2, HSI, -⟩
  ihave H := (SI_pointsTo_agree (st := s') (ℓ := oL d) (I := Finset.univ) (q := fullShare) (f := Gf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  (∀ d : Dev nD, r.2.mem (oL d) = Gf m d ∧ r.2.mem (xL d) = m (xL d) ∧ r.2.mem (kL d) = m (kL d)) ∧ r.2.sem = fun _ => 0

theorem run_main [∀ e, Nonempty (Elt F e)] (hte : TileEq F) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) scFacts v₀
    (fun q hq => match q with | 0 => nomatch hq)
    (fun q _ => match q with | 0 => tileObl m hte)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Frames.lean ====
/-
  The runs of the programs, as the frames state them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import Idealize.ShloMosaic.Lib.Quiescent

@[expose] public section

noncomputable section

namespace Cert.Proof

open Idealize.ShloMosaic Idealize.SL.Sem

theorem frame_reference : Cert.quiescent_ReferenceIdeal (hReferenceIdeal := Cert.ReferenceIdeal.Gen.facts) := by
  intro m ρ _
  exact (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

theorem nonempty_ideal (e : EltTy) : Nonempty (Elt Ideal e) := by
  cases e <;> first | exact ⟨(0 : EReal)⟩ | exact ⟨(0 : BitVec _)⟩

theorem nonempty_bits (e : EltTy) : Nonempty (Elt Bits e) := by
  cases e <;> exact ⟨(0 : BitVec _)⟩

theorem frame_kernelIdeal (hte : Cert.KernelIdeal.Tile.TileEq Ideal) : Cert.quiescent_KernelIdeal (hKernelIdeal := Cert.KernelIdeal.Gen.facts) := fun m ρ _ =>
  haveI := nonempty_ideal
  (θ_run Cert.KernelIdeal.defs _ _).mono (fun _ h => ⟨fun c => (h.1 c).2, h.2⟩) (Cert.KernelIdeal.Tile.run_main (F := Ideal) m ρ hte)

theorem frame_kernel (hte : Cert.KernelIdeal.Tile.TileEq Bits) : Cert.quiescent_Kernel (hKernel := Cert.Kernel.Gen.facts) := fun m ρ _ =>
  haveI := nonempty_bits
  (θ_run Cert.KernelIdeal.defs _ _).mono (fun _ h => ⟨fun c => (h.1 c).2, h.2⟩) (Cert.KernelIdeal.Tile.run_main (F := Bits) m ρ hte)

end Cert.Proof

end
-- ==== Proof.RefValue.lean ====
/-
  What the reference's result holds, place by place.
-/
module

public import proofs.«01_k».proof.Proof.Gen.ReferenceIdeal.Run
public import proofs.«01_k».proof.Proof.Launch
public import Idealize.ShloMosaic.Lib.SortFacts
public import Idealize.ShloMosaic.Lib.Pipeline.Value

@[expose] public section

noncomputable section

namespace Cert.ReferenceIdeal.Value

open Cert.ReferenceIdeal Cert.ReferenceIdeal.Gen Idealize.ShloMosaic Idealize.SL.Sem Idealize.ShloMosaic.StableHlo
open Cert.KernelIdeal.Tile (ixX ixK ixX_self ixK_self)

variable {F : FTy → Type} [FloatOps F]

/-- The columns that the reference reads. -/
def col (k : IVec S131072x256 32) : IVec S131072x512 32 :=
  concatenate S131072x512 1 [⟨S131072x256, (extractStridedSlice S131072x256 ![0, 0] (broadcastInDim S131072x512 ![1] bcast_S512_S131072x512_1 (iotaInDim S512 32 0)) slices_S131072x512_S131072x256_0_0)⟩, ⟨S131072x256, (addi (id (andi (Host.sort S131072x256 1 comparator_i32_d1 k) (broadcastInDim S131072x256 ![] bcast_S_S131072x256 (constantI S_ 32 255#32)))) (broadcastInDim S131072x256 ![] bcast_S_S131072x256 (constantI S_ 32 256#32)))⟩] concatenates_S131072x256_S131072x256_S131072x512_d1

/-- The columns as the gather takes them. -/
def start (k : IVec S131072x256 32) : IVec S131072x512x1 32 :=
  shapeCast _ (select (cmpi .slt (col k) (broadcastInDim S131072x512 ![] bcast_S_S131072x512 (constantI S_ 32 0#32))) (addi (col k) (broadcastInDim S131072x512 ![] bcast_S_S131072x512 (constantI S_ 32 512#32))) (col k)) shapeCasts_S131072x512_S131072x512x1

/-- The reference's result of its arguments. -/
def out (x : FVec F S131072x512 .f32) (k : IVec S131072x256 32) : FVec F S131072x512 .f32 :=
  select (Host.reduce IntOp.andi (andi (cmpi .sge (start k) (broadcastInDim S131072x512x1 ![] bcast_S_S131072x512x1 (constantI S_ 32 0#32))) (cmpi .sle (start k) (broadcastInDim S131072x512x1 ![0, 1, 2] bcast_S1x1x1_S131072x512x1_0_1_2 (broadcastInDim S1x1x1 ![2] bcast_S1_S1x1x1_2 (constantI S1 32 511#32))))) (constantI S_ 1 1#1) reducesTo_S131072x512x1_S131072x512_d2 h_S_) (Host.gather gather_S131072x512_S131072x512x1_S131072x512_n_1_0_0_1_2_11 x (start k)) (broadcastInDim S131072x512 ![] bcast_S_S131072x512 (constant S_ .f32 0x7FC00000#32))

theorem res_eq (m : (ℓ : Loc nD τ sig) → Buf (Elt F) ℓ) (c : Dev nD) :
    res_main_v10 m c = out (F := F) (m ((c.tc : Thread nD τ).loc main_arg0)) (m ((c.tc : Thread nD τ).loc main_arg1)) := rfl

/-! ## The sort -/

theorem along_ixK (r : ℕ) (i k : Fin 256) : (ixK r i.val).along (1 : Fin 2) k = ixK r k.val := by
  funext a
  match a with
  | 0 => exact Function.update_of_ne (by decide) _ _
  | 1 =>
    refine (Function.update_self _ _ _).trans (Fin.ext ?_)
    exact (Nat.mod_eq_of_lt k.isLt).symm

/-- A row of the sorted keys reads that row of the keys through the sort's places. -/
theorem sort_at (k : IVec S131072x256 32) (r : ℕ) (i : Fin 256) : Host.sort S131072x256 1 comparator_i32_d1 k (ixK r i.val)
    = k (ixK r (sortedFrom (fun p q : Fin 256 => decide ((k (ixK r p.val)).toNat < (k (ixK r q.val)).toNat)) i).val) := by
  have e : ((ixK r i.val) (1 : Fin 2) : Fin 256) = i := Fin.ext (Nat.mod_eq_of_lt i.isLt)
  show k ((ixK r i.val).along (1 : Fin 2) (sortedFrom (fun p q : Fin 256 => comparator_i32_d1 (k ((ixK r i.val).along (1 : Fin 2) p)) (k ((ixK r i.val).along (1 : Fin 2) q)) == 1#1)
    ((ixK r i.val) (1 : Fin 2) : Fin 256))) = _
  rw [e]
  have hb : (fun p q : Fin 256 => comparator_i32_d1 (k ((ixK r i.val).along (1 : Fin 2) p)) (k ((ixK r i.val).along (1 : Fin 2) q)) == 1#1)
      = fun p q : Fin 256 => decide ((k (ixK r p.val)).toNat < (k (ixK r q.val)).toNat) := by
    funext p q
    rw [along_ixK, along_ixK]
    show (BitVec.ofBool ((k (ixK r p.val)).ult (k (ixK r q.val))) == 1#1) = decide ((k (ixK r p.val)).toNat < (k (ixK r q.val)).toNat)
    rw [BitVec.ult]
    cases decide ((k (ixK r p.val)).toNat < (k (ixK r q.val)).toNat) <;> rfl
  rw [hb]
  exact congrArg k (along_ixK r i _)

/-- A row of the sorted keys is that row of the keys, rearranged, … -/
theorem sort_perm (k : IVec S131072x256 32) (r : ℕ) : ∃ σ : Equiv.Perm (Fin 256),
    (fun i : Fin 256 => (Host.sort S131072x256 1 comparator_i32_d1 k (ixK r i.val)).toNat) = (fun i : Fin 256 => (k (ixK r i.val)).toNat) ∘ σ :=
  ⟨Equiv.ofBijective _ ⟨sortedFrom_injective (fun p q : Fin 256 => decide ((k (ixK r p.val)).toNat < (k (ixK r q.val)).toNat)),
      sortedFrom_surjective (fun p q : Fin 256 => decide ((k (ixK r p.val)).toNat < (k (ixK r q.val)).toNat))⟩,
    funext fun i => congrArg BitVec.toNat (sort_at k r i)⟩

/-- … and does not fall. -/
theorem sort_monotone (k : IVec S131072x256 32) (r : ℕ) : Monotone fun i : Fin 256 => (Host.sort S131072x256 1 comparator_i32_d1 k (ixK r i.val)).toNat := by
  intro i j hij
  rcases eq_or_lt_of_le hij with rfl | hlt
  · exact le_rfl
  show (Host.sort S131072x256 1 comparator_i32_d1 k (ixK r i.val)).toNat ≤ (Host.sort S131072x256 1 comparator_i32_d1 k (ixK r j.val)).toNat
  rw [sort_at, sort_at]
  have h := sortedFrom_noInversion (n := 256) (fun p q : Fin 256 => decide ((k (ixK r p.val)).toNat < (k (ixK r q.val)).toNat))
    (fun p q : Fin 256 => decide ((k (ixK r p.val)).toNat < (k (ixK r q.val)).toNat))
    (fun a b h => by simp only [decide_eq_true_eq] at h; simp only [decide_eq_false_iff_not]; omega) (fun _ _ h => h)
    (fun a b c h h' => by simp only [decide_eq_false_iff_not] at h h' ⊢; omega) i j hlt
  simp only [decide_eq_false_iff_not] at h
  omega

/-! ## The columns -/

theorem col_lo (k : IVec S131072x256 32) (j : S131072x512.Idx) (h : (j 1).val < 256) : col k j = BitVec.ofNat 32 (j 1).val := by
  have h0 : (j 0).val < 131072 := (j 0).isLt
  unfold col
  refine (concatenate_pair_apply_left (t := S131072x512) (s₁ := S131072x256) (s₂ := S131072x256) 1 _ _ concatenates_S131072x256_S131072x256_S131072x512_d1 j rfl (ixK (j 0).val (j 1).val) fun b => ?_).trans ?_
  · match b with
    | 0 => exact Nat.mod_eq_of_lt h0
    | 1 => exact Nat.mod_eq_of_lt h
  · show BitVec.ofNat 32 (0 + (j 1).val % 256) = _
    rw [Nat.zero_add, Nat.mod_eq_of_lt h]

theorem col_hi (k : IVec S131072x256 32) (j : S131072x512.Idx) (h : 256 ≤ (j 1).val) :
    col k j = (Host.sort S131072x256 1 comparator_i32_d1 k (ixK (j 0).val ((j 1).val - 256)) &&& 255#32) + 256#32 := by
  have h0 : (j 0).val < 131072 := (j 0).isLt
  have h1 : (j 1).val < 512 := (j 1).isLt
  unfold col
  refine (concatenate_pair_apply_right (t := S131072x512) (s₁ := S131072x256) (s₂ := S131072x256) 1 _ _ concatenates_S131072x256_S131072x256_S131072x512_d1 j rfl rfl (ixK (j 0).val ((j 1).val - 256)) (fun b hb => ?_) ?_).trans rfl
  · match b with
    | 0 => exact Nat.mod_eq_of_lt h0
    | 1 => exact absurd rfl hb
  · show ((j 1).val - 256) % 256 + 256 = (j 1).val
    omega

theorem mask_lt (x : BitVec 32) : (x &&& 255#32).toNat < 256 := by
  rw [BitVec.toNat_and]
  exact lt_of_le_of_lt Nat.and_le_right (by decide)

theorem mask_add (x : BitVec 32) : ((x &&& 255#32) + 256#32).toNat = (x &&& 255#32).toNat + 256 := by
  have h := mask_lt x
  rw [BitVec.toNat_add]
  show ((x &&& 255#32).toNat + 256) % 2 ^ 32 = _
  omega

theorem col_lt (k : IVec S131072x256 32) (j : S131072x512.Idx) : (col k j).toNat < 512 := by
  have h1 : (j 1).val < 512 := (j 1).isLt
  by_cases h : (j 1).val < 256
  · rw [col_lo k j h, BitVec.toNat_ofNat]; omega
  · rw [col_hi k j (by omega), mask_add]
    have := mask_lt (Host.sort S131072x256 1 comparator_i32_d1 k (ixK (j 0).val ((j 1).val - 256)))
    omega

theorem small_facts (w : BitVec 32) (h : w.toNat < 512) : w.slt 0#32 = false ∧ (0#32).sle w = true ∧ w.sle 511#32 = true ∧ w.toInt.toNat = w.toNat := by
  have e : w.toInt = w.toNat := BitVec.toInt_eq_toNat_of_lt (by omega)
  refine ⟨?_, ?_, ?_, ?_⟩
  · rw [BitVec.slt, decide_eq_false_iff_not, e]
    show ¬ (w.toNat : ℤ) < 0
    omega
  · rw [BitVec.sle, decide_eq_true_eq, e]
    show (0 : ℤ) ≤ w.toNat
    omega
  · rw [BitVec.sle, decide_eq_true_eq, e]
    show (w.toNat : ℤ) ≤ 511
    omega
  · rw [e]; rfl

theorem start_at (k : IVec S131072x256 32) (q : S131072x512x1.Idx) : start k q = col k (ixX (q 0).val (q 1).val) := by
  have h0 : (q 0).val < 131072 := (q 0).isLt
  have h1 : (q 1).val < 512 := (q 1).isLt
  have h2 : (q 2).val < 1 := (q 2).isLt
  have e : Shape.reshapeEquiv shapeCasts_S131072x512_S131072x512x1 q = ixX (q 0).val (q 1).val := by
    refine Shape.reshapeEquiv_eq_of_rowMajor _ ?_
    refine (Shape.rowMajor_val_two _).trans (Eq.trans ?_ (Shape.rowMajor_val_three _).symm)
    show (q 0).val % 131072 * 512 + (q 1).val % 512 = ((q 0).val * 512 + (q 1).val) * 1 + (q 2).val
    omega
  unfold start
  show (select _ _ _ : IVec S131072x512 32) (Shape.reshapeEquiv shapeCasts_S131072x512_S131072x512x1 q) = _
  rw [e]
  set p := ixX (q 0).val (q 1).val
  show (if BitVec.ofBool ((col k p).slt 0#32) = 1#1 then _ else col k p) = col k p
  rw [(small_facts _ (col_lt k p)).1]
  rfl

theorem start_lt (k : IVec S131072x256 32) (q : S131072x512x1.Idx) : (start k q).toNat < 512 := by
  rw [start_at]; exact col_lt k _

/-! ## The gather -/

theorem foldl_one {α : Type} (f : α → BitVec 1) (h : ∀ a, f a = 1#1) : ∀ l : List α, l.foldl (fun r n => IntOp.andi r (f n)) 1#1 = 1#1
  | [] => rfl
  | a :: l => by
    rw [List.foldl_cons, h a]
    exact foldl_one f h l

theorem reduce_one {s t u : Shape} {axes : List (Fin s.rank)} (x : IVec s 1) (init : IVec u 1) (h : s.ReducesTo axes t) (hu : 0 < u.numel) (j : t.Idx)
    (hx : ∀ i, x i = 1#1) (hi : init (Shape.Idx.first hu) = 1#1) : Host.reduce IntOp.andi x init h hu j = 1#1 := by
  unfold Host.reduce
  rw [hi]
  exact foldl_one _ (fun n => hx _) _

theorem select_one {s : Shape} {α : Type} (c : IVec s 1) (a b : s.Idx → α) (j : s.Idx) (h : c j = 1#1) : select c a b j = a j :=
  if_pos h

theorem gather_at {α : Type} (x : S131072x512.Idx → α) (s : IVec S131072x512x1 32) (hs : ∀ q, (s q).toNat < 512) (j : S131072x512.Idx) :
    ∃ q : S131072x512x1.Idx, q 0 = j 0 ∧ q 1 = j 1 ∧ Host.gather gather_S131072x512_S131072x512x1_S131072x512_n_1_0_0_1_2_11 x s j = x (ixX (j 0).val (s q).toNat) := by
  have h0 : (j 0).val < 131072 := (j 0).isLt
  set d := gather_S131072x512_S131072x512x1_S131072x512_n_1_0_0_1_2_11 with hd
  have hm : (1 : Fin 2) ∈ d.startIndexMap := by decide
  refine ⟨d.siIdx j ⟨d.startIndexMap.idxOf (1 : Fin 2), List.idxOf_lt_length_iff.2 hm⟩, ?_, ?_, ?_⟩
  · rfl
  · rfl
  · refine congrArg x (funext fun a => Fin.ext ?_)
    match a with
    | 0 =>
      show d.start j s (0 : Fin 2) + d.batchCoord j (0 : Fin 2) + d.offCoord j (0 : Fin 2) = (j 0).val % 131072
      have e1 : d.start j s (0 : Fin 2) = 0 := rfl
      have e2 : d.offCoord j (0 : Fin 2) = 0 := rfl
      have e3 : d.batchCoord j (0 : Fin 2) = (j 0).val := rfl
      omega
    | 1 =>
      show d.start j s (1 : Fin 2) + d.batchCoord j (1 : Fin 2) + d.offCoord j (1 : Fin 2) = (s _).toNat % 512
      have e1 : d.start j s (1 : Fin 2) = min (s (d.siIdx j ⟨d.startIndexMap.idxOf (1 : Fin 2), List.idxOf_lt_length_iff.2 hm⟩)).toInt.toNat 511 := rfl
      have e2 : d.offCoord j (1 : Fin 2) = 0 := rfl
      have e3 : d.batchCoord j (1 : Fin 2) = 0 := rfl
      have hq := hs (d.siIdx j ⟨d.startIndexMap.idxOf (1 : Fin 2), List.idxOf_lt_length_iff.2 hm⟩)
      rw [(small_facts _ hq).2.2.2] at e1
      omega

/-- A place of the result holds its row's entry at the column that the place reads. -/
theorem out_at (x : FVec F S131072x512 .f32) (k : IVec S131072x256 32) (j : S131072x512.Idx) : out x k j = x (ixX (j 0).val (col k j).toNat) := by
  obtain ⟨q, q0, q1, hg⟩ := gather_at x (start k) (start_lt k) j
  have hq : start k q = col k j := by rw [start_at, q0, q1, ixX_self]
  unfold out
  refine (select_one _ _ _ j (reduce_one _ _ _ _ j (fun i => ?_) rfl)).trans (hg.trans (by rw [hq]))
  obtain ⟨-, f1, f2, -⟩ := small_facts _ (start_lt k i)
  show IntOp.andi (BitVec.ofBool ((0#32).sle (start k i))) (BitVec.ofBool ((start k i).sle 511#32)) = 1#1
  rw [f1, f2]
  rfl

end Cert.ReferenceIdeal.Value

end
-- ==== Proof.Order.lean ====
/-
  The network of a trip sorts each of its two rows: level by level it is the bitonic sort of 256 keys, a pass over the units doing what
  the four last exchanges of a level do.
-/
module

public import proofs.«01_k».proof.Proof.Row
public import Idealize.ShloMosaic.Lib.SortNet.Sorts
public import Idealize.ShloMosaic.Lib.SortNet.HostSort
public import Idealize.ShloMosaic.Lib.SortFacts

@[expose] public section

noncomputable section

namespace Cert.KernelIdeal.Tile

open Idealize.ShloMosaic

/-- Two rearrangements of one family in one order are equal. -/
theorem unique_order {n : ℕ} (le : ℕ → ℕ → Prop) (ha : ∀ a b, le a b → le b a → a = b) {f : Fin n → ℕ} {σ τ : Equiv.Perm (Fin n)}
    (h1 : ∀ i j, i < j → le ((f ∘ σ) i) ((f ∘ σ) j)) (h2 : ∀ i j, i < j → le ((f ∘ τ) i) ((f ∘ τ) j)) : f ∘ σ = f ∘ τ := by
  refine List.ofFn_injective (List.Perm.eq_of_pairwise (le := le) (fun a b _ _ => ha a b) ?_ ?_ ((Equiv.Perm.ofFn_comp_perm σ f).trans (Equiv.Perm.ofFn_comp_perm τ f).symm))
  · rw [List.pairwise_ofFn]; exact fun i j hij => h1 i j hij
  · rw [List.pairwise_ofFn]; exact fun i j hij => h2 i j hij

theorem unique_monotone {n : ℕ} {f : Fin n → ℕ} {σ τ : Equiv.Perm (Fin n)} (h1 : Monotone (f ∘ σ)) (h2 : Monotone (f ∘ τ)) : f ∘ σ = f ∘ τ :=
  unique_order (· ≤ ·) (fun _ _ => Nat.le_antisymm) (fun _ _ h => h1 h.le) (fun _ _ h => h2 h.le)

theorem unique_antitone {n : ℕ} {f : Fin n → ℕ} {σ τ : Equiv.Perm (Fin n)} (h1 : Antitone (f ∘ σ)) (h2 : Antitone (f ∘ τ)) : f ∘ σ = f ∘ τ :=
  unique_order (fun a b => b ≤ a) (fun _ _ h h' => Nat.le_antisymm h' h) (fun _ _ h => h1 h.le) (fun _ _ h => h2 h.le)

/-- The keys of row `h` in the units of a trip. -/
def flat (un : Fin 32 → IVec S16 32) (h : Fin 2) : Fin (2 ^ 8) → ℕ := fun i =>
  (un ⟨16 * h.val + i.val / 16, by have h1 : i.val < 256 := i.isLt; have h2 : h.val < 2 := h.isLt; omega⟩ (ln ⟨i.val % 16, by omega⟩)).toNat

theorem toNat_at (un : Fin 32 → IVec S16 32) {u u' : Fin 32} {l l' : Fin 16} (hu : u.val = u'.val) (hl : l.val = l'.val) : (un u (ln l)).toNat = (un u' (ln l')).toNat := by
  rw [Fin.ext hu, Fin.ext hl]

/-- Position `j` of unit `c` of a row. -/
abbrev at16 (c j : Fin 16) : Fin (2 ^ 8) := SortNet.chunkPos (P := 8) (p := 4) (by omega) c j

theorem at16_val (c j : Fin 16) : (at16 c j).val = 16 * c.val + j.val := by
  show c.val * 2 ^ 4 + j.val = _
  omega

theorem flat_at (un : Fin 32 → IVec S16 32) (h : Fin 2) (c j : Fin 16) (hu : 16 * h.val + c.val < 32) :
    flat un h (at16 c j) = (un ⟨16 * h.val + c.val, hu⟩ (ln j)).toNat := by
  have e := at16_val c j
  have hj : j.val < 16 := j.isLt
  have e1 : (at16 c j).val / 16 = c.val := by omega
  have e2 : (at16 c j).val % 16 = j.val := by omega
  exact toNat_at un (by show 16 * h.val + (at16 c j).val / 16 = 16 * h.val + c.val; rw [e1]) e2

theorem exists_at16 (i : Fin (2 ^ 8)) : ∃ c j : Fin 16, at16 c j = i := by
  have hi : i.val < 256 := i.isLt
  refine ⟨⟨i.val / 16, by omega⟩, ⟨i.val % 16, by omega⟩, Fin.ext ?_⟩
  rw [at16_val]
  show 16 * (i.val / 16) + i.val % 16 = i.val
  omega

/-! ## The exchanges -/

theorem toNat_minui (a b : BitVec 32) : (IntOp.minui a b).toNat = min a.toNat b.toNat := by
  unfold IntOp.minui
  by_cases h : a.ult b = true
  · rw [if_pos h]; rw [BitVec.ult, decide_eq_true_eq] at h; omega
  · rw [if_neg h]; rw [BitVec.ult, decide_eq_true_eq] at h; omega

theorem toNat_maxui (a b : BitVec 32) : (IntOp.maxui a b).toNat = max a.toNat b.toNat := by
  unfold IntOp.maxui
  by_cases h : b.ult a = true
  · rw [if_pos h]; rw [BitVec.ult, decide_eq_true_eq] at h; omega
  · rw [if_neg h]; rw [BitVec.ult, decide_eq_true_eq] at h; omega

/-- The distances of a level that pair whole units. -/
theorem partner_unit : ∀ (s : Fin 4) (i : Fin (2 ^ 8)),
    (SortNet.partner 8 (s.val + 4) i).val % 16 = i.val % 16 ∧ (SortNet.partner 8 (s.val + 4) i).val / 16 = (i.val / 16) ^^^ 2 ^ s.val := by
  decide +kernel

theorem xor_unit : ∀ (s : Fin 4) (h : Fin 2) (c : Fin 16), (16 * h.val + c.val) ^^^ (2 ^ s.val % 16) = 16 * h.val + (c.val ^^^ 2 ^ s.val) := by
  decide +kernel

theorem low_unit : ∀ (s : Fin 4) (h : Fin 2) (i : Fin (2 ^ 8)), ((16 * h.val + i.val / 16) &&& 2 ^ s.val == 0) = decide (i.val &&& 2 ^ (s.val + 4) = 0) := by
  decide +kernel

theorem asc_unit : ∀ (k : Fin 5) (h : Fin 2) (i : Fin (2 ^ 8)), ((16 * h.val + i.val / 16) % 16 &&& 2 ^ k.val == 0) = decide (i.val &&& 2 ^ (k.val + 4) = 0) := by
  decide +kernel

theorem partner_low : ∀ (s : Fin 4) (i : Fin (2 ^ 8)), i.val &&& 2 ^ (s.val + 4) ≠ 0 → (SortNet.partner 8 (s.val + 4) i).val &&& 2 ^ (s.val + 4) = 0 := by
  decide +kernel

theorem partner_asc : ∀ (k : Fin 5) (s : Fin 4) (i : Fin (2 ^ 8)), s.val < k.val →
    decide ((SortNet.partner 8 (s.val + 4) i).val &&& 2 ^ (k.val + 4) = 0) = decide (i.val &&& 2 ^ (k.val + 4) = 0) := by
  decide +kernel

/-- The directions of a level. -/
abbrev dirL (l : ℕ) : Fin (2 ^ 8) → Bool := fun i => (decide (i.val &&& 2 ^ (l + 1) = 0)) == false

/-- One exchange of units is one stage of the network on keys. -/
theorem flat_exch (k : Fin 5) (s : Fin 4) (hsk : s.val < k.val) (un : Fin 32 → IVec S16 32) (h : Fin 2) :
    flat (exch (2 ^ k.val) (2 ^ s.val) un) h = SortNet.Network.apply (SortNet.stage 8 (s.val + 4) (dirL (k.val + 3))) (flat un h) := by
  funext i
  have hs : s.val + 4 < 8 := by have := s.isLt; omega
  have hi : i.val < 256 := i.isLt
  have hh : h.val < 2 := h.isLt
  obtain ⟨p1, p2⟩ := partner_unit s i
  have px := xor_unit s h ⟨i.val / 16, by omega⟩
  have hq : flat un h (SortNet.partner 8 (s.val + 4) i)
      = (un ⟨(16 * h.val + i.val / 16) ^^^ (2 ^ s.val % 16), Nat.xor_lt_two_pow (n := 5) (by omega) (by omega)⟩ (ln ⟨i.val % 16, by omega⟩)).toNat := by
    refine toNat_at un ?_ p1
    show 16 * h.val + (SortNet.partner 8 (s.val + 4) i).val / 16 = (16 * h.val + i.val / 16) ^^^ (2 ^ s.val % 16)
    rw [p2]; exact px.symm
  have hl : flat (exch (2 ^ k.val) (2 ^ s.val) un) h i
      = bif (decide (i.val &&& 2 ^ (s.val + 4) = 0)) == (decide (i.val &&& 2 ^ (k.val + 4) = 0)) then min (flat un h i) (flat un h (SortNet.partner 8 (s.val + 4) i))
        else max (flat un h i) (flat un h (SortNet.partner 8 (s.val + 4) i)) := by
    rw [hq]
    show (exch (2 ^ k.val) (2 ^ s.val) un _ _).toNat = _
    unfold exch
    simp only [low_unit s h i, asc_unit k h i]
    have hp : (⟨16 * h.val + i.val / 16, by omega⟩ : Fin 32).val ^^^ (2 ^ s.val % 16) = (16 * h.val + i.val / 16) ^^^ (2 ^ s.val % 16) := rfl
    cases decide (i.val &&& 2 ^ (s.val + 4) = 0) <;> cases decide (i.val &&& 2 ^ (k.val + 4) = 0)
    · show (IntOp.minui _ _).toNat = min _ _
      rw [toNat_minui, min_comm]; rfl
    · show (IntOp.maxui _ _).toNat = max _ _
      rw [toNat_maxui, max_comm]; rfl
    · show (IntOp.maxui _ _).toNat = max _ _
      rw [toNat_maxui]; rfl
    · show (IntOp.minui _ _).toNat = min _ _
      rw [toNat_minui]; rfl
  rw [hl]
  by_cases h0 : i.val &&& 2 ^ (s.val + 4) = 0
  · have e := (SortNet.apply_stage hs (dirL (k.val + 3)) (flat un h) i h0).1
    rw [e]
    simp only [h0, decide_true]
    show _ = if (decide (i.val &&& 2 ^ (k.val + 4) = 0) == false) = true then _ else _
    cases decide (i.val &&& 2 ^ (k.val + 4) = 0) <;> rfl
  · have hj := partner_low s i h0
    have e := (SortNet.apply_stage hs (dirL (k.val + 3)) (flat un h) (SortNet.partner 8 (s.val + 4) i) hj).2
    rw [SortNet.partner_partner hs] at e
    rw [e]
    have ha := partner_asc k s i hsk
    simp only [h0, decide_false]
    show _ = if (decide ((SortNet.partner 8 (s.val + 4) i).val &&& 2 ^ (k.val + 4) = 0) == false) = true then _ else _
    rw [ha]
    cases decide (i.val &&& 2 ^ (k.val + 4) = 0)
    · show min _ _ = min _ _
      exact min_comm _ _
    · show max _ _ = max _ _
      exact max_comm _ _

/-! ## The passes -/

/-- A network that moves no key out of its unit. -/
def Inside (N : SortNet.Network (2 ^ 8)) : Prop := ∀ (v : Fin (2 ^ 8) → ℕ) (c : Fin 16), ∃ σ : Equiv.Perm (Fin 16),
  (fun j => SortNet.Network.apply N v (at16 c j)) = (fun j => v (at16 c j)) ∘ σ

theorem inside_nil : Inside [] := fun _ _ => ⟨Equiv.refl _, rfl⟩

theorem inside_append {N M : SortNet.Network (2 ^ 8)} (hN : Inside N) (hM : Inside M) : Inside (N ++ M) := by
  intro v c
  obtain ⟨σ, hσ⟩ := hN v c
  obtain ⟨τ, hτ⟩ := hM (SortNet.Network.apply N v) c
  refine ⟨τ.trans σ, ?_⟩
  rw [SortNet.Network.apply_append, hτ, hσ]
  rfl

theorem inside_stage {s : ℕ} (hs : s < 4) (w : Fin (2 ^ 8) → Bool) : Inside (SortNet.stage 8 s w) := by
  intro v c
  obtain ⟨σ, hσ⟩ := SortNet.Network.exists_perm (SortNet.stage 4 s fun j => w (at16 c j)) (fun j => v (at16 c j))
  refine ⟨σ, ?_⟩
  refine Eq.trans (funext fun j => ?_) hσ
  exact SortNet.apply_stage_chunk (P := 8) (p := 4) (by omega) hs w v c j

theorem inside_flatMap {α : Type} (f : α → SortNet.Network (2 ^ 8)) : ∀ l : List α, (∀ a ∈ l, Inside (f a)) → Inside (l.flatMap f)
  | [], _ => inside_nil
  | a :: l, h => by
    rw [List.flatMap_cons]
    exact inside_append (h a List.mem_cons_self) (inside_flatMap f l fun b hb => h b (List.mem_cons_of_mem _ hb))

/-- A pass over the units: unit `u` sorted descending where bit `bit` of its number is set. -/
abbrev passU (bit : BitVec 32) (un : Fin 32 → IVec S16 32) : Fin 32 → IVec S16 32 := fun u => sortU (descB bit u.val) (un u)

theorem flip_false (x : BitVec 32) : x ^^^ flipW false = x := by
  show x ^^^ 0#32 = x
  exact BitVec.xor_zero

theorem flip_true (x : BitVec 32) : (x ^^^ flipW true).toNat = 2 ^ 32 - 1 - x.toNat := by
  show (x ^^^ BitVec.allOnes 32).toNat = _
  rw [BitVec.xor_allOnes, BitVec.toNat_not]

theorem sortU_perm (desc : Bool) (a : IVec S16 32) : ∃ σ : Equiv.Perm (Fin 16), (fun j => (sortU desc a (ln j)).toNat) = (fun j => (a (ln j)).toNat) ∘ σ :=
  ⟨(placeP fun l => a (ln l) ^^^ flipW desc).symm, rfl⟩

theorem sortU_monotone (a : IVec S16 32) : Monotone fun j => (sortU false a (ln j)).toNat := by
  intro p q hpq
  have h := place_mono (fun l => a (ln l) ^^^ flipW false) hpq
  simp only [flip_false] at h
  show (a (ln ((placeP fun l => a (ln l) ^^^ flipW false).symm p))).toNat ≤ (a (ln ((placeP fun l => a (ln l) ^^^ flipW false).symm q))).toNat
  simp only [flip_false]
  exact h

theorem sortU_antitone (a : IVec S16 32) : Antitone fun j => (sortU true a (ln j)).toNat := by
  intro p q hpq
  have h := place_mono (fun l => a (ln l) ^^^ flipW true) hpq
  set σ := placeP fun l => a (ln l) ^^^ flipW true with hσ
  show (a (ln (σ.symm q))).toNat ≤ (a (ln (σ.symm p))).toNat
  simp only [flip_true] at h
  have h1 := (a (ln (σ.symm p))).isLt
  have h2 := (a (ln (σ.symm q))).isLt
  omega

/-- The directions of the passes are those of the levels. -/
theorem dir_pass : ∀ (k : Fin 5) (h : Fin 2) (c : Fin 16), descB (if k.val = 4 then 0#32 else BitVec.ofNat 32 (2 ^ k.val)) (16 * h.val + c.val)
    = ((decide (c.val / 2 ^ k.val % 2 = 0)) == false) := by
  decide +kernel

/-- A unit's positions within a chunk of the level. -/
theorem chunk_pos (k : Fin 5) (c j : Fin 16) : ∃ (d : Fin (2 ^ (8 - (k.val + 4)))) (f : Fin 16 → Fin (2 ^ (k.val + 4))), d.val = c.val / 2 ^ k.val ∧ Monotone f
    ∧ ∀ j, at16 c j = SortNet.chunkPos (by have := k.isLt; omega) d (f j) := by
  have hk : k.val ≤ 4 := by have := k.isLt; omega
  have hc : c.val < 16 := c.isLt
  have e16 : 2 ^ (k.val + 4) = 2 ^ k.val * 16 := by rw [Nat.pow_add]
  have e8 : 2 ^ (8 - (k.val + 4)) * 2 ^ k.val = 16 := by rw [← Nat.pow_add, show 8 - (k.val + 4) + k.val = 4 by omega]
  have hp : 0 < 2 ^ k.val := Nat.two_pow_pos _
  have hm : c.val % 2 ^ k.val < 2 ^ k.val := Nat.mod_lt _ hp
  refine ⟨⟨c.val / 2 ^ k.val, ?_⟩, fun j => ⟨16 * (c.val % 2 ^ k.val) + j.val, ?_⟩, rfl, ?_, fun j => Fin.ext ?_⟩
  · rw [Nat.div_lt_iff_lt_mul hp, e8]; exact hc
  · have hj : j.val < 16 := j.isLt
    rw [e16]; omega
  · intro a b hab
    have hab' : a.val ≤ b.val := hab
    show 16 * (c.val % 2 ^ k.val) + a.val ≤ 16 * (c.val % 2 ^ k.val) + b.val
    omega
  · rw [at16_val]
    show 16 * c.val + j.val = c.val / 2 ^ k.val * 2 ^ (k.val + 4) + (16 * (c.val % 2 ^ k.val) + j.val)
    have hd := Nat.div_add_mod c.val (2 ^ k.val)
    have : c.val / 2 ^ k.val * (2 ^ k.val * 16) = 16 * (2 ^ k.val * (c.val / 2 ^ k.val)) := by rw [← Nat.mul_assoc, Nat.mul_comm (c.val / 2 ^ k.val), Nat.mul_comm]
    rw [e16, this]; omega

/-- A pass does what a network inside the units does that leaves the levels' order. -/
theorem pass_eq (k : Fin 5) (un : Fin 32 → IVec S16 32) (h : Fin 2) (v : Fin (2 ^ 8) → ℕ) (N : SortNet.Network (2 ^ 8)) (hN : Inside N)
    (hv : SortNet.Network.apply N (flat un h) = SortNet.Network.apply (SortNet.levelsNet 8 false (k.val + 4)) v) :
    flat (passU (if k.val = 4 then 0#32 else BitVec.ofNat 32 (2 ^ k.val)) un) h = SortNet.Network.apply (SortNet.levelsNet 8 false (k.val + 4)) v := by
  have hk : k.val + 4 ≤ 8 := by have := k.isLt; omega
  have hh : h.val < 2 := h.isLt
  funext i
  obtain ⟨c, j, rfl⟩ := exists_at16 i
  have hc : c.val < 16 := c.isLt
  have hu : 16 * h.val + c.val < 32 := by omega
  obtain ⟨d, f, hd, hf, hp⟩ := chunk_pos k c j
  have hlev := SortNet.sortNet_levels 8 false v (k.val + 4) hk d
  obtain ⟨σ, hσ⟩ := hN (flat un h) c
  rw [hv] at hσ
  set a : IVec S16 32 := un ⟨16 * h.val + c.val, hu⟩ with ha
  have hfl : (fun j => flat un h (at16 c j)) = fun j => (a (ln j)).toNat := funext fun j => flat_at un h c j hu
  rw [hfl] at hσ
  have hR : (fun j => SortNet.Network.apply (SortNet.levelsNet 8 false (k.val + 4)) v (at16 c j))
      = (fun j => SortNet.Network.apply (SortNet.levelsNet 8 false (k.val + 4)) v (SortNet.chunkPos hk d j)) ∘ f := funext fun j => congrArg _ (hp j)
  have hdir := dir_pass k h c
  rw [← hd] at hdir
  rw [flat_at _ h c j hu]
  show (sortU (descB _ (16 * h.val + c.val)) a (ln j)).toNat = _
  rw [hdir]
  suffices hs : (fun j => (sortU (decide (d.val % 2 = 0) == false) a (ln j)).toNat)
      = fun j => SortNet.Network.apply (SortNet.levelsNet 8 false (k.val + 4)) v (at16 c j) from congrFun hs j
  cases hb : (decide (d.val % 2 = 0) == false)
  · obtain ⟨τ, hτ⟩ := sortU_perm false a
    have m1 := sortU_monotone a
    have m2 : Monotone (fun j => SortNet.Network.apply (SortNet.levelsNet 8 false (k.val + 4)) v (at16 c j)) := by
      rw [hR]; exact (hlev.2 hb).comp hf
    rw [hτ] at m1 ⊢
    rw [hσ] at m2 ⊢
    exact unique_monotone m1 m2
  · obtain ⟨τ, hτ⟩ := sortU_perm true a
    have m1 := sortU_antitone a
    have m2 : Antitone (fun j => SortNet.Network.apply (SortNet.levelsNet 8 false (k.val + 4)) v (at16 c j)) := by
      rw [hR]; exact (hlev.1 hb).comp_monotone hf
    rw [hτ] at m1 ⊢
    rw [hσ] at m2 ⊢
    exact unique_antitone m1 m2

/-! ## The levels -/

theorem inside_levels : Inside (SortNet.levelsNet 8 false 4) := by
  refine inside_flatMap _ _ fun l hl => ?_
  refine inside_flatMap _ _ fun s hs => inside_stage ?_ _
  have h1 := List.mem_range.mp hl
  have h2 := List.mem_range.mp (List.mem_reverse.mp hs)
  omega

/-- The last four distances of a level. -/
abbrev lowNet (l : ℕ) : SortNet.Network (2 ^ 8) := [3, 2, 1, 0].flatMap fun s => SortNet.stage 8 s (dirL l)

theorem inside_low (l : ℕ) : Inside (lowNet l) := by
  refine inside_flatMap _ _ fun s hs => inside_stage ?_ _
  simp only [List.mem_cons, List.not_mem_nil, or_false] at hs
  omega

/-- The exchanges of a level, distance by distance. -/
abbrev highNet (l : ℕ) (L : List ℕ) : SortNet.Network (2 ^ 8) := L.flatMap fun s => SortNet.stage 8 s (dirL l)

theorem flat_stage (k : Fin 5) (un : Fin 32 → IVec S16 32) (h : Fin 2) : ∀ n : ℕ, n ≤ 4 → n ≤ k.val →
    flat (stage (2 ^ k.val) n un) h = SortNet.Network.apply (highNet (k.val + 3) ((List.range n).reverse.map (· + 4))) (flat un h)
  | 0, _, _ => rfl
  | n + 1, hn, hnk => by
    have e : (List.range (n + 1)).reverse.map (· + 4) = (n + 4) :: (List.range n).reverse.map (· + 4) := by
      rw [List.range_succ, List.reverse_append]; rfl
    rw [e]
    show flat (stage (2 ^ k.val) n (exch (2 ^ k.val) (2 ^ n) un)) h = SortNet.Network.apply (highNet (k.val + 3) ((n + 4) :: (List.range n).reverse.map (· + 4))) (flat un h)
    unfold highNet
    rw [List.flatMap_cons, SortNet.Network.apply_append, flat_stage_aux k h n (by omega) (by omega) (flat_stage k (exch (2 ^ k.val) (2 ^ n) un) h n (by omega) (by omega))]
where
  flat_stage_aux (k : Fin 5) (h : Fin 2) (n : ℕ) (hn : n < 4) (hnk : n < k.val) {un : Fin 32 → IVec S16 32} {w : Fin (2 ^ 8) → ℕ}
      (ih : w = SortNet.Network.apply (highNet (k.val + 3) ((List.range n).reverse.map (· + 4))) (flat (exch (2 ^ k.val) (2 ^ n) un) h)) :
      w = SortNet.Network.apply (highNet (k.val + 3) ((List.range n).reverse.map (· + 4))) (SortNet.Network.apply (SortNet.stage 8 (n + 4) (dirL (k.val + 3))) (flat un h)) := by
    rw [ih, flat_exch k ⟨n, hn⟩ hnk un h]

/-- A level: its exchanges of units, then a pass. -/
theorem level_eq (k : Fin 4) (un : Fin 32 → IVec S16 32) (h : Fin 2) (v : Fin (2 ^ 8) → ℕ)
    (hv : flat un h = SortNet.Network.apply (SortNet.levelsNet 8 false (k.val + 4)) v) :
    flat (passU (if k.val + 1 = 4 then 0#32 else BitVec.ofNat 32 (2 ^ (k.val + 1))) (stage (2 ^ (k.val + 1)) (k.val + 1) un)) h
      = SortNet.Network.apply (SortNet.levelsNet 8 false (k.val + 1 + 4)) v := by
  have hk := k.isLt
  refine pass_eq ⟨k.val + 1, by omega⟩ _ h v (lowNet (k.val + 4)) (inside_low _) ?_
  have hs := flat_stage ⟨k.val + 1, by omega⟩ un h (k.val + 1) (by omega) le_rfl
  have hs' : flat (stage (2 ^ (k.val + 1)) (k.val + 1) un) h = SortNet.Network.apply (highNet (k.val + 4) ((List.range (k.val + 1)).reverse.map (· + 4))) (flat un h) := hs
  have hr : ∀ k : Fin 4, (List.range (k.val + 4 + 1)).reverse = (List.range (k.val + 1)).reverse.map (· + 4) ++ [3, 2, 1, 0] := by decide
  have hl : SortNet.levelsNet 8 false (k.val + 1 + 4) = SortNet.levelsNet 8 false (k.val + 4) ++ (highNet (k.val + 4) ((List.range (k.val + 1)).reverse.map (· + 4)) ++ lowNet (k.val + 4)) := by
    rw [show k.val + 1 + 4 = k.val + 4 + 1 by omega, SortNet.levelsNet_succ 8 false (k.val + 4)]
    refine congrArg (SortNet.levelsNet 8 false (k.val + 4) ++ ·) ?_
    unfold SortNet.levelNet
    rw [hr k, List.flatMap_append]
  show SortNet.Network.apply _ _ = SortNet.Network.apply (SortNet.levelsNet 8 false (k.val + 1 + 4)) v
  rw [hl, hs', hv, SortNet.Network.apply_append, SortNet.Network.apply_append]

/-- The network is the bitonic sort of the row's keys. -/
theorem flat_net (un : Fin 32 → IVec S16 32) (h : Fin 2) : flat (net un) h = SortNet.Network.apply (SortNet.sortNet 8 false) (flat un h) := by
  have h0 := pass_eq 0 un h (flat un h) _ inside_levels rfl
  have h1 := level_eq 0 _ h (flat un h) h0
  have h2 := level_eq 1 _ h (flat un h) h1
  have h3 := level_eq 2 _ h (flat un h) h2
  exact level_eq 3 _ h (flat un h) h3

/-- The keys after the network do not fall along a row. -/
theorem net_monotone (un : Fin 32 → IVec S16 32) (h : Fin 2) : Monotone (flat (net un) h) := by
  rw [flat_net]; exact SortNet.sortNet_apply_monotone 8 _

/-- … and are the row's keys, rearranged. -/
theorem net_perm (un : Fin 32 → IVec S16 32) (h : Fin 2) : ∃ σ : Equiv.Perm (Fin (2 ^ 8)), flat (net un) h = flat un h ∘ σ := by
  rw [flat_net]; exact SortNet.Network.exists_perm _ _

end Cert.KernelIdeal.Tile

end
-- ==== Proof.Value.lean ====
/-
  The kernel's result and the reference's are one function of the arguments.
-/
module

public import proofs.«01_k».proof.Defs
public import proofs.«01_k».proof.Proof.RefValue
public import proofs.«01_k».proof.Proof.Order
public import proofs.«01_k».proof.Proof.Frames

@[expose] public section

noncomputable section

namespace Cert.Proof

open Idealize.ShloMosaic Idealize.SL.Sem
open Cert.KernelIdeal.Tile
open Cert.ReferenceIdeal (S131072x512 S131072x256 comparator_i32_d1)

/-- The keys of a row, as the units of its trip hold them. -/
theorem flat_keys (k : IVec S131072x256 32) (R : ℕ) (h : Fin 2) (hh : h.val = R % 32 % 2) :
    flat (keysU (fun r c => k (ixK (32 * (R / 32) + r) c)) (R % 32 / 2)) h = fun i : Fin 256 => (k (ixK R i.val)).toNat := by
  funext i
  have hi : i.val < 256 := i.isLt
  have h2 : h.val < 2 := h.isLt
  show (k (ixK (32 * (R / 32) + (2 * (R % 32 / 2) + (16 * h.val + i.val / 16) / 16)) (16 * ((16 * h.val + i.val / 16) % 16) + i.val % 16))).toNat = _
  rw [show 32 * (R / 32) + (2 * (R % 32 / 2) + (16 * h.val + i.val / 16) / 16) = R by omega, show 16 * ((16 * h.val + i.val / 16) % 16) + i.val % 16 = i.val by omega]

/-- The network leaves a row's keys as the sort does. -/
theorem net_sort (k : IVec S131072x256 32) (R : ℕ) (i : ℕ) (hi : i < 256) :
    net (keysU (fun r c => k (ixK (32 * (R / 32) + r) c)) (R % 32 / 2)) ⟨(16 * (R % 32 % 2) + i / 16) % 32, Nat.mod_lt _ (by decide)⟩ (ln ⟨i % 16, Nat.mod_lt _ (by decide)⟩)
      = Host.sort S131072x256 1 comparator_i32_d1 k (ixK R i) := by
  set un := keysU (fun r c => k (ixK (32 * (R / 32) + r) c)) (R % 32 / 2) with hun
  let h : Fin 2 := ⟨R % 32 % 2, Nat.mod_lt _ (by decide)⟩
  obtain ⟨σ, hσ⟩ := net_perm un h
  obtain ⟨τ, hτ⟩ := Cert.ReferenceIdeal.Value.sort_perm k R
  have hf : flat un h = fun i : Fin 256 => (k (ixK R i.val)).toNat := flat_keys k R h rfl
  have hm : Monotone ((fun i : Fin 256 => (k (ixK R i.val)).toNat) ∘ σ) := by
    have := net_monotone un h
    rw [hσ, hf] at this
    exact this
  have hm' : Monotone ((fun i : Fin 256 => (k (ixK R i.val)).toNat) ∘ τ) := hτ ▸ Cert.ReferenceIdeal.Value.sort_monotone k R
  have e := unique_monotone hm hm'
  rw [← hτ] at e
  have e2 : flat (net un) h = fun i : Fin 256 => (Host.sort S131072x256 1 comparator_i32_d1 k (ixK R i.val)).toNat := by
    rw [hσ, hf]; exact e
  refine BitVec.eq_of_toNat_eq (Eq.trans ?_ (congrFun e2 ⟨i, hi⟩))
  exact toNat_at (net un) (by show (16 * (R % 32 % 2) + i / 16) % 32 = 16 * (R % 32 % 2) + i / 16; omega) rfl

/-- What the kernel leaves at a place is what the reference leaves there. -/
theorem value_eq {F : FTy → Type} [FloatOps F] (x : FVec F S131072x512 .f32) (k : IVec S131072x256 32) (j : S131072x512.Idx) :
    outG (fun R C => x (ixX R C)) (fun R C => k (ixK R C)) (j 0).val (j 1).val = Cert.ReferenceIdeal.Value.out x k j := by
  have h1 : (j 1).val < 512 := (j 1).isLt
  rw [Cert.ReferenceIdeal.Value.out_at]
  have hr : 32 * ((j 0).val / 32) + (j 0).val % 32 = (j 0).val := Nat.div_add_mod _ _
  unfold outG outV
  by_cases h : (j 1).val < 256
  · rw [if_pos h, Cert.ReferenceIdeal.Value.col_lo k j h, BitVec.toNat_ofNat, Nat.mod_eq_of_lt (by omega : (j 1).val < 2 ^ 32)]
    show x (ixX (32 * ((j 0).val / 32) + (j 0).val % 32) (j 1).val) = _
    rw [hr]
  · rw [if_neg h, Cert.ReferenceIdeal.Value.col_hi k j (by omega), Cert.ReferenceIdeal.Value.mask_add, net_sort k (j 0).val ((j 1).val - 256) (by omega)]
    show x (ixX (32 * ((j 0).val / 32) + (j 0).val % 32) _) = _
    rw [hr]

theorem algebraic (hte : TileEq Ideal) : Cert.algebraic_KernelIdeal_ReferenceIdeal (hKernelIdeal := Cert.KernelIdeal.Gen.facts) (hReferenceIdeal := Cert.ReferenceIdeal.Gen.facts) := by
  intro m g m' g' _ hargs
  haveI := nonempty_ideal
  refine ⟨fun c => Gf m c, ?_, ?_⟩
  · exact (θ_run Cert.KernelIdeal.defs _ _).mono (fun _ h c => h.1 c) (run_main (F := Ideal) m g hte)
  · refine (θ_run Cert.ReferenceIdeal.defs _ _).mono (fun r h c => ⟨(h c).1.trans ?_, (h c).2⟩) (Cert.ReferenceIdeal.Value.run (F := Ideal) m' g')
    rw [Cert.ReferenceIdeal.Value.res_eq, (hargs c).1, (hargs c).2]
    exact funext fun j => (value_eq (F := Ideal) _ _ j).symm

end Cert.Proof

end
-- ==== Proof.lean ====
/-
  The proof of `Cert.Claim`.
-/
module

public import proofs.«01_k».proof.Defs
public import proofs.«01_k».proof.Proof.EqC
public import proofs.«01_k».proof.Proof.Seg0
public import proofs.«01_k».proof.Proof.Seg1
public import proofs.«01_k».proof.Proof.Frames
public import proofs.«01_k».proof.Proof.Value

@[expose] public section

noncomputable section

namespace Cert.Proof

open Idealize.ShloMosaic Idealize.SL.Sem Cert.KernelIdeal.Tile

/-- The printed body of every tile is `tileProg`. -/
theorem tileEq {F : FTy → Type} [FloatOps F] : TileEq F := fun i =>
  tile_eq i _ _ _ _ _ _ _ _ _ _ _ _ _ _ _ _ _ _ _ _
    (fun t => pair0_eq i _ _ _ _ _ _ _ _ _ _ _ _ _ _ _ _ _ _ _ _ t)
    (fun t => pair1_eq i _ _ _ _ _ _ _ _ _ _ _ _ _ _ _ _ _ _ _ _ t)

theorem claim : Cert.Claim :=
  ⟨Cert.Kernel.Gen.facts, Cert.KernelIdeal.Gen.facts, Cert.ReferenceIdeal.Gen.facts,
    frame_kernel tileEq, frame_kernelIdeal tileEq, frame_reference, trivial, algebraic tileEq⟩

end Cert.Proof

end
